-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SguPool (m : (ℓ : Loc Cert.SguPool.nD Cert.SguPool.τ Cert.SguPool.sig) → Buf (Elt Bits) ℓ) : Prop :=
  True

def Pre_SguPoolIdeal (m : (ℓ : Loc Cert.SguPoolIdeal.nD Cert.SguPoolIdeal.τ Cert.SguPoolIdeal.sig) → Buf (Elt Ideal) ℓ) : Prop :=
  True

def Pre_SguPoolIdeal_finite_pool [hPre_finite_pool : Cert.Pre_finite_pool.Facts] (m : (ℓ : Loc Cert.SguPoolIdeal.nD Cert.SguPoolIdeal.τ Cert.SguPoolIdeal.sig) → Buf (Elt Ideal) ℓ) : Prop :=
  ∀ c : Dev Cert.SguPoolIdeal.nD,
    (Cert.Pre_finite_pool.fn (F := Ideal) (m ((c.tc : Thread Cert.SguPoolIdeal.nD Cert.SguPoolIdeal.τ).loc Cert.SguPoolIdeal.main_arg0)) (m ((c.tc : Thread Cert.SguPoolIdeal.nD Cert.SguPoolIdeal.τ).loc Cert.SguPoolIdeal.main_arg1)) (m ((c.tc : Thread Cert.SguPoolIdeal.nD Cert.SguPoolIdeal.τ).loc Cert.SguPoolIdeal.main_arg2)) (m ((c.tc : Thread Cert.SguPoolIdeal.nD Cert.SguPoolIdeal.τ).loc Cert.SguPoolIdeal.main_arg3)) (m ((c.tc : Thread Cert.SguPoolIdeal.nD Cert.SguPoolIdeal.τ).loc Cert.SguPoolIdeal.main_arg4)) (m ((c.tc : Thread Cert.SguPoolIdeal.nD Cert.SguPoolIdeal.τ).loc Cert.SguPoolIdeal.main_arg5)) (m ((c.tc : Thread Cert.SguPoolIdeal.nD Cert.SguPoolIdeal.τ).loc Cert.SguPoolIdeal.main_arg6)) (m ((c.tc : Thread Cert.SguPoolIdeal.nD Cert.SguPoolIdeal.τ).loc Cert.SguPoolIdeal.main_arg7))) = (fun _ => 1#1)

def Pre_SguPoolRefIdeal (m : (ℓ : Loc Cert.SguPoolRefIdeal.nD Cert.SguPoolRefIdeal.τ Cert.SguPoolRefIdeal.sig) → Buf (Elt Ideal) ℓ) : Prop :=
  True

def Pre_SguPoolRefIdeal_finite_pool [hPre_finite_pool : Cert.Pre_finite_pool.Facts] (m : (ℓ : Loc Cert.SguPoolRefIdeal.nD Cert.SguPoolRefIdeal.τ Cert.SguPoolRefIdeal.sig) → Buf (Elt Ideal) ℓ) : Prop :=
  ∀ c : Dev Cert.SguPoolRefIdeal.nD,
    (Cert.Pre_finite_pool.fn (F := Ideal) (m ((c.tc : Thread Cert.SguPoolRefIdeal.nD Cert.SguPoolRefIdeal.τ).loc Cert.SguPoolRefIdeal.main_arg0)) (m ((c.tc : Thread Cert.SguPoolRefIdeal.nD Cert.SguPoolRefIdeal.τ).loc Cert.SguPoolRefIdeal.main_arg1)) (m ((c.tc : Thread Cert.SguPoolRefIdeal.nD Cert.SguPoolRefIdeal.τ).loc Cert.SguPoolRefIdeal.main_arg2)) (m ((c.tc : Thread Cert.SguPoolRefIdeal.nD Cert.SguPoolRefIdeal.τ).loc Cert.SguPoolRefIdeal.main_arg3)) (m ((c.tc : Thread Cert.SguPoolRefIdeal.nD Cert.SguPoolRefIdeal.τ).loc Cert.SguPoolRefIdeal.main_arg4)) (m ((c.tc : Thread Cert.SguPoolRefIdeal.nD Cert.SguPoolRefIdeal.τ).loc Cert.SguPoolRefIdeal.main_arg5)) (m ((c.tc : Thread Cert.SguPoolRefIdeal.nD Cert.SguPoolRefIdeal.τ).loc Cert.SguPoolRefIdeal.main_arg6)) (m ((c.tc : Thread Cert.SguPoolRefIdeal.nD Cert.SguPoolRefIdeal.τ).loc Cert.SguPoolRefIdeal.main_arg7))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_SguPool [hSguPool : Cert.SguPool.Facts] : Prop :=
  ∀ (m : (ℓ : Loc Cert.SguPool.nD Cert.SguPool.τ Cert.SguPool.sig) → Buf (Elt Bits) ℓ) (g : Dev Cert.SguPool.nD → PrngReg), Pre_SguPool m →
    θ_run (Cert.SguPool.defs (F := Bits)) (onTc (τ := Cert.SguPool.τ) (Cert.SguPool.main (F := Bits))) ⟨m, fun _ => 0, g⟩ (fun r => (∀ c : Dev Cert.SguPool.nD,
      r.2.mem ((c.tc : Thread Cert.SguPool.nD Cert.SguPool.τ).loc Cert.SguPool.main_arg0) = m ((c.tc : Thread Cert.SguPool.nD Cert.SguPool.τ).loc Cert.SguPool.main_arg0)
      ∧ r.2.mem ((c.tc : Thread Cert.SguPool.nD Cert.SguPool.τ).loc Cert.SguPool.main_arg1) = m ((c.tc : Thread Cert.SguPool.nD Cert.SguPool.τ).loc Cert.SguPool.main_arg1)
      ∧ r.2.mem ((c.tc : Thread Cert.SguPool.nD Cert.SguPool.τ).loc Cert.SguPool.main_arg2) = m ((c.tc : Thread Cert.SguPool.nD Cert.SguPool.τ).loc Cert.SguPool.main_arg2)
      ∧ r.2.mem ((c.tc : Thread Cert.SguPool.nD Cert.SguPool.τ).loc Cert.SguPool.main_arg3) = m ((c.tc : Thread Cert.SguPool.nD Cert.SguPool.τ).loc Cert.SguPool.main_arg3)
      ∧ r.2.mem ((c.tc : Thread Cert.SguPool.nD Cert.SguPool.τ).loc Cert.SguPool.main_arg4) = m ((c.tc : Thread Cert.SguPool.nD Cert.SguPool.τ).loc Cert.SguPool.main_arg4)
      ∧ r.2.mem ((c.tc : Thread Cert.SguPool.nD Cert.SguPool.τ).loc Cert.SguPool.main_arg5) = m ((c.tc : Thread Cert.SguPool.nD Cert.SguPool.τ).loc Cert.SguPool.main_arg5)
      ∧ r.2.mem ((c.tc : Thread Cert.SguPool.nD Cert.SguPool.τ).loc Cert.SguPool.main_arg6) = m ((c.tc : Thread Cert.SguPool.nD Cert.SguPool.τ).loc Cert.SguPool.main_arg6)
      ∧ r.2.mem ((c.tc : Thread Cert.SguPool.nD Cert.SguPool.τ).loc Cert.SguPool.main_arg7) = m ((c.tc : Thread Cert.SguPool.nD Cert.SguPool.τ).loc Cert.SguPool.main_arg7))
      ∧ r.2.sem = fun _ => 0)

def quiescent_SguPoolIdeal [hSguPoolIdeal : Cert.SguPoolIdeal.Facts] : Prop :=
  ∀ (m : (ℓ : Loc Cert.SguPoolIdeal.nD Cert.SguPoolIdeal.τ Cert.SguPoolIdeal.sig) → Buf (Elt Ideal) ℓ) (g : Dev Cert.SguPoolIdeal.nD → PrngReg), Pre_SguPoolIdeal m →
    θ_run (Cert.SguPoolIdeal.defs (F := Ideal)) (onTc (τ := Cert.SguPoolIdeal.τ) (Cert.SguPoolIdeal.main (F := Ideal))) ⟨m, fun _ => 0, g⟩ (fun r => (∀ c : Dev Cert.SguPoolIdeal.nD,
      r.2.mem ((c.tc : Thread Cert.SguPoolIdeal.nD Cert.SguPoolIdeal.τ).loc Cert.SguPoolIdeal.main_arg0) = m ((c.tc : Thread Cert.SguPoolIdeal.nD Cert.SguPoolIdeal.τ).loc Cert.SguPoolIdeal.main_arg0)
      ∧ r.2.mem ((c.tc : Thread Cert.SguPoolIdeal.nD Cert.SguPoolIdeal.τ).loc Cert.SguPoolIdeal.main_arg1) = m ((c.tc : Thread Cert.SguPoolIdeal.nD Cert.SguPoolIdeal.τ).loc Cert.SguPoolIdeal.main_arg1)
      ∧ r.2.mem ((c.tc : Thread Cert.SguPoolIdeal.nD Cert.SguPoolIdeal.τ).loc Cert.SguPoolIdeal.main_arg2) = m ((c.tc : Thread Cert.SguPoolIdeal.nD Cert.SguPoolIdeal.τ).loc Cert.SguPoolIdeal.main_arg2)
      ∧ r.2.mem ((c.tc : Thread Cert.SguPoolIdeal.nD Cert.SguPoolIdeal.τ).loc Cert.SguPoolIdeal.main_arg3) = m ((c.tc : Thread Cert.SguPoolIdeal.nD Cert.SguPoolIdeal.τ).loc Cert.SguPoolIdeal.main_arg3)
      ∧ r.2.mem ((c.tc : Thread Cert.SguPoolIdeal.nD Cert.SguPoolIdeal.τ).loc Cert.SguPoolIdeal.main_arg4) = m ((c.tc : Thread Cert.SguPoolIdeal.nD Cert.SguPoolIdeal.τ).loc Cert.SguPoolIdeal.main_arg4)
      ∧ r.2.mem ((c.tc : Thread Cert.SguPoolIdeal.nD Cert.SguPoolIdeal.τ).loc Cert.SguPoolIdeal.main_arg5) = m ((c.tc : Thread Cert.SguPoolIdeal.nD Cert.SguPoolIdeal.τ).loc Cert.SguPoolIdeal.main_arg5)
      ∧ r.2.mem ((c.tc : Thread Cert.SguPoolIdeal.nD Cert.SguPoolIdeal.τ).loc Cert.SguPoolIdeal.main_arg6) = m ((c.tc : Thread Cert.SguPoolIdeal.nD Cert.SguPoolIdeal.τ).loc Cert.SguPoolIdeal.main_arg6)
      ∧ r.2.mem ((c.tc : Thread Cert.SguPoolIdeal.nD Cert.SguPoolIdeal.τ).loc Cert.SguPoolIdeal.main_arg7) = m ((c.tc : Thread Cert.SguPoolIdeal.nD Cert.SguPoolIdeal.τ).loc Cert.SguPoolIdeal.main_arg7))
      ∧ r.2.sem = fun _ => 0)

def quiescent_SguPoolIdeal_pre_finite_pool [hSguPoolIdeal : Cert.SguPoolIdeal.Facts] [hPre_finite_pool : Cert.Pre_finite_pool.Facts] : Prop :=
  ∀ (m : (ℓ : Loc Cert.SguPoolIdeal.nD Cert.SguPoolIdeal.τ Cert.SguPoolIdeal.sig) → Buf (Elt Ideal) ℓ) (g : Dev Cert.SguPoolIdeal.nD → PrngReg), Pre_SguPoolIdeal_finite_pool m →
    θ_run (Cert.SguPoolIdeal.defs (F := Ideal)) (onTc (τ := Cert.SguPoolIdeal.τ) (Cert.SguPoolIdeal.main (F := Ideal))) ⟨m, fun _ => 0, g⟩ (fun r => (∀ c : Dev Cert.SguPoolIdeal.nD,
      r.2.mem ((c.tc : Thread Cert.SguPoolIdeal.nD Cert.SguPoolIdeal.τ).loc Cert.SguPoolIdeal.main_arg0) = m ((c.tc : Thread Cert.SguPoolIdeal.nD Cert.SguPoolIdeal.τ).loc Cert.SguPoolIdeal.main_arg0)
      ∧ r.2.mem ((c.tc : Thread Cert.SguPoolIdeal.nD Cert.SguPoolIdeal.τ).loc Cert.SguPoolIdeal.main_arg1) = m ((c.tc : Thread Cert.SguPoolIdeal.nD Cert.SguPoolIdeal.τ).loc Cert.SguPoolIdeal.main_arg1)
      ∧ r.2.mem ((c.tc : Thread Cert.SguPoolIdeal.nD Cert.SguPoolIdeal.τ).loc Cert.SguPoolIdeal.main_arg2) = m ((c.tc : Thread Cert.SguPoolIdeal.nD Cert.SguPoolIdeal.τ).loc Cert.SguPoolIdeal.main_arg2)
      ∧ r.2.mem ((c.tc : Thread Cert.SguPoolIdeal.nD Cert.SguPoolIdeal.τ).loc Cert.SguPoolIdeal.main_arg3) = m ((c.tc : Thread Cert.SguPoolIdeal.nD Cert.SguPoolIdeal.τ).loc Cert.SguPoolIdeal.main_arg3)
      ∧ r.2.mem ((c.tc : Thread Cert.SguPoolIdeal.nD Cert.SguPoolIdeal.τ).loc Cert.SguPoolIdeal.main_arg4) = m ((c.tc : Thread Cert.SguPoolIdeal.nD Cert.SguPoolIdeal.τ).loc Cert.SguPoolIdeal.main_arg4)
      ∧ r.2.mem ((c.tc : Thread Cert.SguPoolIdeal.nD Cert.SguPoolIdeal.τ).loc Cert.SguPoolIdeal.main_arg5) = m ((c.tc : Thread Cert.SguPoolIdeal.nD Cert.SguPoolIdeal.τ).loc Cert.SguPoolIdeal.main_arg5)
      ∧ r.2.mem ((c.tc : Thread Cert.SguPoolIdeal.nD Cert.SguPoolIdeal.τ).loc Cert.SguPoolIdeal.main_arg6) = m ((c.tc : Thread Cert.SguPoolIdeal.nD Cert.SguPoolIdeal.τ).loc Cert.SguPoolIdeal.main_arg6)
      ∧ r.2.mem ((c.tc : Thread Cert.SguPoolIdeal.nD Cert.SguPoolIdeal.τ).loc Cert.SguPoolIdeal.main_arg7) = m ((c.tc : Thread Cert.SguPoolIdeal.nD Cert.SguPoolIdeal.τ).loc Cert.SguPoolIdeal.main_arg7))
      ∧ r.2.sem = fun _ => 0)

def quiescent_SguPoolRefIdeal [hSguPoolRefIdeal : Cert.SguPoolRefIdeal.Facts] : Prop :=
  ∀ (m : (ℓ : Loc Cert.SguPoolRefIdeal.nD Cert.SguPoolRefIdeal.τ Cert.SguPoolRefIdeal.sig) → Buf (Elt Ideal) ℓ) (g : Dev Cert.SguPoolRefIdeal.nD → PrngReg), Pre_SguPoolRefIdeal m →
    θ_run (Cert.SguPoolRefIdeal.defs (F := Ideal)) (onTc (τ := Cert.SguPoolRefIdeal.τ) (Cert.SguPoolRefIdeal.main (F := Ideal))) ⟨m, fun _ => 0, g⟩ (fun r => (∀ c : Dev Cert.SguPoolRefIdeal.nD,
      r.2.mem ((c.tc : Thread Cert.SguPoolRefIdeal.nD Cert.SguPoolRefIdeal.τ).loc Cert.SguPoolRefIdeal.main_arg0) = m ((c.tc : Thread Cert.SguPoolRefIdeal.nD Cert.SguPoolRefIdeal.τ).loc Cert.SguPoolRefIdeal.main_arg0)
      ∧ r.2.mem ((c.tc : Thread Cert.SguPoolRefIdeal.nD Cert.SguPoolRefIdeal.τ).loc Cert.SguPoolRefIdeal.main_arg1) = m ((c.tc : Thread Cert.SguPoolRefIdeal.nD Cert.SguPoolRefIdeal.τ).loc Cert.SguPoolRefIdeal.main_arg1)
      ∧ r.2.mem ((c.tc : Thread Cert.SguPoolRefIdeal.nD Cert.SguPoolRefIdeal.τ).loc Cert.SguPoolRefIdeal.main_arg2) = m ((c.tc : Thread Cert.SguPoolRefIdeal.nD Cert.SguPoolRefIdeal.τ).loc Cert.SguPoolRefIdeal.main_arg2)
      ∧ r.2.mem ((c.tc : Thread Cert.SguPoolRefIdeal.nD Cert.SguPoolRefIdeal.τ).loc Cert.SguPoolRefIdeal.main_arg3) = m ((c.tc : Thread Cert.SguPoolRefIdeal.nD Cert.SguPoolRefIdeal.τ).loc Cert.SguPoolRefIdeal.main_arg3)
      ∧ r.2.mem ((c.tc : Thread Cert.SguPoolRefIdeal.nD Cert.SguPoolRefIdeal.τ).loc Cert.SguPoolRefIdeal.main_arg4) = m ((c.tc : Thread Cert.SguPoolRefIdeal.nD Cert.SguPoolRefIdeal.τ).loc Cert.SguPoolRefIdeal.main_arg4)
      ∧ r.2.mem ((c.tc : Thread Cert.SguPoolRefIdeal.nD Cert.SguPoolRefIdeal.τ).loc Cert.SguPoolRefIdeal.main_arg5) = m ((c.tc : Thread Cert.SguPoolRefIdeal.nD Cert.SguPoolRefIdeal.τ).loc Cert.SguPoolRefIdeal.main_arg5)
      ∧ r.2.mem ((c.tc : Thread Cert.SguPoolRefIdeal.nD Cert.SguPoolRefIdeal.τ).loc Cert.SguPoolRefIdeal.main_arg6) = m ((c.tc : Thread Cert.SguPoolRefIdeal.nD Cert.SguPoolRefIdeal.τ).loc Cert.SguPoolRefIdeal.main_arg6)
      ∧ r.2.mem ((c.tc : Thread Cert.SguPoolRefIdeal.nD Cert.SguPoolRefIdeal.τ).loc Cert.SguPoolRefIdeal.main_arg7) = m ((c.tc : Thread Cert.SguPoolRefIdeal.nD Cert.SguPoolRefIdeal.τ).loc Cert.SguPoolRefIdeal.main_arg7))
      ∧ r.2.sem = fun _ => 0)

def quiescent_SguPoolRefIdeal_pre_finite_pool [hSguPoolRefIdeal : Cert.SguPoolRefIdeal.Facts] [hPre_finite_pool : Cert.Pre_finite_pool.Facts] : Prop :=
  ∀ (m : (ℓ : Loc Cert.SguPoolRefIdeal.nD Cert.SguPoolRefIdeal.τ Cert.SguPoolRefIdeal.sig) → Buf (Elt Ideal) ℓ) (g : Dev Cert.SguPoolRefIdeal.nD → PrngReg), Pre_SguPoolRefIdeal_finite_pool m →
    θ_run (Cert.SguPoolRefIdeal.defs (F := Ideal)) (onTc (τ := Cert.SguPoolRefIdeal.τ) (Cert.SguPoolRefIdeal.main (F := Ideal))) ⟨m, fun _ => 0, g⟩ (fun r => (∀ c : Dev Cert.SguPoolRefIdeal.nD,
      r.2.mem ((c.tc : Thread Cert.SguPoolRefIdeal.nD Cert.SguPoolRefIdeal.τ).loc Cert.SguPoolRefIdeal.main_arg0) = m ((c.tc : Thread Cert.SguPoolRefIdeal.nD Cert.SguPoolRefIdeal.τ).loc Cert.SguPoolRefIdeal.main_arg0)
      ∧ r.2.mem ((c.tc : Thread Cert.SguPoolRefIdeal.nD Cert.SguPoolRefIdeal.τ).loc Cert.SguPoolRefIdeal.main_arg1) = m ((c.tc : Thread Cert.SguPoolRefIdeal.nD Cert.SguPoolRefIdeal.τ).loc Cert.SguPoolRefIdeal.main_arg1)
      ∧ r.2.mem ((c.tc : Thread Cert.SguPoolRefIdeal.nD Cert.SguPoolRefIdeal.τ).loc Cert.SguPoolRefIdeal.main_arg2) = m ((c.tc : Thread Cert.SguPoolRefIdeal.nD Cert.SguPoolRefIdeal.τ).loc Cert.SguPoolRefIdeal.main_arg2)
      ∧ r.2.mem ((c.tc : Thread Cert.SguPoolRefIdeal.nD Cert.SguPoolRefIdeal.τ).loc Cert.SguPoolRefIdeal.main_arg3) = m ((c.tc : Thread Cert.SguPoolRefIdeal.nD Cert.SguPoolRefIdeal.τ).loc Cert.SguPoolRefIdeal.main_arg3)
      ∧ r.2.mem ((c.tc : Thread Cert.SguPoolRefIdeal.nD Cert.SguPoolRefIdeal.τ).loc Cert.SguPoolRefIdeal.main_arg4) = m ((c.tc : Thread Cert.SguPoolRefIdeal.nD Cert.SguPoolRefIdeal.τ).loc Cert.SguPoolRefIdeal.main_arg4)
      ∧ r.2.mem ((c.tc : Thread Cert.SguPoolRefIdeal.nD Cert.SguPoolRefIdeal.τ).loc Cert.SguPoolRefIdeal.main_arg5) = m ((c.tc : Thread Cert.SguPoolRefIdeal.nD Cert.SguPoolRefIdeal.τ).loc Cert.SguPoolRefIdeal.main_arg5)
      ∧ r.2.mem ((c.tc : Thread Cert.SguPoolRefIdeal.nD Cert.SguPoolRefIdeal.τ).loc Cert.SguPoolRefIdeal.main_arg6) = m ((c.tc : Thread Cert.SguPoolRefIdeal.nD Cert.SguPoolRefIdeal.τ).loc Cert.SguPoolRefIdeal.main_arg6)
      ∧ r.2.mem ((c.tc : Thread Cert.SguPoolRefIdeal.nD Cert.SguPoolRefIdeal.τ).loc Cert.SguPoolRefIdeal.main_arg7) = m ((c.tc : Thread Cert.SguPoolRefIdeal.nD Cert.SguPoolRefIdeal.τ).loc Cert.SguPoolRefIdeal.main_arg7))
      ∧ r.2.sem = fun _ => 0)

def preserves_Attn_AttnIdeal : Prop :=
  IdealRules.named_const.Statement Cert.AttnIdeal.κ "log_zero" .f32 0xC2D00000#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v29) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v10)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v10) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v34) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v19) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_SguPool_SguPoolIdeal : Prop :=
  True

def algebraic_SguPoolIdeal_SguPoolRefIdeal_pre_finite_pool [hSguPoolIdeal : Cert.SguPoolIdeal.Facts] [hSguPoolRefIdeal : Cert.SguPoolRefIdeal.Facts] [hPre_finite_pool : Cert.Pre_finite_pool.Facts] : Prop :=
  ∀ (m : (ℓ : Loc Cert.SguPoolIdeal.nD Cert.SguPoolIdeal.τ Cert.SguPoolIdeal.sig) → Buf (Elt Ideal) ℓ) (g : Dev Cert.SguPoolIdeal.nD → PrngReg)
    (m' : (ℓ : Loc Cert.SguPoolRefIdeal.nD Cert.SguPoolRefIdeal.τ Cert.SguPoolRefIdeal.sig) → Buf (Elt Ideal) ℓ) (g' : Dev Cert.SguPoolRefIdeal.nD → PrngReg), Pre_SguPoolIdeal_finite_pool m →
    (∀ c : Dev Cert.SguPoolIdeal.nD,
      m' ((c.tc : Thread Cert.SguPoolRefIdeal.nD Cert.SguPoolRefIdeal.τ).loc Cert.SguPoolRefIdeal.main_arg0) = m ((c.tc : Thread Cert.SguPoolIdeal.nD Cert.SguPoolIdeal.τ).loc Cert.SguPoolIdeal.main_arg0)
      ∧ m' ((c.tc : Thread Cert.SguPoolRefIdeal.nD Cert.SguPoolRefIdeal.τ).loc Cert.SguPoolRefIdeal.main_arg1) = m ((c.tc : Thread Cert.SguPoolIdeal.nD Cert.SguPoolIdeal.τ).loc Cert.SguPoolIdeal.main_arg1)
      ∧ m' ((c.tc : Thread Cert.SguPoolRefIdeal.nD Cert.SguPoolRefIdeal.τ).loc Cert.SguPoolRefIdeal.main_arg2) = m ((c.tc : Thread Cert.SguPoolIdeal.nD Cert.SguPoolIdeal.τ).loc Cert.SguPoolIdeal.main_arg2)
      ∧ m' ((c.tc : Thread Cert.SguPoolRefIdeal.nD Cert.SguPoolRefIdeal.τ).loc Cert.SguPoolRefIdeal.main_arg3) = m ((c.tc : Thread Cert.SguPoolIdeal.nD Cert.SguPoolIdeal.τ).loc Cert.SguPoolIdeal.main_arg3)
      ∧ m' ((c.tc : Thread Cert.SguPoolRefIdeal.nD Cert.SguPoolRefIdeal.τ).loc Cert.SguPoolRefIdeal.main_arg4) = m ((c.tc : Thread Cert.SguPoolIdeal.nD Cert.SguPoolIdeal.τ).loc Cert.SguPoolIdeal.main_arg4)
      ∧ m' ((c.tc : Thread Cert.SguPoolRefIdeal.nD Cert.SguPoolRefIdeal.τ).loc Cert.SguPoolRefIdeal.main_arg5) = m ((c.tc : Thread Cert.SguPoolIdeal.nD Cert.SguPoolIdeal.τ).loc Cert.SguPoolIdeal.main_arg5)
      ∧ m' ((c.tc : Thread Cert.SguPoolRefIdeal.nD Cert.SguPoolRefIdeal.τ).loc Cert.SguPoolRefIdeal.main_arg6) = m ((c.tc : Thread Cert.SguPoolIdeal.nD Cert.SguPoolIdeal.τ).loc Cert.SguPoolIdeal.main_arg6)
      ∧ m' ((c.tc : Thread Cert.SguPoolRefIdeal.nD Cert.SguPoolRefIdeal.τ).loc Cert.SguPoolRefIdeal.main_arg7) = m ((c.tc : Thread Cert.SguPoolIdeal.nD Cert.SguPoolIdeal.τ).loc Cert.SguPoolIdeal.main_arg7)) →
    ∃ (v0 : (c : Dev Cert.SguPoolIdeal.nD) → Buf (Elt Ideal) ((c.tc : Thread Cert.SguPoolIdeal.nD Cert.SguPoolIdeal.τ).loc Cert.SguPoolIdeal.main_v68)),
      θ_run (Cert.SguPoolIdeal.defs (F := Ideal)) (onTc (τ := Cert.SguPoolIdeal.τ) (Cert.SguPoolIdeal.main (F := Ideal))) ⟨m, fun _ => 0, g⟩ (fun r => ∀ c : Dev Cert.SguPoolIdeal.nD,
          r.2.mem ((c.tc : Thread Cert.SguPoolIdeal.nD Cert.SguPoolIdeal.τ).loc Cert.SguPoolIdeal.main_v68) = v0 c
          ∧ r.2.mem ((c.tc : Thread Cert.SguPoolIdeal.nD Cert.SguPoolIdeal.τ).loc Cert.SguPoolIdeal.main_arg0) = m ((c.tc : Thread Cert.SguPoolIdeal.nD Cert.SguPoolIdeal.τ).loc Cert.SguPoolIdeal.main_arg0)
          ∧ r.2.mem ((c.tc : Thread Cert.SguPoolIdeal.nD Cert.SguPoolIdeal.τ).loc Cert.SguPoolIdeal.main_arg1) = m ((c.tc : Thread Cert.SguPoolIdeal.nD Cert.SguPoolIdeal.τ).loc Cert.SguPoolIdeal.main_arg1)
          ∧ r.2.mem ((c.tc : Thread Cert.SguPoolIdeal.nD Cert.SguPoolIdeal.τ).loc Cert.SguPoolIdeal.main_arg2) = m ((c.tc : Thread Cert.SguPoolIdeal.nD Cert.SguPoolIdeal.τ).loc Cert.SguPoolIdeal.main_arg2)
          ∧ r.2.mem ((c.tc : Thread Cert.SguPoolIdeal.nD Cert.SguPoolIdeal.τ).loc Cert.SguPoolIdeal.main_arg3) = m ((c.tc : Thread Cert.SguPoolIdeal.nD Cert.SguPoolIdeal.τ).loc Cert.SguPoolIdeal.main_arg3)
          ∧ r.2.mem ((c.tc : Thread Cert.SguPoolIdeal.nD Cert.SguPoolIdeal.τ).loc Cert.SguPoolIdeal.main_arg4) = m ((c.tc : Thread Cert.SguPoolIdeal.nD Cert.SguPoolIdeal.τ).loc Cert.SguPoolIdeal.main_arg4)
          ∧ r.2.mem ((c.tc : Thread Cert.SguPoolIdeal.nD Cert.SguPoolIdeal.τ).loc Cert.SguPoolIdeal.main_arg5) = m ((c.tc : Thread Cert.SguPoolIdeal.nD Cert.SguPoolIdeal.τ).loc Cert.SguPoolIdeal.main_arg5)
          ∧ r.2.mem ((c.tc : Thread Cert.SguPoolIdeal.nD Cert.SguPoolIdeal.τ).loc Cert.SguPoolIdeal.main_arg6) = m ((c.tc : Thread Cert.SguPoolIdeal.nD Cert.SguPoolIdeal.τ).loc Cert.SguPoolIdeal.main_arg6)
          ∧ r.2.mem ((c.tc : Thread Cert.SguPoolIdeal.nD Cert.SguPoolIdeal.τ).loc Cert.SguPoolIdeal.main_arg7) = m ((c.tc : Thread Cert.SguPoolIdeal.nD Cert.SguPoolIdeal.τ).loc Cert.SguPoolIdeal.main_arg7))
      ∧ θ_run (Cert.SguPoolRefIdeal.defs (F := Ideal)) (onTc (τ := Cert.SguPoolRefIdeal.τ) (Cert.SguPoolRefIdeal.main (F := Ideal))) ⟨m', fun _ => 0, g'⟩ (fun r => ∀ c : Dev Cert.SguPoolRefIdeal.nD,
          r.2.mem ((c.tc : Thread Cert.SguPoolRefIdeal.nD Cert.SguPoolRefIdeal.τ).loc Cert.SguPoolRefIdeal.main_v152) = v0 c
          ∧ r.2.mem ((c.tc : Thread Cert.SguPoolRefIdeal.nD Cert.SguPoolRefIdeal.τ).loc Cert.SguPoolRefIdeal.main_arg0) = m' ((c.tc : Thread Cert.SguPoolRefIdeal.nD Cert.SguPoolRefIdeal.τ).loc Cert.SguPoolRefIdeal.main_arg0)
          ∧ r.2.mem ((c.tc : Thread Cert.SguPoolRefIdeal.nD Cert.SguPoolRefIdeal.τ).loc Cert.SguPoolRefIdeal.main_arg1) = m' ((c.tc : Thread Cert.SguPoolRefIdeal.nD Cert.SguPoolRefIdeal.τ).loc Cert.SguPoolRefIdeal.main_arg1)
          ∧ r.2.mem ((c.tc : Thread Cert.SguPoolRefIdeal.nD Cert.SguPoolRefIdeal.τ).loc Cert.SguPoolRefIdeal.main_arg2) = m' ((c.tc : Thread Cert.SguPoolRefIdeal.nD Cert.SguPoolRefIdeal.τ).loc Cert.SguPoolRefIdeal.main_arg2)
          ∧ r.2.mem ((c.tc : Thread Cert.SguPoolRefIdeal.nD Cert.SguPoolRefIdeal.τ).loc Cert.SguPoolRefIdeal.main_arg3) = m' ((c.tc : Thread Cert.SguPoolRefIdeal.nD Cert.SguPoolRefIdeal.τ).loc Cert.SguPoolRefIdeal.main_arg3)
          ∧ r.2.mem ((c.tc : Thread Cert.SguPoolRefIdeal.nD Cert.SguPoolRefIdeal.τ).loc Cert.SguPoolRefIdeal.main_arg4) = m' ((c.tc : Thread Cert.SguPoolRefIdeal.nD Cert.SguPoolRefIdeal.τ).loc Cert.SguPoolRefIdeal.main_arg4)
          ∧ r.2.mem ((c.tc : Thread Cert.SguPoolRefIdeal.nD Cert.SguPoolRefIdeal.τ).loc Cert.SguPoolRefIdeal.main_arg5) = m' ((c.tc : Thread Cert.SguPoolRefIdeal.nD Cert.SguPoolRefIdeal.τ).loc Cert.SguPoolRefIdeal.main_arg5)
          ∧ r.2.mem ((c.tc : Thread Cert.SguPoolRefIdeal.nD Cert.SguPoolRefIdeal.τ).loc Cert.SguPoolRefIdeal.main_arg6) = m' ((c.tc : Thread Cert.SguPoolRefIdeal.nD Cert.SguPoolRefIdeal.τ).loc Cert.SguPoolRefIdeal.main_arg6)
          ∧ r.2.mem ((c.tc : Thread Cert.SguPoolRefIdeal.nD Cert.SguPoolRefIdeal.τ).loc Cert.SguPoolRefIdeal.main_arg7) = m' ((c.tc : Thread Cert.SguPoolRefIdeal.nD Cert.SguPoolRefIdeal.τ).loc Cert.SguPoolRefIdeal.main_arg7))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hSguPool : Cert.SguPool.Facts) (hSguPoolIdeal : Cert.SguPoolIdeal.Facts) (hSguPoolRefIdeal : Cert.SguPoolRefIdeal.Facts) (hPre_finite_pool : Cert.Pre_finite_pool.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SguPool (hSguPool := hSguPool)
    ∧ quiescent_SguPoolIdeal (hSguPoolIdeal := hSguPoolIdeal)
    ∧ quiescent_SguPoolIdeal_pre_finite_pool (hSguPoolIdeal := hSguPoolIdeal) (hPre_finite_pool := hPre_finite_pool)
    ∧ quiescent_SguPoolRefIdeal (hSguPoolRefIdeal := hSguPoolRefIdeal)
    ∧ quiescent_SguPoolRefIdeal_pre_finite_pool (hSguPoolRefIdeal := hSguPoolRefIdeal) (hPre_finite_pool := hPre_finite_pool)
    ∧ preserves_Attn_AttnIdeal
    ∧ algebraic_AttnIdeal_AttnRefIdeal (hAttnIdeal := hAttnIdeal) (hAttnRefIdeal := hAttnRefIdeal)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_SguPool_SguPoolIdeal
    ∧ algebraic_SguPoolIdeal_SguPoolRefIdeal_pre_finite_pool (hSguPoolIdeal := hSguPoolIdeal) (hSguPoolRefIdeal := hSguPoolRefIdeal) (hPre_finite_pool := hPre_finite_pool)
-- ==== Pre_finite_pool.lean ====
abbrev S16384x2048 : Shape := ⟨2, ![16384, 2048]⟩
abbrev S2048 : Shape := ⟨1, ![2048]⟩
abbrev S2048x4608 : Shape := ⟨2, ![2048, 4608]⟩
abbrev S512 : Shape := ⟨1, ![512]⟩
abbrev S4x128x128 : Shape := ⟨3, ![4, 128, 128]⟩
abbrev S4x128 : Shape := ⟨2, ![4, 128]⟩
abbrev S2048x1 : Shape := ⟨2, ![2048, 1]⟩
abbrev S_ : Shape := ⟨0, ![]⟩
abbrev S2048x512 : Shape := ⟨2, ![2048, 512]⟩

class Facts : Prop where
  bcast_S2048_S2048x1_0 : S2048.BroadcastsInDim S2048x1 (![0] : Fin 1 → Fin S2048x1.rank)
  bcast_S_S2048x1 : S_.BroadcastsInDim S2048x1 (![] : Fin 0 → Fin S2048x1.rank)
  slices_S2048x4608_S2048x512_0_4096 : S2048x4608.Slices ![0, 4096] S2048x512
  bcast_S_S2048x512 : S_.BroadcastsInDim S2048x512 (![] : Fin 0 → Fin S2048x512.rank)
  bcast_S2048x1_S2048x512_0_1 : S2048x1.BroadcastsInDim S2048x512 (![0, 1] : Fin 2 → Fin S2048x512.rank)

variable [Facts]

def fn {F : FTy → Type} [FloatOps F] (main_arg0 : FVec F S16384x2048 .f32) (main_arg1 : FVec F S2048 .f32) (main_arg2 : FVec F S2048x4608 .f32) (main_arg3 : FVec F S512 .f32) (main_arg4 : FVec F S4x128x128 .f32) (main_arg5 : FVec F S4x128 .f32) (main_arg6 : FVec F S4x128x128 .f32) (main_arg7 : FVec F S512 .f32) : IVec S2048x512 1 :=
  let main_v0 : FVec F S2048 .f32 := Host.absf main_arg1
  let main_v1 : FVec F S2048x1 .f32 := broadcastInDim S2048x1 ![0] bcast_S2048_S2048x1_0 main_v0
  let main_cst : FVec F S_ .f32 := constant S_ .f32 0x7F800000#32
  let main_v2 : FVec F S2048x1 .f32 := broadcastInDim S2048x1 ![] bcast_S_S2048x1 main_cst
  let main_v3 : IVec S2048x1 1 := cmpf .olt main_v1 main_v2
  let main_v4 : FVec F S2048x512 .f32 := (extractStridedSlice S2048x512 ![0, 4096] · slices_S2048x4608_S2048x512_0_4096) main_arg2
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_v8 : IVec S2048x512 1 := broadcastInDim S2048x512 ![0, 1] bcast_S2048x1_S2048x512_0_1 main_v3
  let main_v9 : IVec S2048x512 1 := andi main_v8 main_v7
  main_v9
-- ==== Attn.lean ====
abbrev S16384x3072 : Shape := ⟨2, ![16384, 3072]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S16384x1024 : Shape := ⟨2, ![16384, 1024]⟩
abbrev S256x128 : Shape := ⟨2, ![256, 128]⟩
abbrev S16384x128 : Shape := ⟨2, ![16384, 128]⟩
abbrev S1x256x256 : Shape := ⟨3, ![1, 256, 256]⟩
abbrev S1 : Shape := ⟨1, ![1]⟩
abbrev S1x1x1 : Shape := ⟨3, ![1, 1, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x3072, .bf16⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x512, .f32⟩
  | .hbm, ⟨12, _⟩ => ⟨S256x512, .bf16⟩
  | .hbm, ⟨13, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x512, .bf16⟩
  | .local _ .vmem, ⟨7, _⟩ => ⟨S256x128, .bf16⟩
  | .local _ .vmem, ⟨8, _⟩ => ⟨S256x128, .bf16⟩
  | .local _ .vmem, ⟨9, _⟩ => ⟨S256x256, .f32⟩
  | .local _ .vmem, ⟨10, _⟩ => ⟨S256x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 64], ![false, false]⟩

def k0_mult1 (i : grid0.Coords) : BitVec 32 :=
  let arg1 : BitVec 32 := BitVec.ofNat 32 (i 1).val
  let c256_i32 : BitVec 32 := 256#32
  let v6 : BitVec 32 := Scalar.muli arg1 c256_i32
  v6
def k0_off1 (i : grid0.Coords) : Fin 2 → Nat :=
  let arg1 : BitVec 32 := BitVec.ofNat 32 (i 1).val
  let c256_i32 : BitVec 32 := 256#32
  let v6 : BitVec 32 := Scalar.muli arg1 c256_i32
  let v7 : BitVec 32 := v6
  let v8 : Index := Scalar.indexCast v7
  let c0_3 : Index := 0#32
  ![v8.toNat, 0]
def k0_mult2 (arg9 : BitVec 32) : BitVec 32 :=
  let c256_i32_23 : BitVec 32 := 256#32
  let v57 : BitVec 32 := Scalar.muli arg9 c256_i32_23
  v57

def k0_off2 (arg9 : BitVec 32) : Fin 2 → Nat :=
  let c256_i32_23 : BitVec 32 := 256#32
  let v57 : BitVec 32 := Scalar.muli arg9 c256_i32_23
  let v58 : BitVec 32 := v57
  let v59 : Index := Scalar.indexCast v58
  let c0_24 : Index := 0#32
  ![v59.toNat, 0]

def k0_chk1 (arg9 : BitVec 32) : Prop :=
  (256 ∣ (k0_mult2 arg9).toNat) ∧
  (∀ a, (k0_off2 arg9) a + S256x128.size a ≤ S16384x128.size a)
theorem k0_mult2_dvd : ∀ (arg9 : BitVec 32) (k0_hw1 : k0_chk1 arg9), 256 ∣ (k0_mult2 arg9).toNat := fun arg9 k0_hw1 => k0_hw1.1
theorem k0_off2_inb : ∀ (arg9 : BitVec 32) (k0_hw1 : k0_chk1 arg9), ∀ a, (k0_off2 arg9) a + S256x128.size a ≤ S16384x128.size a := fun arg9 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "log_zero" => some ⊥
  | _ => none
-- ==== AttnRefIdeal.lean ====
abbrev S16384x3072 : Shape := ⟨2, ![16384, 3072]⟩
abbrev S16384x1024 : Shape := ⟨2, ![16384, 1024]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x3072, .f32⟩
  | .hbm, ⟨2, _⟩ => ⟨S16384x1024, .f32⟩
  | .hbm, ⟨3, _⟩ => ⟨S16384x8x128, .f32⟩
  | .hbm, ⟨4, _⟩ => ⟨S8x16384x128, .f32⟩
  | .hbm, ⟨5, _⟩ => ⟨S16384x1024, .f32⟩
  | .hbm, ⟨6, _⟩ => ⟨S16384x8x128, .f32⟩
  | .hbm, ⟨7, _⟩ => ⟨S8x16384x128, .f32⟩
  | .hbm, ⟨8, _⟩ => ⟨S16384x1024, .f32⟩
  | .hbm, ⟨9, _⟩ => ⟨S16384x8x128, .f32⟩
  | .hbm, ⟨10, _⟩ => ⟨S8x16384x128, .f32⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384x1, .i32⟩
  | .hbm, ⟨15, _⟩ => ⟨S16384x16384, .i32⟩
  | .hbm, ⟨16, _⟩ => ⟨S16384x16384, .i32⟩
  | .hbm, ⟨17, _⟩ => ⟨S16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S_, .f32⟩
  | .hbm, ⟨37, _⟩ => ⟨S8x16384x16384, .i1⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S_, .f32⟩
  | .hbm, ⟨42, _⟩ => ⟨S8x16384x16384, .f32⟩
  | .hbm, ⟨43, _⟩ => ⟨S8x16384x16384, .f32⟩
  | .hbm, ⟨44, _⟩ => ⟨S8x16384x16384, .f32⟩
  | .hbm, ⟨45, _⟩ => ⟨S_, .f32⟩
  | .hbm, ⟨46, _⟩ => ⟨S8x16384x16384, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S8x16384x16384, .i1⟩
  | .hbm, ⟨51, _⟩ => ⟨S8x16384x16384, .f32⟩
  | .hbm, ⟨52, _⟩ => ⟨S8x16384x16384, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S8x16384x16384, .f32⟩
  | .hbm, ⟨61, _⟩ => ⟨S_, .f32⟩
  | .hbm, ⟨62, _⟩ => ⟨S_, .f32⟩
  | .hbm, ⟨63, _⟩ => ⟨S8x16384x16384, .i1⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S8x16384x128, .f32⟩
  | .hbm, ⟨68, _⟩ => ⟨S16384x8x128, .f32⟩
  | .hbm, ⟨69, _⟩ => ⟨S16384x1024, .f32⟩
  | .hbm, ⟨70, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v18 : Ref sig .tc := ⟨.hbm, 34, rfl⟩
abbrev main_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_call2_cst : Ref sig .tc := ⟨.hbm, 40, rfl⟩
abbrev main_call2_v0 : Ref sig .tc := ⟨.hbm, 41, rfl⟩
abbrev main_v20 : Ref sig .tc := ⟨.hbm, 42, rfl⟩
abbrev main_v21 : Ref sig .tc := ⟨.hbm, 43, rfl⟩
abbrev main_call3_v0 : Ref sig .tc := ⟨.hbm, 44, rfl⟩
abbrev main_call3_call0_cst : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_v6 : Ref sig .tc := ⟨.hbm, 52, rfl⟩
abbrev main_call3_call0_v7 : Ref sig .tc := ⟨.hbm, 53, rfl⟩
abbrev main_call3_call0_v8 : Ref sig .tc := ⟨.hbm, 54, rfl⟩
abbrev main_call3_call0_v9 : Ref sig .tc := ⟨.hbm, 55, rfl⟩
abbrev main_call3_call0_v10 : Ref sig .tc := ⟨.hbm, 56, rfl⟩
abbrev main_call3_call0_v11 : Ref sig .tc := ⟨.hbm, 57, rfl⟩
abbrev main_call3_v1 : Ref sig .tc := ⟨.hbm, 58, rfl⟩
abbrev main_v22 : Ref sig .tc := ⟨.hbm, 59, rfl⟩
abbrev main_v23 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 20
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048x5504, .f32⟩
  | .hbm, ⟨5, _⟩ => ⟨S_, .i32⟩
  | .hbm, ⟨6, _⟩ => ⟨S_, .f32⟩
  | .hbm, ⟨7, _⟩ => ⟨S2048x5632, .f32⟩
  | .hbm, ⟨8, _⟩ => ⟨S2048x5504, .f32⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x11264, .f32⟩
  | .hbm, ⟨13, _⟩ => ⟨S2048x11264, .bf16⟩
  | .hbm, ⟨14, _⟩ => ⟨S_, .i32⟩
  | .hbm, ⟨15, _⟩ => ⟨S_, .f32⟩
  | .hbm, ⟨16, _⟩ => ⟨S5632x2048, .f32⟩
  | .hbm, ⟨17, _⟩ => ⟨S5632x2048, .bf16⟩
  | .hbm, ⟨18, _⟩ => ⟨S1x2048, .f32⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_call2_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x11008, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== FfnLast.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S2048x11264 : Shape := ⟨2, ![2048, 11264]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 22
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S2048x5504, .f32⟩
  | .hbm, ⟨6, _⟩ => ⟨S_, .i32⟩
  | .hbm, ⟨7, _⟩ => ⟨S_, .f32⟩
  | .hbm, ⟨8, _⟩ => ⟨S2048x5632, .f32⟩
  | .hbm, ⟨9, _⟩ => ⟨S2048x5504, .f32⟩
  | .hbm, ⟨10, _⟩ => ⟨S_, .i32⟩
  | .hbm, ⟨11, _⟩ => ⟨S_, .f32⟩
  | .hbm, ⟨12, _⟩ => ⟨S2048x5632, .f32⟩
  | .hbm, ⟨13, _⟩ => ⟨S2048x11264, .f32⟩
  | .hbm, ⟨14, _⟩ => ⟨S2048x11264, .bf16⟩
  | .hbm, ⟨15, _⟩ => ⟨S_, .i32⟩
  | .hbm, ⟨16, _⟩ => ⟨S_, .f32⟩
  | .hbm, ⟨17, _⟩ => ⟨S5632x2048, .f32⟩
  | .hbm, ⟨18, _⟩ => ⟨S5632x2048, .bf16⟩
  | .hbm, ⟨19, _⟩ => ⟨S1x2048, .f32⟩
  | .hbm, ⟨20, _⟩ => ⟨S1x2048, .f32⟩
  | .hbm, ⟨21, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c0_i32_10 : BitVec 32 := 0#32
  let v17 : BitVec 1 := Scalar.cmpi .eq arg1 c0_i32_10
  let v18 : BitVec 32 := Scalar.extui v17
  let c0_i32_11 : BitVec 32 := 0#32
  let v19 : BitVec 1 := Scalar.cmpi .ne v18 c0_i32_11
  v19

def k0_cond3 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11008, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Qkv.lean ====
abbrev S16384x2048 : Shape := ⟨2, ![16384, 2048]⟩
abbrev S2048 : Shape := ⟨1, ![2048]⟩
abbrev S2048x4608 : Shape := ⟨2, ![2048, 4608]⟩
abbrev S1x2048 : Shape := ⟨2, ![1, 2048]⟩
abbrev S16384x3072 : Shape := ⟨2, ![16384, 3072]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4608, .f32⟩
  | .hbm, ⟨3, _⟩ => ⟨S1x2048, .f32⟩
  | .hbm, ⟨4, _⟩ => ⟨S2048x4608, .bf16⟩
  | .hbm, ⟨5, _⟩ => ⟨S16384x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x2048 : Shape := ⟨2, ![16384, 2048]⟩
abbrev S2048 : Shape := ⟨1, ![2048]⟩
abbrev S2048x4608 : Shape := ⟨2, ![2048, 4608]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4608 : Shape := ⟨2, ![16384, 4608]⟩
abbrev S16384x1024 : Shape := ⟨2, ![16384, 1024]⟩
abbrev S16384x3072 : Shape := ⟨2, ![16384, 3072]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4608, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x4608, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x2048, .f32⟩
  | .hbm, ⟨25, _⟩ => ⟨S16384x3072, .f32⟩
  | .hbm, ⟨26, _⟩ => ⟨S16384x3072, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== OutProj.lean ====
abbrev S16384x2048 : Shape := ⟨2, ![16384, 2048]⟩
abbrev S16384x1024 : Shape := ⟨2, ![16384, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S2048x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== SguPool.lean ====
abbrev S16384x2048 : Shape := ⟨2, ![16384, 2048]⟩
abbrev S2048 : Shape := ⟨1, ![2048]⟩
abbrev S2048x4608 : Shape := ⟨2, ![2048, 4608]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x2048 : Shape := ⟨2, ![1, 2048]⟩
abbrev S1x512 : Shape := ⟨2, ![1, 512]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S4x128x256 : Shape := ⟨3, ![4, 128, 256]⟩
abbrev S16384x1024 : Shape := ⟨2, ![16384, 1024]⟩
abbrev S512x2048 : Shape := ⟨2, ![512, 2048]⟩
abbrev S2048x1536 : Shape := ⟨2, ![2048, 1536]⟩
abbrev S512x1024 : Shape := ⟨2, ![512, 1024]⟩
abbrev S640x512 : Shape := ⟨2, ![640, 512]⟩
abbrev S512x1 : Shape := ⟨2, ![512, 1]⟩
abbrev S512x1536 : Shape := ⟨2, ![512, 1536]⟩
abbrev S512x512 : Shape := ⟨2, ![512, 512]⟩
abbrev S128x128 : Shape := ⟨2, ![128, 128]⟩
abbrev S512x128 : Shape := ⟨2, ![512, 128]⟩
abbrev S1x128 : Shape := ⟨2, ![1, 128]⟩
abbrev S1x128x128 : Shape := ⟨3, ![1, 128, 128]⟩
abbrev S256x128 : Shape := ⟨2, ![256, 128]⟩

abbrev nBuf : Space → Nat
  | .hbm => 86
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4608, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S512, .f32⟩
  | .hbm, ⟨8, _⟩ => ⟨S128x4, .f32⟩
  | .hbm, ⟨9, _⟩ => ⟨S128x4x128, .f32⟩
  | .hbm, ⟨10, _⟩ => ⟨S128x512, .f32⟩
  | .hbm, ⟨11, _⟩ => ⟨S1x2048, .f32⟩
  | .hbm, ⟨12, _⟩ => ⟨S2048x4608, .bf16⟩
  | .hbm, ⟨13, _⟩ => ⟨S1x512, .f32⟩
  | .hbm, ⟨14, _⟩ => ⟨S4x128x128, .bf16⟩
  | .hbm, ⟨15, _⟩ => ⟨S1x512, .f32⟩
  | .hbm, ⟨16, _⟩ => ⟨S128, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S256, .i32⟩
  | .hbm, ⟨22, _⟩ => ⟨S1x256, .i32⟩
  | .hbm, ⟨23, _⟩ => ⟨S128x256, .i32⟩
  | .hbm, ⟨24, _⟩ => ⟨S128x256, .i32⟩
  | .hbm, ⟨25, _⟩ => ⟨S128x256, .i32⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S128x256, .f32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S_, .i32⟩
  | .hbm, ⟨47, _⟩ => ⟨S128x256, .i32⟩
  | .hbm, ⟨48, _⟩ => ⟨S128x256, .i1⟩
  | .hbm, ⟨49, _⟩ => ⟨S128x256, .i1⟩
  | .hbm, ⟨50, _⟩ => ⟨S128x256, .f32⟩
  | .hbm, ⟨51, _⟩ => ⟨S128x256, .i32⟩
  | .hbm, ⟨52, _⟩ => ⟨S128x256, .i32⟩
  | .hbm, ⟨53, _⟩ => ⟨S128x256, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S128x256, .i32⟩
  | .hbm, ⟨58, _⟩ => ⟨S128x256, .i32⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S128x256, .i1⟩
  | .hbm, ⟨64, _⟩ => ⟨S128x256, .f32⟩
  | .hbm, ⟨65, _⟩ => ⟨S128x256, .i32⟩
  | .hbm, ⟨66, _⟩ => ⟨S128x256, .i32⟩
  | .hbm, ⟨67, _⟩ => ⟨S128x256, .i32⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S128x256, .i32⟩
  | .hbm, ⟨72, _⟩ => ⟨S128x256, .i32⟩
  | .hbm, ⟨73, _⟩ => ⟨S128x256, .i32⟩
  | .hbm, ⟨74, _⟩ => ⟨S_, .i32⟩
  | .hbm, ⟨75, _⟩ => ⟨S128x256, .i32⟩
  | .hbm, ⟨76, _⟩ => ⟨S128x256, .i1⟩
  | .hbm, ⟨77, _⟩ => ⟨S128x256, .i1⟩
  | .hbm, ⟨78, _⟩ => ⟨S128x256, .f32⟩
  | .hbm, ⟨79, _⟩ => ⟨S1x128x256, .f32⟩
  | .hbm, ⟨80, _⟩ => ⟨S1x128x256, .f32⟩
  | .hbm, ⟨81, _⟩ => ⟨S1x128x256, .f32⟩
  | .hbm, ⟨82, _⟩ => ⟨S1x128x256, .f32⟩
  | .hbm, ⟨83, _⟩ => ⟨S4x128x256, .f32⟩
  | .hbm, ⟨84, _⟩ => ⟨S4x128x256, .bf16⟩
  | .hbm, ⟨85, _⟩ => ⟨S16384x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S1x512, .f32⟩
  | .local _ .vmem, ⟨5, _⟩ => ⟨S4x128x128, .f32⟩
  | .local _ .vmem, ⟨6, _⟩ => ⟨S128x512, .f32⟩
  | .local _ .vmem, ⟨7, _⟩ => ⟨S4x128x256, .bf16⟩
  | .local _ .vmem, ⟨8, _⟩ => ⟨S4x128x128, .bf16⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S640x512, .bf16⟩
  | .local _ .vmem, ⟨13, _⟩ => ⟨S640x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SguPoolRefIdeal.lean ====
abbrev S16384x2048 : Shape := ⟨2, ![16384, 2048]⟩
abbrev S2048 : Shape := ⟨1, ![2048]⟩
abbrev S2048x4608 : Shape := ⟨2, ![2048, 4608]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4608 : Shape := ⟨2, ![16384, 4608]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x4x128 : Shape := ⟨3, ![1, 4, 128]⟩
abbrev S128x128x4x128 : Shape := ⟨4, ![128, 128, 4, 128]⟩
abbrev S128x128 : Shape := ⟨2, ![128, 128]⟩
abbrev S1x128x128 : Shape := ⟨3, ![1, 128, 128]⟩
abbrev S4x128x128x128 : Shape := ⟨4, ![4, 128, 128, 128]⟩
abbrev S128x4 : Shape := ⟨2, ![128, 4]⟩
abbrev S128x4x1 : Shape := ⟨3, ![128, 4, 1]⟩
abbrev S1x128x4x1 : Shape := ⟨4, ![1, 128, 4, 1]⟩
abbrev S16384x1x128 : Shape := ⟨3, ![16384, 1, 128]⟩
abbrev S16384x128 : Shape := ⟨2, ![16384, 128]⟩
abbrev S16386x128 : Shape := ⟨2, ![16386, 128]⟩
abbrev S16388x128 : Shape := ⟨2, ![16388, 128]⟩
abbrev S16392x128 : Shape := ⟨2, ![16392, 128]⟩
abbrev S16400x128 : Shape := ⟨2, ![16400, 128]⟩
abbrev S4x128x16384 : Shape := ⟨3, ![4, 128, 16384]⟩
abbrev S1x512 : Shape := ⟨2, ![1, 512]⟩
abbrev S16384x1024 : Shape := ⟨2, ![16384, 1024]⟩

abbrev nBuf : Space → Nat
  | .hbm => 202
  | .vmem => 0
  | .smem => 0
  | _ => 0

abbrev hbmTy0_0 (i : Nat) : BufTy := match i % 128 with
  | 0 => ⟨S16384x2048, .f32⟩
  | 1 => ⟨S2048, .f32⟩
  | 2 => ⟨S2048x4608, .f32⟩
  | 3 => ⟨S512, .f32⟩
  | 4 => ⟨S4x128x128, .f32⟩
  | 5 => ⟨S4x128, .f32⟩
  | 6 => ⟨S4x128x128, .f32⟩
  | 7 => ⟨S512, .f32⟩
  | 8 => ⟨S16384x2048, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x2048, .f32⟩
  | 20 => ⟨S16384x2048, .f32⟩
  | 21 => ⟨S1x2048, .f32⟩
  | 22 => ⟨S16384x2048, .f32⟩
  | 23 => ⟨S16384x2048, .f32⟩
  | 24 => ⟨S16384x4608, .f32⟩
  | 25 => ⟨S16384x512, .f32⟩
  | 26 => ⟨S16384x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x512, .f32⟩
  | 34 => ⟨S_, .f32⟩
  | 35 => ⟨S16384x512, .f32⟩
  | 36 => ⟨S16384x512, .f32⟩
  | 37 => ⟨S16384x512, .f32⟩
  | 38 => ⟨S_, .f32⟩
  | 39 => ⟨S16384x512, .f32⟩
  | 40 => ⟨S16384x512, .f32⟩
  | 41 => ⟨S_, .f32⟩
  | 42 => ⟨S16384x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S16384x512, .f32⟩
  | 55 => ⟨S_, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S16384x4x128, .f32⟩
  | 63 => ⟨S4x128, .f32⟩
  | 64 => ⟨S16384x4x128, .f32⟩
  | 65 => ⟨S_, .f32⟩
  | 66 => ⟨S16384x4, .f32⟩
  | 67 => ⟨S16384x4x1, .f32⟩
  | 68 => ⟨S_, .f32⟩
  | 69 => ⟨S16384x4x1, .f32⟩
  | 70 => ⟨S16384x4x1, .f32⟩
  | 71 => ⟨S_, .f32⟩
  | 72 => ⟨S16384x4x1, .f32⟩
  | 73 => ⟨S16384x4x1, .f32⟩
  | 74 => ⟨S16384x4x1, .f32⟩
  | 75 => ⟨S16384x4x128, .f32⟩
  | 76 => ⟨S16384x4x128, .f32⟩
  | 77 => ⟨S1x4x128, .f32⟩
  | 78 => ⟨S16384x4x128, .f32⟩
  | 79 => ⟨S16384x4x128, .f32⟩
  | 80 => ⟨S128x128x4x128, .f32⟩
  | 81 => ⟨S_, .f32⟩
  | 82 => ⟨S128x128, .f32⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .f32⟩
  | 90 => ⟨S128x128, .f32⟩
  | 91 => ⟨S128x128, .f32⟩
  | 92 => ⟨S1x128x128, .f32⟩
  | 93 => ⟨S4x128x128, .f32⟩
  | 94 => ⟨S4x128x128, .f32⟩
  | 95 => ⟨S4x128x128x128, .f32⟩
  | 96 => ⟨S128x128x4x128, .f32⟩
  | 97 => ⟨S128x4, .f32⟩
  | 98 => ⟨S128x4x1, .f32⟩
  | 99 => ⟨S1x128x4x1, .f32⟩
  | 100 => ⟨S128x128x4x128, .f32⟩
  | 101 => ⟨S128x128x4x128, .f32⟩
  | 102 => ⟨S16384x512, .f32⟩
  | 103 => ⟨S16384x512, .f32⟩
  | 104 => ⟨S16384x4x128, .f32⟩
  | 105 => ⟨S_, .f32⟩
  | 106 => ⟨S_, .f32⟩
  | 107 => ⟨S16384x4x128, .f32⟩
  | 108 => ⟨S16384, .i32⟩
  | 109 => ⟨S16384x1x128, .f32⟩
  | 110 => ⟨S16384x128, .f32⟩
  | 111 => ⟨S_, .i32⟩
  | 112 => ⟨S_, .f32⟩
  | 113 => ⟨S16386x128, .f32⟩
  | 114 => ⟨S16384x128, .f32⟩
  | 115 => ⟨S_, .i32⟩
  | 116 => ⟨S16384, .i32⟩
  | 117 => ⟨S16384, .i32⟩
  | 118 => ⟨S_, .i32⟩
  | 119 => ⟨S16384, .i32⟩
  | 120 => ⟨S16384, .i32⟩
  | 121 => ⟨S16384, .f32⟩
  | 122 => ⟨S16384x1, .f32⟩
  | 123 => ⟨S16384x128, .f32⟩
  | 124 => ⟨S16384x128, .f32⟩
  | 125 => ⟨S16384x128, .f32⟩
  | 126 => ⟨S16384x1x128, .f32⟩
  | 127 => ⟨S16384x128, .f32⟩
  | _ => ⟨S16384x2048, .f32⟩

abbrev hbmTy0_1 (i : Nat) : BufTy := match i % 128 with
  | 0 => ⟨S16384x128, .f32⟩
  | 1 => ⟨S16384x1x128, .f32⟩
  | 2 => ⟨S16384x128, .f32⟩
  | 3 => ⟨S_, .i32⟩
  | 4 => ⟨S_, .f32⟩
  | 5 => ⟨S16388x128, .f32⟩
  | 6 => ⟨S16384x128, .f32⟩
  | 7 => ⟨S_, .i32⟩
  | 8 => ⟨S16384, .i32⟩
  | 9 => ⟨S16384, .i32⟩
  | 10 => ⟨S_, .i32⟩
  | 11 => ⟨S16384, .i32⟩
  | 12 => ⟨S16384, .i32⟩
  | 13 => ⟨S16384, .f32⟩
  | 14 => ⟨S16384x1, .f32⟩
  | 15 => ⟨S16384x128, .f32⟩
  | 16 => ⟨S16384x128, .f32⟩
  | 17 => ⟨S16384x128, .f32⟩
  | 18 => ⟨S16384x1x128, .f32⟩
  | 19 => ⟨S16384x128, .f32⟩
  | 20 => ⟨S16384x128, .f32⟩
  | 21 => ⟨S16384x1x128, .f32⟩
  | 22 => ⟨S16384x128, .f32⟩
  | 23 => ⟨S_, .i32⟩
  | 24 => ⟨S_, .f32⟩
  | 25 => ⟨S16392x128, .f32⟩
  | 26 => ⟨S16384x128, .f32⟩
  | 27 => ⟨S_, .i32⟩
  | 28 => ⟨S16384, .i32⟩
  | 29 => ⟨S16384, .i32⟩
  | 30 => ⟨S_, .i32⟩
  | 31 => ⟨S16384, .i32⟩
  | 32 => ⟨S16384, .i32⟩
  | 33 => ⟨S16384, .f32⟩
  | 34 => ⟨S16384x1, .f32⟩
  | 35 => ⟨S16384x128, .f32⟩
  | 36 => ⟨S16384x128, .f32⟩
  | 37 => ⟨S16384x128, .f32⟩
  | 38 => ⟨S16384x1x128, .f32⟩
  | 39 => ⟨S16384x128, .f32⟩
  | 40 => ⟨S16384x128, .f32⟩
  | 41 => ⟨S16384x1x128, .f32⟩
  | 42 => ⟨S16384x128, .f32⟩
  | 43 => ⟨S_, .i32⟩
  | 44 => ⟨S_, .f32⟩
  | 45 => ⟨S16400x128, .f32⟩
  | 46 => ⟨S16384x128, .f32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S16384, .f32⟩
  | 54 => ⟨S16384x1, .f32⟩
  | 55 => ⟨S16384x128, .f32⟩
  | 56 => ⟨S16384x128, .f32⟩
  | 57 => ⟨S16384x128, .f32⟩
  | 58 => ⟨S16384x1x128, .f32⟩
  | 59 => ⟨S16384x128, .f32⟩
  | 60 => ⟨S16384x128, .f32⟩
  | 61 => ⟨S16384x1x128, .f32⟩
  | 62 => ⟨S16384x1x128, .f32⟩
  | 63 => ⟨S16384x1x128, .f32⟩
  | 64 => ⟨S16384x1x128, .f32⟩
  | 65 => ⟨S16384x4x128, .f32⟩
  | 66 => ⟨S4x128x16384, .f32⟩
  | 67 => ⟨S16384x4x128, .f32⟩
  | 68 => ⟨S16384x512, .f32⟩
  | 69 => ⟨S1x512, .f32⟩
  | 70 => ⟨S16384x512, .f32⟩
  | 71 => ⟨S16384x512, .f32⟩
  | 72 => ⟨S16384x1024, .f32⟩
  | 73 => ⟨S16384x1024, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_cst : Ref sig .tc := ⟨.hbm, 89, rfl⟩
abbrev main_call0_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_call0_cst : Ref sig .tc := ⟨.hbm, 105, rfl⟩
abbrev main_call1_call0_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c : Ref sig .tc := ⟨.hbm, 111, rfl⟩
abbrev main_call2_v0 : Ref sig .tc := ⟨.hbm, 112, rfl⟩
abbrev main_v78 : Ref sig .tc := ⟨.hbm, 113, rfl⟩
abbrev main_v79 : Ref sig .tc := ⟨.hbm, 114, rfl⟩
abbrev main_c_14 : Ref sig .tc := ⟨.hbm, 115, rfl⟩
abbrev main_v80 : Ref sig .tc := ⟨.hbm, 116, rfl⟩
abbrev main_v81 : Ref sig .tc := ⟨.hbm, 117, rfl⟩
abbrev main_c_15 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_16 : Ref sig .tc := ⟨.hbm, 131, rfl⟩
abbrev main_call3_v0 : Ref sig .tc := ⟨.hbm, 132, rfl⟩
abbrev main_v94 : Ref sig .tc := ⟨.hbm, 133, rfl⟩
abbrev main_v95 : Ref sig .tc := ⟨.hbm, 134, rfl⟩
abbrev main_c_17 : Ref sig .tc := ⟨.hbm, 135, rfl⟩
abbrev main_v96 : Ref sig .tc := ⟨.hbm, 136, rfl⟩
abbrev main_v97 : Ref sig .tc := ⟨.hbm, 137, rfl⟩
abbrev main_c_18 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_19 : Ref sig .tc := ⟨.hbm, 151, rfl⟩
abbrev main_call4_v0 : Ref sig .tc := ⟨.hbm, 152, rfl⟩
abbrev main_v110 : Ref sig .tc := ⟨.hbm, 153, rfl⟩
abbrev main_v111 : Ref sig .tc := ⟨.hbm, 154, rfl⟩
abbrev main_c_20 : Ref sig .tc := ⟨.hbm, 155, rfl⟩
abbrev main_v112 : Ref sig .tc := ⟨.hbm, 156, rfl⟩
abbrev main_v113 : Ref sig .tc := ⟨.hbm, 157, rfl⟩
abbrev main_c_21 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_c_22 : Ref sig .tc := ⟨.hbm, 171, rfl⟩
abbrev main_call5_v0 : Ref sig .tc := ⟨.hbm, 172, rfl⟩
abbrev main_v126 : Ref sig .tc := ⟨.hbm, 173, rfl⟩
abbrev main_v127 : Ref sig .tc := ⟨.hbm, 174, rfl⟩
abbrev main_c_23 : Ref sig .tc := ⟨.hbm, 175, rfl⟩
abbrev main_v128 : Ref sig .tc := ⟨.hbm, 176, rfl⟩
abbrev main_v129 : Ref sig .tc := ⟨.hbm, 177, rfl⟩
abbrev main_c_24 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩

abbrev nD : Nat := 1
abbrev τ : Topo := Topo.v7x

variable {F : FTy → Type} [FloatOps F]
-- ==== Proof.AttnIdeal.Frame.lean ====
/-
  The attention call's run. One grid point holds a block of 256 queries against every key and value of its head. The
  body takes the diagonal tile of keys first, then walks the earlier tiles in a loop that ends early once its running
  total says that nothing can be added. What the loop leaves is a function of the blocks (`walk`), so the body's result
  (`block`) is one too, and the run of the whole program follows from the library's launch theorem.
-/
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants the loop is run at: the number of tiles still before it. -/
abbrev 𝒱₀ : Variants := Variants.nat

/-! ## What the body computes -/

abbrev rQ : Rect S256x128 := Rect.unit (s := S256x128) ![0, 0] S256x128.size inb_S256x128_S256x128_0_0
abbrev rR : Rect S256x256 := Rect.unit (s := S256x256) ![0, 0] S256x256.size inb_S256x256_S256x256_0_0
abbrev rM : Rect S256x512 := Rect.unit (s := S256x512) ![0, 0] S256x512.size inb_S256x512_S256x512_0_0
/-- The rows of the diagonal tile. -/
abbrev rD (i : grid0.Coords) : Rect S16384x128 := Rect.unit (s := S16384x128) (k0_off1 i) S256x128.size (k0_off1_inb i)

/-- The loop's counter with `k` tiles still before it. -/
def ctr (k : ℕ) : BitVec 32 := Scalar.subi (BitVec.ofNat 32 k) 1#32

/-- With `k + 1` tiles before it the counter names tile `k`. -/
theorem ctr_succ : ∀ k < 64, ctr (k + 1) = BitVec.ofNat 32 k := by decide +kernel

/-- It names a tile that lies inside the array. -/
theorem chk_of_lt : ∀ k < 64, k0_chk1 (ctr (k + 1)) := by decide +kernel

/-- One less is the counter with one tile less before it. -/
theorem ctr_pred (k : ℕ) (hk : k < 64) : Scalar.subi (ctr (k + 1)) 1#32 = ctr k := by rw [ctr_succ k hk]; rfl

/-- The rows of tile `k`. -/
abbrev rT (k : ℕ) (hk : k < 64) : Rect S16384x128 :=
  Rect.unit (s := S16384x128) (k0_off2 (ctr (k + 1))) S256x128.size (k0_off2_inb (ctr (k + 1)) (chk_of_lt k hk))

/-- The loop's test. -/
abbrev test (n : BitVec 32) (x : F .f32) : BitVec 1 :=
  Scalar.andi (Scalar.cmpi .sge n 0#32) (Scalar.cmpf .ogt x (Named.named κ "log_zero" 0xC2D00000#32))

/-- With no tile before it the loop ends. -/
theorem test_zero (x : F .f32) : ¬ test (F := F) (ctr 0) x = 1#1 := by
  have h : Scalar.cmpi .sge (ctr 0) 0#32 = 0#1 := by decide
  intro hx
  unfold test at hx
  rw [h] at hx
  have hz : ∀ y : BitVec 1, ¬ Scalar.andi 0#1 y = 1#1 := by decide
  exact hz _ hx

section Walk

variable (q : Vec F S256x128 .bf16) (mm : FVec F S256x512 .bf16) (K V : Vec F S16384x128 .bf16)

/-- The running total after tile `k`, -/
def rNext (k : ℕ) (hk : k < 64) (r : Vec F S256x256 .f32) : Vec F S256x256 .f32 :=
  k0_pay6 (k0_pay18 q mm (View.ld K (rT k hk)) r)
/-- its greatest entry, -/
def xNext (k : ℕ) (hk : k < 64) (r : Vec F S256x256 .f32) : F .f32 :=
  k0_pay7 (k0_pay18 q mm (View.ld K (rT k hk)) r)
/-- and the sum of weighted values after it. -/
def aNext (k : ℕ) (hk : k < 64) (r : Vec F S256x256 .f32) (a : Vec F S256x128 .f32) : Vec F S256x128 .f32 :=
  k0_pay5 (k0_pay19 q mm (View.ld K (rT k hk)) (View.ld V (rT k hk)) r a)

/-- What the loop leaves in its two buffers, entered with `k` tiles before it, at greatest entry `x`, total `r` and
    sum `a`. -/
def walk : (k : ℕ) → k ≤ 64 → F .f32 → Vec F S256x256 .f32 → Vec F S256x128 .f32 → Vec F S256x256 .f32 × Vec F S256x128 .f32
  | 0, _, _, r, a => (r, a)
  | k + 1, hk, x, r, a =>
    if test (ctr (k + 1)) x = 1#1 then
      walk k (by omega) (xNext q mm K k (by omega) r) (rNext q mm K k (by omega) r) (aNext q mm K V k (by omega) r a)
    else (r, a)

end Walk

/-- What the body leaves in the result's block, from the queries, the keys and values of the head, and the matrix of
    ones and zeros. -/
def block (i : grid0.Coords) (x0 : Vec F S256x128 .bf16) (x1 x2 : Vec F S16384x128 .bf16) (x3 : Vec F S256x512 .bf16) : Vec F S256x128 .bf16 :=
  View.canon [⟨rQ, k0_pay4 (walk (View.ld x0 rQ) (k0_pay8 (View.ld x3 rM)) x1 x2 (i 1).val (Nat.le_of_lt (i 1).isLt)
    (k0_pay3 (k0_pay14 (View.ld x0 rQ) (View.ld x3 rM) (View.ld x1 (rD i))))
    (k0_pay2 (k0_pay14 (View.ld x0 rQ) (View.ld x3 rM) (View.ld x1 (rD i))))
    (k0_pay1 (k0_pay13 (View.ld x0 rQ) (View.ld x3 rM) (View.ld x1 (rD i)) (View.ld x2 (rD i))))).2⟩]

/-! ## Whole buffers -/

theorem ldR (X : Vec F S256x256 .f32) : View.ld X rR = X := View.ld_unit_zero (by funext a; fin_cases a <;> rfl) _ X
theorem ldQ {e : EltTy} (X : Vec F S256x128 e) : View.ld X rQ = X := View.ld_unit_zero (by funext a; fin_cases a <;> rfl) _ X

/-- A load of the whole of the running total's buffer reads it, -/
theorem loadR (f : (cc0_scratch0 : Ref sig .tc).ty.Contents (Elt F)) :
    (Memref.whole cc0_scratch0 : Memref sig .tc _ _ _).view.readAt (Elt F) rR.toLoadRect f = f :=
  Memref.readAt_unit_zero (Elt F) cc0_scratch0 (funext fun a => by fin_cases a <;> rfl) _ f
/-- a load of the whole of the sum's buffer reads it, -/
theorem loadA (f : (cc0_scratch1 : Ref sig .tc).ty.Contents (Elt F)) :
    (Memref.whole cc0_scratch1 : Memref sig .tc _ _ _).view.readAt (Elt F) rQ.toLoadRect f = f :=
  Memref.readAt_unit_zero (Elt F) cc0_scratch1 (funext fun a => by fin_cases a <;> rfl) _ f
/-- a store over the whole of the former leaves what was stored, -/
theorem storeR (f w : (cc0_scratch0 : Ref sig .tc).ty.Contents (Elt F)) :
    ((Memref.whole cc0_scratch0).access rR : View sig .tc _ _ _).write (Elt F) f w Finset.univ = w :=
  Memref.write_access_unit_zero_univ (Elt F) cc0_scratch0 (funext fun a => by fin_cases a <;> rfl) _ f w
/-- and so over the whole of the latter. -/
theorem storeA (f w : (cc0_scratch1 : Ref sig .tc).ty.Contents (Elt F)) :
    ((Memref.whole cc0_scratch1).access rQ : View sig .tc _ _ _).write (Elt F) f w Finset.univ = w :=
  Memref.write_access_unit_zero_univ (Elt F) cc0_scratch1 (funext fun a => by fin_cases a <;> rfl) _ f w

/-! ## The loop -/

section Label

variable (c : Dev nD) (i : grid0.Coords) (q : Vec F S256x128 .bf16) (mm : FVec F S256x512 .bf16)
  (arg3 : Memref sig .tc .vmem S16384x128 .bf16) (harg3 : arg3.IsWhole)
  (arg4 : Memref sig .tc .vmem S16384x128 .bf16) (harg4 : arg4.IsWhole)
  (K V : Vec F S16384x128 .bf16)

/-- The four buffers the loop reads and writes: the keys, the values, the running total at `r` and the sum at `a`. -/
def held (ra : Vec F S256x256 .f32 × Vec F S256x128 .f32) : sProp 𝕄 :=
  iprop(owns (c : Thread nD τ) arg3 fullShare K ∗ owns (c : Thread nD τ) arg4 fullShare V
    ∗ (((c : Thread nD τ).loc cc0_scratch0) ↦{fullShare} (ra.1 : Buf (Elt F) ((c : Thread nD τ).loc cc0_scratch0)))
    ∗ (((c : Thread nD τ).loc cc0_scratch1) ↦{fullShare} (ra.2 : Buf (Elt F) ((c : Thread nD τ).loc cc0_scratch1))))

/-- The loop entered with `k` tiles before it: it returns some counter and some number, and leaves `walk`'s buffers. -/
def spec (k : ℕ) (hk : k ≤ 64) (x : F .f32) (r : Vec F S256x256 .f32) (a : Vec F S256x128 .f32) : sWPT 𝕄 (BitVec 32 × F .f32) := do
  sWPT.consume (held c arg3 arg4 K V (r, a))
  let w ← sWPT.arbitrary
  sWPT.produce (held c arg3 arg4 K V (walk q mm K V k hk x r a))
  pure w

theorem spec_apply (k : ℕ) (hk : k ≤ 64) (x : F .f32) (r : Vec F S256x256 .f32) (a : Vec F S256x128 .f32) (Q : BitVec 32 × F .f32 → sProp 𝕄) :
    spec c q mm arg3 arg4 K V k hk x r a Q
      = iprop(held c arg3 arg4 K V (r, a) ∗ ∀ w : BitVec 32 × F .f32, held c arg3 arg4 K V (walk q mm K V k hk x r a) -∗ Q w) := rfl

set_option maxHeartbeats 400000 in
/-- The loop's body meets its specification: by induction on the number of tiles before it. -/
theorem spec_le (E : Set ℕ) :
    ∀ (k : ℕ) (hk : k ≤ 64) (x : F .f32) (r : Vec F S256x256 .f32) (a : Vec F S256x128 .f32) (Q : BitVec 32 × F .f32 → sProp 𝕄),
      spec c q mm arg3 arg4 K V k hk x r a Q
      ⊢ wp frame (wpE (defs₀ (F := F)) 𝒱₀ (c : Thread nD τ) (some k)) E
          (defs₀ (F := F) .tc 1 ⟨i, arg3, harg3, arg4, harg4, q, mm, Memref.whole cc0_scratch0, Memref.isWhole_whole _,
            Memref.whole cc0_scratch1, Memref.isWhole_whole _, ctr k, x⟩) Q := by
  intro k
  induction k with
  | zero =>
    intro hk x r a Q
    rw [spec_apply]
    show _ ⊢ wp frame (wpE (defs₀ (F := F)) 𝒱₀ (c : Thread nD τ) (some 0)) E
      (cc0_while1 i arg3 harg3 arg4 harg4 q mm (Memref.whole cc0_scratch0) (Memref.isWhole_whole _)
        (Memref.whole cc0_scratch1) (Memref.isWhole_whole _) (ctr 0) x) Q
    simp only [cc0_while1_eq_skeleton]; unfold cc0_while1_skel
    have htest := test_zero (F := F) x
    simp only [htest, ↓reduceIte, Prog.pure_eq_ret]
    iintro ⟨H, Hk⟩
    rw [wp_ret]; imodintro
    iapply Hk
    simp only [walk]; iexact H
  | succ k ih =>
    intro hk x r a Q
    have hk' : k < 64 := by omega
    rw [spec_apply]
    show _ ⊢ wp frame (wpE (defs₀ (F := F)) 𝒱₀ (c : Thread nD τ) (some (k + 1))) E
      (cc0_while1 i arg3 harg3 arg4 harg4 q mm (Memref.whole cc0_scratch0) (Memref.isWhole_whole _)
        (Memref.whole cc0_scratch1) (Memref.isWhole_whole _) (ctr (k + 1)) x) Q
    simp only [cc0_while1_eq_skeleton]; unfold cc0_while1_skel
    by_cases htest : test (F := F) (ctr (k + 1)) x = 1#1
    · have hw : walk q mm K V (k + 1) hk x r a
          = walk q mm K V k (by omega) (xNext q mm K k hk' r) (rNext q mm K k hk' r) (aNext q mm K V k hk' r a) := by
        rw [walk, if_pos htest]
      rw [hw]
      simp only [htest, ↓reduceIte, k0_part2_eq_skeleton]
      unfold k0_part2_skel
      simp only [Prog.lift, Prog.bind_op, Prog.bind_ret, Prog.pure_eq_ret]
      unfold held owns
      iintro ⟨⟨⟨%f3, %hf3, H3⟩, ⟨%f4, %hf4, H4⟩, Hr, Ha⟩, Hk⟩
      subst hf3 hf4
      iapply (wp_assume 𝒱₀ (c : Thread nD τ) (some (k + 1)) E (chk_of_lt k hk'))
      iapply (wp_load 𝒱₀ (c : Thread nD τ) (some (k + 1)) E (m := arg3) (View.setOn_subset_set _ _)) $$ H3; iintro H3
      iapply (wp_load 𝒱₀ (c : Thread nD τ) (some (k + 1)) E (m := arg4) (View.setOn_subset_set _ _)) $$ H4; iintro H4
      iapply (wp_load 𝒱₀ (c : Thread nD τ) (some (k + 1)) E (m := Memref.whole cc0_scratch0) (Finset.subset_univ _)) $$ Hr; iintro Hr
      iapply (wp_load 𝒱₀ (c : Thread nD τ) (some (k + 1)) E (m := Memref.whole cc0_scratch0) (Finset.subset_univ _)) $$ Hr; iintro Hr
      iapply (wp_load 𝒱₀ (c : Thread nD τ) (some (k + 1)) E (m := Memref.whole cc0_scratch1) (Finset.subset_univ _)) $$ Ha; iintro Ha
      iapply (wp_load 𝒱₀ (c : Thread nD τ) (some (k + 1)) E (m := Memref.whole cc0_scratch1) (Finset.subset_univ _)) $$ Ha; iintro Ha
      iapply (wp_store 𝒱₀ (c : Thread nD τ) (some (k + 1)) E (m := Memref.whole cc0_scratch1) (r := rQ) (Mk := Finset.univ) (Finset.subset_univ _)) $$ Ha; iintro Ha
      iapply (wp_load 𝒱₀ (c : Thread nD τ) (some (k + 1)) E (m := Memref.whole cc0_scratch0) (Finset.subset_univ _)) $$ Hr; iintro Hr
      iapply (wp_store 𝒱₀ (c : Thread nD τ) (some (k + 1)) E (m := Memref.whole cc0_scratch0) (r := rR) (Mk := Finset.univ) (Finset.subset_univ _)) $$ Hr; iintro Hr
      rw [storeA, storeR, loadR, loadA, ctr_pred k hk']
      iapply (wp_call_spec 𝒱₀ (c : Thread nD τ) (some (k + 1)) E
        (spec c q mm arg3 arg4 (arg3.view.read (Elt F) f3) (arg4.view.read (Elt F) f4) k (by omega) (xNext q mm (arg3.view.read (Elt F) f3) k hk' r)
          (rNext q mm (arg3.view.read (Elt F) f3) k hk' r) (aNext q mm (arg3.view.read (Elt F) f3) (arg4.view.read (Elt F) f4) k hk' r a)) k
        (fun u hu => by cases hu; exact Nat.lt_succ_self k)
        (ih (by omega) _ _ _))
      rw [spec_apply]; unfold held owns
      isplitl [H3 H4 Hr Ha]
      · isplitl [H3]
        · iexists f3; isplitr; · ipureintro; rfl
          iexact H3
        isplitl [H4]
        · iexists f4; isplitr; · ipureintro; rfl
          iexact H4
        isplitl [Hr]; · iexact Hr
        iexact Ha
      iintro %w H
      rw [wp_ret]; imodintro
      iapply Hk
      iexact H
    · have hw : walk q mm K V (k + 1) hk x r a = (r, a) := by rw [walk, if_neg htest]
      rw [hw]
      simp only [htest, ↓reduceIte, Prog.pure_eq_ret]
      iintro ⟨H, Hk⟩
      rw [wp_ret]; imodintro
      iapply Hk
      iexact H

end Label

/-! ## The body -/

/-- The stored block covers the result's buffer. -/
theorem coverQ (p0 : Vec F S256x128 .bf16) (y : S256x128.Idx) :
    ∃ pc ∈ ([⟨rQ, p0⟩] : List (View.Piece (Elt F) S256x128 .bf16)), y ∈ pc.1.set :=
  View.cover_of_tiled [⟨rQ, p0⟩] S256x128.size (by rfl) y

set_option maxHeartbeats 800000 in
/-- The body on whole buffers, the four inputs' at `x0` … `x3`, the result's and the two running buffers' at anything:
    the inputs stay as they were and the result's buffer holds `block`. -/
theorem sound_kernel (c : Dev nD) (i : grid0.Coords) (arg2 : Memref sig .tc .vmem S256x128 .bf16) (harg2 : arg2.IsWhole)
    (arg3 : Memref sig .tc .vmem S16384x128 .bf16) (harg3 : arg3.IsWhole) (arg4 : Memref sig .tc .vmem S16384x128 .bf16) (harg4 : arg4.IsWhole)
    (arg5 : Memref sig .tc .vmem S256x512 .bf16) (harg5 : arg5.IsWhole) (arg6 : Memref sig .tc .vmem S256x128 .bf16) (harg6 : arg6.IsWhole)
    (x0 : Vec F S256x128 .bf16) (x1 x2 : Vec F S16384x128 .bf16) (x3 : Vec F S256x512 .bf16) (Q : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (block i x0 x1 x2 x3)
            ∗ (∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)) -∗ Q ⟨⟩))
      ⊢ wp frame (wpE (defs₀ (F := F)) 𝒱₀ (c : Thread nD τ) none) Set.univ
          (cc0_stickbreak_attn i arg2 harg2 arg3 harg3 arg4 harg4 arg5 harg5 arg6 harg6 (Memref.whole cc0_scratch0) (Memref.isWhole_whole _)
            (Memref.whole cc0_scratch1) (Memref.isWhole_whole _)) Q := by
  simp only [cc0_stickbreak_attn_eq_skeleton]; unfold cc0_stickbreak_attn_skel
  simp only [k0_part1_eq_skeleton]; unfold k0_part1_skel
  simp only [Prog.lift, Prog.bind_op, Prog.bind_ret, Prog.pure_eq_ret]
  unfold owns
  iintro ⟨⟨%f0, %hf0, H0⟩, ⟨%f1, %hf1, H1⟩, ⟨%f2, %hf2, H2⟩, ⟨%f3, %hf3, H3⟩, ⟨%d4, %f4, -, H4⟩, ⟨%fr, Hr⟩, ⟨%fa, Ha⟩, Hk⟩
  subst hf0 hf1 hf2 hf3
  iapply (wp_load 𝒱₀ (c : Thread nD τ) none Set.univ (m := arg2) (View.setOn_subset_set _ _)) $$ H0; iintro H0
  iapply (wp_load 𝒱₀ (c : Thread nD τ) none Set.univ (m := arg5) (View.setOn_subset_set _ _)) $$ H3; iintro H3
  iapply (wp_load 𝒱₀ (c : Thread nD τ) none Set.univ (m := arg3) (View.setOn_subset_set _ _)) $$ H1; iintro H1
  iapply (wp_load 𝒱₀ (c : Thread nD τ) none Set.univ (m := arg4) (View.setOn_subset_set _ _)) $$ H2; iintro H2
  iapply (wp_load 𝒱₀ (c : Thread nD τ) none Set.univ (m := Memref.whole cc0_scratch1) (Finset.subset_univ _)) $$ Ha; iintro Ha
  iapply (wp_store 𝒱₀ (c : Thread nD τ) none Set.univ (m := Memref.whole cc0_scratch1) (r := rQ) (Mk := Finset.univ) (Finset.subset_univ _)) $$ Ha; iintro Ha
  iapply (wp_load 𝒱₀ (c : Thread nD τ) none Set.univ (m := Memref.whole cc0_scratch0) (Finset.subset_univ _)) $$ Hr; iintro Hr
  iapply (wp_store 𝒱₀ (c : Thread nD τ) none Set.univ (m := Memref.whole cc0_scratch0) (r := rR) (Mk := Finset.univ) (Finset.subset_univ _)) $$ Hr; iintro Hr
  rw [storeA, storeR]
  iapply (wp_call_spec 𝒱₀ (c : Thread nD τ) none Set.univ
    (spec c (View.ld (arg2.view.read (Elt F) f0) rQ) (k0_pay8 (View.ld (arg5.view.read (Elt F) f3) rM)) arg3 arg4
      (arg3.view.read (Elt F) f1) (arg4.view.read (Elt F) f2) (i 1).val (Nat.le_of_lt (i 1).isLt)
      (k0_pay3 (k0_pay14 (View.ld (arg2.view.read (Elt F) f0) rQ) (View.ld (arg5.view.read (Elt F) f3) rM) (View.ld (arg3.view.read (Elt F) f1) (rD i))))
      (k0_pay2 (k0_pay14 (View.ld (arg2.view.read (Elt F) f0) rQ) (View.ld (arg5.view.read (Elt F) f3) rM) (View.ld (arg3.view.read (Elt F) f1) (rD i))))
      (k0_pay1 (k0_pay13 (View.ld (arg2.view.read (Elt F) f0) rQ) (View.ld (arg5.view.read (Elt F) f3) rM) (View.ld (arg3.view.read (Elt F) f1) (rD i)) (View.ld (arg4.view.read (Elt F) f2) (rD i)))))
    (i 1).val (fun u hu => nomatch hu)
    (spec_le c i _ _ arg3 harg3 arg4 harg4 _ _ Set.univ (i 1).val (Nat.le_of_lt (i 1).isLt) _ _ _))
  rw [spec_apply]; unfold held owns
  isplitl [H1 H2 Hr Ha]
  · isplitl [H1]
    · iexists f1; isplitr; · ipureintro; rfl
      iexact H1
    isplitl [H2]
    · iexists f2; isplitr; · ipureintro; rfl
      iexact H2
    isplitl [Hr]; · iexact Hr
    iexact Ha
  iintro %w ⟨H1, H2, Hr, Ha⟩
  iapply (wp_load 𝒱₀ (c : Thread nD τ) none Set.univ (m := Memref.whole cc0_scratch1) (Finset.subset_univ _)) $$ Ha; iintro Ha
  iapply (wp_load 𝒱₀ (c : Thread nD τ) none Set.univ (m := arg6) (View.setOn_subset_set _ _)) $$ H4; iintro H4
  iapply (wp_store 𝒱₀ (c : Thread nD τ) none Set.univ (m := arg6) (r := rQ) (Mk := Finset.univ) (View.set_slice_subset _ _)) $$ H4; iintro H4
  rw [loadA, wp_ret]; imodintro
  iapply Hk
  isplitl [H0]
  · iexists f0; isplitr; · ipureintro; rfl
    iexact H0
  isplitl [H1]; · iexact H1
  isplitl [H2]; · iexact H2
  isplitl [H3]
  · iexists f3; isplitr; · ipureintro; rfl
    iexact H3
  isplitl [H4]
  · iexists _; isplitr
    swap; · iexact H4
    ipureintro
    exact View.read_writes_eq_canon arg6.view f4 _ (coverQ _)
  isplitl [Hr]; · iexists _; iexact Hr
  iexists _; iexact Ha

end Cert.AttnIdeal.Hand

end
-- ==== Proof.AttnIdeal.Run.lean ====
/-
  The attention program's run: the host operations, then the call, whose result is written block by block.
-/
module

public import proofs.«01_k».proof.Proof.AttnIdeal.Frame
public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to the call -/

/-- The buffers when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is its host operations, then the call. -/
theorem hmain : Pipeline.HMain (Ix := Unit) (Name := ℕ) (U := UR sig nD τ) (Lvl := ℕ) (cfgs (F := F)) 0 defs₀ 𝒱₀ m (main (F := F)) (V m) :=
  Pipeline.hmain_prefix cfgs 0 defs₀ 𝒱₀ m main hostOps0 hostOps0_sub hostOps0_fresh main_chain

/-- No host operation writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The blocks -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: every input's buffer stays at its block, the result's is left at `block` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block (grid0.coords t) (iblk m c 0 t) (iblk m c 1 t) (iblk m c 2 t) (iblk m c 3 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t
    = block (grid0.coords t) (iblk m c 0 t) (iblk m c 1 t) (iblk m c 2 t) (iblk m c 3 t) := by dsimp only [dats]; rfl

/-- Each input's buffer holds its block at every point, whether fetched there or before. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point runs from the one to the other. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4,
    show (dats m 0 c).Φ t.castSucc = Pipeline.ΦA spec0 c from rfl]
  unfold Pipeline.ΦA
  rw [scopedRest0_eq]
  iintro ⟨⟨⟨Hr, Ha⟩, Hp⟩, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [Hr]; · iexact Hr
  isplitl [Ha]; · iexact Ha
  iintro ⟨H0, H1, H2, H3, H4, Hr, Ha⟩
  isplitl [Hr Ha Hp]
  · isplitl [Hr Ha]
    · isplitl [Hr]; · iexact Hr
      iexact Ha
    iexact Hp
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The program runs to the library's result, and every semaphore counter is zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

/-- The program runs to the library's result. -/
theorem run_main : θ_run defs (onTc (τ := τ) (main (F := F))) (s₀ m ρ) (Pipeline.FramePost cfgs (dats m) 0 (V m)) :=
  (θ_run defs _ _).mono (fun _ h => h.1) (run_main_quiescent m ρ)

/-- The argument ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans ((A_eq m c 0).trans (V_main_arg0 m c)))) (run_main m ρ)

/-- The program terminates without fault, its argument ends unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.AttnIdeal.Hand

end
-- ==== Proof.AttnIdeal.Math.lean ====
/-
  The stick-breaking weights over the extended reals: what is left of the stick after a key, the sum of that over the later keys,
  and a query's sum of weighted values, which falls apart into tiles of 256 keys.
-/
module

public import Idealize.ShloMosaic.Lib.Pipeline.ValueKit

@[expose] public section

noncomputable section

open Idealize.ShloMosaic

namespace Cert.AttnMath

/-- The logarithm of what a key at product `x` leaves: `log (1 - sigmoid x)`. -/
def ell (x : EReal) : EReal := min (-x) 0 - Ideal.log1p (Ideal.exp (-max x (-x)))

/-- The logarithm of the sigmoid. -/
def logSig (x : EReal) : EReal := -(max (-x) 0 + Ideal.log1p (Ideal.exp (-max (-x) x)))

/-- `ell` of a real. -/
def ellR (x : ℝ) : ℝ := min (-x) 0 - Real.log (1 + Real.exp (-|x|))

/-- The logarithm of what key `s` leaves to the earlier keys of query `t`; a key that is not before the query leaves all. -/
def left (z : ℕ → EReal) (t s : ℕ) : EReal := if s < t then ell (z s) else 0

/-- The sum over the keys from `s` on. -/
def tail (f : ℕ → EReal) (s : ℕ) : EReal := ∑ j ∈ Finset.Ico s 16384, f j

/-- The weight of key `s` in query `t`. -/
def weight (z : ℕ → EReal) (t s : ℕ) : EReal :=
  if s < t then Ideal.exp (z s + ell (z s) + tail (left z t) (s + 1)) else 0

/-- The sum of the weighted values of the keys from `s` on. -/
def mixed (z : ℕ → EReal) (v : ℕ → EReal) (t s : ℕ) : EReal := ∑ j ∈ Finset.Ico s 16384, weight z t j * v j

/-- The minimum of two reals, read among the extended reals. -/
theorem coe_min' (a b : ℝ) : ((min a b : ℝ) : EReal) = min (a : EReal) (b : EReal) := EReal.coe_strictMono.monotone.map_min

/-- The maximum of two reals, read among the extended reals. -/
theorem coe_max' (a b : ℝ) : ((max a b : ℝ) : EReal) = max (a : EReal) (b : EReal) := EReal.coe_strictMono.monotone.map_max

/-- The kernel's logarithm of one and the exponential. -/
theorem log1p_exp (x : ℝ) : Ideal.log1p (Ideal.exp (x : EReal)) = ((Real.log (1 + Real.exp x) : ℝ) : EReal) := by
  have h : (0 : ℝ) < 1 + Real.exp x := by positivity
  rw [Ideal.exp_coe, Ideal.log1p, ← EReal.coe_one, ← EReal.coe_add, Ideal.log_coe, if_neg (not_le.mpr h)]

/-- The kernel's term for `ell`. -/
theorem ell_kernel (x : EReal) : min (0 - x) 0 - Ideal.log1p (Ideal.exp (0 - max x (-x))) = ell x := by
  rw [zero_sub, zero_sub, ell]

/-- The same of minus infinity. -/
theorem log1p_bot : Ideal.log1p (Ideal.exp ⊥) = 0 := by
  rw [Ideal.exp_bot, Ideal.log1p, add_zero, ← EReal.coe_one, Ideal.log_coe, if_neg (by norm_num), Real.log_one, EReal.coe_zero]

/-- What a real product leaves, -/
theorem ell_coe (x : ℝ) : ell (x : EReal) = (ellR x : EReal) := by
  have h : -max (x : EReal) (-(x : EReal)) = ((-|x| : ℝ) : EReal) := by
    rw [← EReal.coe_neg, ← coe_max', ← EReal.coe_neg]; rfl
  rw [ell, h, log1p_exp, ← EReal.coe_neg, ← EReal.coe_zero, ← coe_min', ← EReal.coe_sub, ellR]
/-- the greatest leaves nothing, -/
theorem ell_top : ell ⊤ = ⊥ := by
  rw [ell, EReal.neg_top, max_eq_left bot_le, EReal.neg_top, log1p_bot, min_eq_left bot_le, sub_zero]
/-- and the least leaves all. -/
theorem ell_bot : ell ⊥ = 0 := by
  rw [ell, EReal.neg_bot, max_eq_right bot_le, EReal.neg_top, log1p_bot, min_eq_right le_top, sub_zero]

/-- What is left is never infinite. -/
theorem ell_ne_top (x : EReal) : ell x ≠ ⊤ := by
  induction x using EReal.rec with
  | bot => rw [ell_bot]; exact EReal.zero_ne_top
  | top => rw [ell_top]; exact bot_ne_top
  | coe y => rw [ell_coe]; exact EReal.coe_ne_top _

/-- The logarithm of the sigmoid of a real, -/
theorem logSig_coe (x : ℝ) : logSig (x : EReal) = ((x + ellR x : ℝ) : EReal) := by
  have h : -max (-(x : EReal)) (x : EReal) = ((-|x| : ℝ) : EReal) := by
    rw [max_comm, ← EReal.coe_neg, ← coe_max', ← EReal.coe_neg]; rfl
  rw [logSig, h, log1p_exp, ← EReal.coe_neg, ← EReal.coe_zero, ← coe_max', ← EReal.coe_add, ← EReal.coe_neg, ellR]
  congr 1
  rcases le_total x 0 with h | h
  · rw [min_eq_right (by linarith), max_eq_left (by linarith)]; ring
  · rw [min_eq_left (by linarith), max_eq_right (by linarith)]; ring
/-- of the greatest, -/
theorem logSig_top : logSig ⊤ = 0 := by
  rw [logSig, EReal.neg_top, max_eq_right bot_le, max_eq_right bot_le, EReal.neg_top, log1p_bot, add_zero, neg_zero]
/-- and of the least. -/
theorem logSig_bot : logSig ⊥ = ⊥ := by
  rw [logSig, EReal.neg_bot, max_eq_left bot_le, max_eq_left le_top, EReal.neg_top, log1p_bot, add_zero, EReal.neg_top]

/-- What a key leaves is the logarithm of the sigmoid of the negated product. -/
theorem logSig_neg (x : EReal) : logSig (-x) = ell x := by
  induction x using EReal.rec with
  | bot => rw [EReal.neg_bot, logSig_top, ell_bot]
  | top => rw [EReal.neg_top, logSig_bot, ell_top]
  | coe y =>
    rw [← EReal.coe_neg, logSig_coe, ell_coe]
    congr 1
    unfold ellR
    rw [neg_neg, abs_neg]
    rcases le_total y 0 with h | h
    · rw [min_eq_left h, min_eq_right (by linarith)]; ring
    · rw [min_eq_right h, min_eq_left (by linarith)]; ring

/-- The reference's exponent is the kernel's: it adds the key's own term to the later ones and takes it away again. -/
theorem exponent (x τ : EReal) : logSig x + (ell x + τ - ell x) = x + ell x + τ := by
  induction x using EReal.rec with
  | bot => rw [logSig_bot, ell_bot, EReal.bot_add, EReal.bot_add, EReal.bot_add]
  | top => rw [ell_top, EReal.bot_add, EReal.bot_sub, EReal.add_bot, EReal.add_bot, EReal.bot_add]
  | coe y => rw [logSig_coe, ell_coe, add_comm (ellR y : EReal) τ, EReal.add_sub_cancel_right, EReal.coe_add]

/-- A term and what its rounding left is the term. -/
theorem add_sub_self (a : EReal) (h : a ≠ ⊤) : a + (a - a) = a := by
  induction a using EReal.rec with
  | bot => exact EReal.bot_add _
  | top => exact absurd rfl h
  | coe y => rw [← EReal.coe_sub, sub_self, EReal.coe_zero, add_zero]

/-- The tail at a key is the key's term and the tail after it. -/
theorem tail_succ (f : ℕ → EReal) (s : ℕ) (h : s < 16384) : tail f s = f s + tail f (s + 1) := Finset.sum_eq_sum_Ico_succ_bot h f

/-- The tail from a tile's first key is the tile's sum and the tail after the tile. -/
theorem tail_tile (f : ℕ → EReal) (k : ℕ) (h : k < 64) :
    tail f (k * 256) = ∑ j : Fin 256, f (k * 256 + j.val) + tail f ((k + 1) * 256) := by
  unfold tail
  rw [← Finset.sum_Ico_consecutive f (show k * 256 ≤ (k + 1) * 256 by omega) (show (k + 1) * 256 ≤ 16384 by omega),
    Finset.sum_Ico_eq_sum_range, show (k + 1) * 256 - k * 256 = 256 by omega, Finset.sum_range]

/-- The tail after a key is the sum over the later keys of its tile and the tail after the tile. -/
theorem tail_in_tile (f : ℕ → EReal) (k : ℕ) (h : k < 64) (c : Fin 256) :
    tail f (k * 256 + c.val + 1) = ∑ j : Fin 256, (if c.val < j.val then f (k * 256 + j.val) else 0) + tail f ((k + 1) * 256) := by
  have hc := c.isLt
  unfold tail
  rw [← Finset.sum_Ico_consecutive f (show k * 256 + c.val + 1 ≤ (k + 1) * 256 by omega) (show (k + 1) * 256 ≤ 16384 by omega)]
  congr 1
  rw [← Finset.sum_range (fun j => if c.val < j then f (k * 256 + j) else 0), ← Finset.sum_filter, Finset.sum_Ico_eq_sum_range]
  rw [show (k + 1) * 256 - (k * 256 + c.val + 1) = 256 - (c.val + 1) by omega]
  have e : (Finset.range 256).filter (fun j => c.val < j) = Finset.Ico (c.val + 1) 256 := by
    ext j; simp only [Finset.mem_filter, Finset.mem_range, Finset.mem_Ico]; omega
  rw [e, Finset.sum_Ico_eq_sum_range]
  exact Finset.sum_congr rfl fun j _ => by rw [show k * 256 + c.val + 1 + j = k * 256 + (c.val + 1 + j) by omega]

/-- The weighted values from a tile's first key are the tile's and those after the tile. -/
theorem mixed_tile (z : ℕ → EReal) (v : ℕ → EReal) (t k : ℕ) (h : k < 64) :
    mixed z v t (k * 256) = mixed z v t ((k + 1) * 256) + ∑ j : Fin 256, weight z t (k * 256 + j.val) * v (k * 256 + j.val) := by
  unfold mixed
  rw [← Finset.sum_Ico_consecutive _ (show k * 256 ≤ (k + 1) * 256 by omega) (show (k + 1) * 256 ≤ 16384 by omega), add_comm]
  congr 1
  rw [Finset.sum_Ico_eq_sum_range, show (k + 1) * 256 - k * 256 = 256 by omega, Finset.sum_range]

/-- Keys from the query on leave all, -/
theorem tail_late (z : ℕ → EReal) (t s : ℕ) (h : t ≤ s) : tail (left z t) s = 0 :=
  Finset.sum_eq_zero fun j hj => if_neg (by have := (Finset.mem_Ico.mp hj).1; omega)
/-- and have no weight. -/
theorem mixed_late (z : ℕ → EReal) (v : ℕ → EReal) (t s : ℕ) (h : t ≤ s) : mixed z v t s = 0 :=
  Finset.sum_eq_zero fun j hj => by
    rw [weight, if_neg (by have := (Finset.mem_Ico.mp hj).1; omega), zero_mul]

/-- Once the later keys leave nothing, the earlier ones have no weight. -/
theorem mixed_dead (z : ℕ → EReal) (v : ℕ → EReal) (t s : ℕ) (hs : s ≤ 16384) (h : tail (left z t) s = ⊥) : mixed z v t s = mixed z v t 0 := by
  unfold mixed
  rw [← Finset.sum_Ico_consecutive _ (Nat.zero_le s) hs]
  refine (zero_add _).symm.trans (congrArg (· + _) (Finset.sum_eq_zero fun j hj => ?_).symm)
  have hj' := (Finset.mem_Ico.mp hj).2
  have hb : tail (left z t) (j + 1) = ⊥ := by
    unfold tail at h ⊢
    rw [← Finset.sum_Ico_consecutive _ (Nat.succ_le_of_lt hj') hs, h, EReal.add_bot]
  rw [weight, hb, EReal.add_bot, Ideal.exp_bot, ite_self, zero_mul]

end Cert.AttnMath

end
-- ==== Proof.AttnIdeal.Pure.lean ====
/- The attention body's pure part: what each payload is, entry by entry. -/
module

public import proofs.«01_k».proof.Proof.Gen.AttnIdeal.Skeleton
public import proofs.«01_k».proof.Proof.AttnIdeal.Math
public import Idealize.ShloMosaic.Lib.WordCmp

@[expose] public section

set_option maxRecDepth 16384

noncomputable section

open Idealize.ShloMosaic Idealize.ShloMosaic.TcCoe Idealize.SL.Sem

namespace Cert.AttnIdeal.Pure

open Cert.AttnIdeal Cert.AttnIdeal.Gen Cert.AttnMath

/-- The matrix that adds up later keys in its left half and all keys in its right half. -/
def IsSums (mm : FVec Ideal S256x512 .bf16) : Prop :=
  (∀ j c : Fin 256, mm (ix2 j ⟨c.val, by omega⟩) = if c.val < j.val then 1 else 0) ∧ ∀ j c : Fin 256, mm (ix2 j ⟨256 + c.val, by omega⟩) = 1

/-- A choice between words of positions in a tile is the choice between the positions. -/
theorem select_lt {α : Type} (c r : Fin 256) (a b : α) :
    Scalar.select (IntOp.cmpi .slt (BitVec.ofNat 32 c.val) (BitVec.ofNat 32 r.val)) a b = if c.val < r.val then a else b := by
  have h := WordCmp.cmpi_slt_ofNat_eq_one_iff (w := 32) (a := c.val) (b := r.val) (by omega) (by omega)
  rw [Scalar.select]
  by_cases hcr : c.val < r.val
  · rw [if_pos hcr]; exact if_pos (h.mpr hcr)
  · rw [if_neg hcr]; exact if_neg fun e => hcr (h.mp e)

/-- The sum over the later keys of a tile, with the sum over what its rounding left, -/
theorem sum_later (a : Fin 256 → EReal) (ha : ∀ x, a x ≠ ⊤) (c : Fin 256) :
    (∑ x : Fin 256, a x * (if c.val < x.val then 1 else 0)) + ∑ x : Fin 256, (a x - a x) * (if c.val < x.val then 1 else 0)
      = ∑ x : Fin 256, if c.val < x.val then a x else 0 := by
  rw [← Finset.sum_add_distrib]
  refine Finset.sum_congr rfl fun x _ => ?_
  split
  · rw [mul_one, mul_one, add_sub_self _ (ha x)]
  · rw [mul_zero, mul_zero, add_zero]

/-- and over all its keys. -/
theorem sum_all (a : Fin 256 → EReal) (ha : ∀ x, a x ≠ ⊤) :
    (∑ x : Fin 256, a x * 1) + ∑ x : Fin 256, (a x - a x) * 1 = ∑ x : Fin 256, a x := by
  rw [← Finset.sum_add_distrib]
  refine Finset.sum_congr rfl fun x _ => ?_
  rw [mul_one, mul_one, add_sub_self _ (ha x)]

/-- What the earlier keys of a tile leave is never infinite. -/
theorem early_ne_top (p : Prop) [Decidable p] (x : EReal) : (if p then ell x else 0) ≠ ⊤ := by
  split
  · exact ell_ne_top x
  · exact EReal.zero_ne_top

section Tile

variable (q kk vv : FVec Ideal S256x128 .bf16) (mm : FVec Ideal S256x512 .bf16) (hm : IsSums mm)

/-- The products at an entry, -/
theorem pay15_at (r c : Fin 256) : k0_pay15 (F := Ideal) q kk (ix2 r c) = ∑ d : Fin 128, q (ix2 r d) * kk (ix2 c d) := by
  pointwise [k0_pay15]
/-- and in the diagonal tile. -/
theorem pay10_at (r c : Fin 256) : k0_pay10 (F := Ideal) q kk (ix2 r c) = ∑ d : Fin 128, q (ix2 r d) * kk (ix2 c d) := by
  pointwise [k0_pay10]

variable (z : Fin 256 → Fin 256 → EReal) (hz : ∀ r c, (∑ d : Fin 128, q (ix2 r d) * kk (ix2 c d) : EReal) = z r c)

include hz in
/-- What the keys leave. -/
theorem pay16_at (r c : Fin 256) : k0_pay16 (F := Ideal) q kk (ix2 r c) = ell (z r c) := by
  pointwise [k0_pay16, pay15_at]
  rw [hz]
  exact ell_kernel _

include hz in
/-- What the keys leave, in the diagonal tile. -/
theorem pay11_at (r c : Fin 256) : k0_pay11 (F := Ideal) q kk (ix2 r c) = (if c.val < r.val then ell (z r c) else 0) := by
  pointwise [k0_pay11, pay10_at, k0_pay9]
  rw [hz]
  refine (select_lt c r _ _).trans ?_
  split
  · exact ell_kernel _
  · rfl

include hz hm in
/-- The sum over the later keys of a tile, -/
theorem pay17_later (r c : Fin 256) : k0_pay17 (F := Ideal) q mm kk (ix2 r ⟨c.val, by omega⟩) =
    ∑ x : Fin 256, if c.val < x.val then ell (z r x) else 0 := by
  pointwise [k0_pay17]
  simp only [pay16_at q kk z hz, hm.1]
  exact sum_later (fun x => ell (z r x)) (fun x => ell_ne_top _) c

include hz hm in
/-- over all its keys, -/
theorem pay17_all (r c : Fin 256) : k0_pay17 (F := Ideal) q mm kk (ix2 r ⟨256 + c.val, by omega⟩) =
    ∑ x : Fin 256, ell (z r x) := by
  pointwise [k0_pay17]
  simp only [pay16_at q kk z hz, hm.2]
  exact sum_all (fun x => ell (z r x)) (fun x => ell_ne_top _)

include hz hm in
/-- and both in the diagonal tile. -/
theorem pay12_later (r c : Fin 256) : k0_pay12 (F := Ideal) q mm kk (ix2 r ⟨c.val, by omega⟩) =
    ∑ x : Fin 256, if c.val < x.val then (if x.val < r.val then ell (z r x) else 0) else 0 := by
  pointwise [k0_pay12, k0_pay8]
  simp only [pay11_at q kk z hz, hm.1]
  exact sum_later (fun x => if x.val < r.val then ell (z r x) else 0) (fun x => early_ne_top _ _) c

include hz hm in
/-- The same over all keys of the diagonal tile. -/
theorem pay12_all (r c : Fin 256) : k0_pay12 (F := Ideal) q mm kk (ix2 r ⟨256 + c.val, by omega⟩) =
    ∑ x : Fin 256, if x.val < r.val then ell (z r x) else 0 := by
  pointwise [k0_pay12, k0_pay8]
  simp only [pay11_at q kk z hz, hm.2]
  exact sum_all (fun x => if x.val < r.val then ell (z r x) else 0) (fun x => early_ne_top _ _)

include hz hm in
/-- What the diagonal tile leaves. -/
theorem pay14_at (r c : Fin 256) : k0_pay14 (F := Ideal) q mm kk (ix2 r c) =
    ∑ x : Fin 256, if x.val < r.val then ell (z r x) else 0 := by
  refine Eq.trans ?_ (pay12_all q kk mm hm z hz r c)
  pointwise [k0_pay14]

include hz hm in
/-- The diagonal tile's sum of weighted values. -/
theorem pay13_at (r : Fin 256) (c : Fin 128) : k0_pay13 (F := Ideal) q mm kk vv (ix2 r c) =
    (∑ x : Fin 256, (if x.val < r.val then Ideal.exp (z r x + ell (z r x) +
      ∑ y : Fin 256, if x.val < y.val then (if y.val < r.val then ell (z r y) else 0) else 0) else 0) * vv (ix2 x c) : EReal) := by
  pointwise [k0_pay13, k0_pay9, pay10_at]
  refine Finset.sum_congr rfl fun x _ => ?_
  rw [select_lt, pay11_at q kk z hz, pay12_later q kk mm hm z hz, hz]
  by_cases h : x.val < r.val
  · rw [if_pos h, if_pos h, if_pos h]
  · rw [if_neg h, if_neg h]
    exact (zero_mul _).symm

variable (R : FVec Ideal S256x256 .f32) (ρ : Fin 256 → EReal) (hR : ∀ r c, R (ix2 r c) = ρ r) (A : FVec Ideal S256x128 .f32)

include hz hm hR in
/-- What the tiles so far leave, one tile on. -/
theorem pay18_at (r c : Fin 256) : k0_pay18 (F := Ideal) q mm kk R (ix2 r c) = ρ r + ∑ x : Fin 256, ell (z r x) := by
  pointwise [k0_pay18]
  rw [pay17_all q kk mm hm z hz, hR]

include hz hm hR in
/-- The sum of weighted values so far, one tile on. -/
theorem pay19_at (r : Fin 256) (c : Fin 128) : k0_pay19 (F := Ideal) q mm kk vv R A (ix2 r c) =
    (A (ix2 r c) + ∑ x : Fin 256, Ideal.exp (z r x + ell (z r x) +
      (∑ y : Fin 256, if x.val < y.val then ell (z r y) else 0) + ρ r) * vv (ix2 x c) : EReal) := by
  pointwise [k0_pay19, pay15_at]
  refine congrArg ((A (ix2 r c) : EReal) + ·) (Finset.sum_congr rfl fun x _ => ?_)
  rw [pay16_at q kk z hz, pay17_later q kk mm hm z hz, hz, hR]

/-- No entry is above the greatest. -/
theorem pay7_at (r c : Fin 256) : (R (ix2 r c) : EReal) ≤ k0_pay7 (F := Ideal) R := by
  have h : k0_pay7 (F := Ideal) R = Finset.fold max (Ideal.ofBits .f32 4286578688#32 : EReal) (fun x : Fin 256 × Fin 256 => (R (ix2 x.1 x.2) : EReal)) Finset.univ := by
    pointwise [k0_pay7]
  rw [h]
  exact (Finset.le_fold_max (b := _) (f := _) (s := Finset.univ) _).mpr (Or.inr ⟨(r, c), Finset.mem_univ _, le_rfl⟩)

/-- The same after the diagonal tile. -/
theorem pay3_at (r c : Fin 256) : (R (ix2 r c) : EReal) ≤ k0_pay3 (F := Ideal) R := by
  have h : k0_pay3 (F := Ideal) R = Finset.fold max (Ideal.ofBits .f32 4286578688#32 : EReal) (fun x : Fin 256 × Fin 256 => (R (ix2 x.1 x.2) : EReal)) Finset.univ := by
    pointwise [k0_pay3]
  rw [h]
  exact (Finset.le_fold_max (b := _) (f := _) (s := Finset.univ) _).mpr (Or.inr ⟨(r, c), Finset.mem_univ _, le_rfl⟩)

end Tile

end Cert.AttnIdeal.Pure

end
-- ==== Proof.AttnIdeal.Walk.lean ====
/-
  What the attention body leaves over the extended reals: its loop ends early only when the later keys leave nothing to any
  query of the block, so each query gets its whole sum of weighted values.
-/
module

public import proofs.«01_k».proof.Proof.AttnIdeal.Frame
public import proofs.«01_k».proof.Proof.AttnIdeal.Pure

@[expose] public section

set_option maxRecDepth 16384

noncomputable section

open Idealize.ShloMosaic Idealize.ShloMosaic.TcCoe Idealize.SL.Sem

namespace Cert.AttnIdeal.Walk

open Cert.AttnIdeal Cert.AttnIdeal.Gen Cert.AttnIdeal.Hand Cert.AttnIdeal.Pure Cert.AttnMath

/-- Where tile `k` starts, -/
theorem off2_eq : ∀ k < 64, ∀ a, k0_off2 (BitVec.ofNat 32 k) a = if a = 0 then k * 256 else 0 := by decide +kernel
/-- and where the diagonal tile does. -/
theorem off1_eq (i : grid0.Coords) (a : Fin 2) : k0_off1 i a = if a = 0 then (i 1).val * 256 else 0 :=
  off2_eq (i 1).val (i 1).isLt a

/-- Tile `k` of an array, -/
abbrev tileT (X : FVec Ideal S16384x128 .bf16) (k : ℕ) (hk : k < 64) : FVec Ideal S256x128 .bf16 :=
  View.ld (Val := Elt Ideal) (e' := .bf16) X (rT k hk)
/-- and the diagonal tile. -/
abbrev tileD (X : FVec Ideal S16384x128 .bf16) (i : grid0.Coords) : FVec Ideal S256x128 .bf16 :=
  View.ld (Val := Elt Ideal) (e' := .bf16) X (rD i)

/-- The former at an entry, -/
theorem ldT (X : FVec Ideal S16384x128 .bf16) (k : ℕ) (hk : k < 64) (c : Fin 256) (d : Fin 128) :
    tileT X k hk (ix2 c d) = X (ix2 ⟨k * 256 + c.val, by omega⟩ d) :=
  View.ld_unit_apply_of (Val := Elt Ideal) (e := .bf16) X _ _ _ _ _ fun a => by
    have h : k0_off2 (ctr (k + 1)) a = if a = 0 then k * 256 else 0 := by rw [ctr_succ k hk, off2_eq k hk]
    refine Eq.trans ?_ (congrArg (· + _) h.symm)
    fin_cases a
    · rfl
    · exact (Nat.zero_add _).symm

/-- and the latter. -/
theorem ldD (X : FVec Ideal S16384x128 .bf16) (i : grid0.Coords) (h : ∀ c : Fin 256, (i 1).val * 256 + c.val < 16384) (c : Fin 256) (d : Fin 128) :
    tileD X i (ix2 c d) = X (ix2 ⟨(i 1).val * 256 + c.val, h c⟩ d) :=
  View.ld_unit_apply_of (Val := Elt Ideal) (e := .bf16) X _ _ _ _ _ fun a => by
    refine Eq.trans ?_ (congrArg (· + _) (off1_eq i a).symm)
    fin_cases a
    · rfl
    · exact (Nat.zero_add _).symm

/-- The loop's test holds while a tile is left and the greatest entry is above the bottom. -/
theorem test_holds (k : ℕ) (hk : k < 64) (x : EReal) (hx : ⊥ < x) : test (F := Ideal) (ctr (k + 1)) x = 1#1 := by
  have h1 : ∀ k < 64, Scalar.cmpi .sge (BitVec.ofNat 32 k) 0#32 = 1#1 := by decide +kernel
  have h2 : Scalar.cmpf (F := Ideal) (φ := .f32) .ogt x (Named.named κ "log_zero" 0xC2D00000#32) = 1#1 := by
    rw [IdealRules.named_const.ideal_named_scalar _ _ _ _ rfl]
    rw [Ideal.scalar_cmpf_def]
    simp [Ideal.cmp, hx]
  unfold test
  rw [ctr_succ k hk, h1 k hk, h2]
  rfl

/-- It fails when the greatest entry is the bottom. -/
theorem test_fails (k : ℕ) (x : EReal) (hx : ¬⊥ < x) : ¬test (F := Ideal) (ctr (k + 1)) x = 1#1 := by
  have h2 : Scalar.cmpf (F := Ideal) (φ := .f32) .ogt x (Named.named κ "log_zero" 0xC2D00000#32) = 0#1 := by
    rw [IdealRules.named_const.ideal_named_scalar _ _ _ _ rfl]
    rw [Ideal.scalar_cmpf_def]
    simp [Ideal.cmp, hx]
  have hz : ∀ y : BitVec 1, ¬ Scalar.andi y 0#1 = 1#1 := by decide
  unfold test
  rw [h2]
  exact hz _

section Walk

variable (q : FVec Ideal S256x128 .bf16) (mm : FVec Ideal S256x512 .bf16) (K V : FVec Ideal S16384x128 .bf16)
  (hm : IsSums mm) (z : Fin 256 → ℕ → EReal)
  (hz : ∀ (r : Fin 256) (s : Fin 16384), (∑ d : Fin 128, q (ix2 r d) * K (ix2 s d) : EReal) = z r s.val)

/-- The values of a column by their key's number. -/
def val (V : FVec Ideal S16384x128 .bf16) (d : Fin 128) (s : ℕ) : EReal := if h : s < 16384 then V (ix2 ⟨s, h⟩ d) else 0

/-- What holds with `k` tiles before the loop, in the block of queries `i`: the total and the sum are those of the keys
    from `k * 256` on. -/
structure Inv (z : Fin 256 → ℕ → EReal) (V : FVec Ideal S16384x128 .bf16) (i k : ℕ) (x : EReal) (R : FVec Ideal S256x256 .f32) (A : FVec Ideal S256x128 .f32) : Prop where
  above : ∀ r c, (R (ix2 r c) : EReal) ≤ x
  total : ∀ r c, R (ix2 r c) = tail (left (z r) (i * 256 + r.val)) (k * 256)
  sum : ∀ r d, A (ix2 r d) = mixed (z r) (val V d) (i * 256 + r.val) (k * 256)

include hm hz in
/-- One tile keeps that. -/
theorem step (i k : ℕ) (hk : k < 64) (hi : k < i) (x : EReal) (R : FVec Ideal S256x256 .f32) (A : FVec Ideal S256x128 .f32)
    (h : Inv z V i (k + 1) x R A) :
    Inv z V i k (xNext (F := Ideal) q mm K k hk R) (rNext (F := Ideal) q mm K k hk R) (aNext (F := Ideal) q mm K V k hk R A) := by
  have hz' : ∀ r c, (∑ d : Fin 128, q (ix2 r d) * tileT K k hk (ix2 c d) : EReal) = z r (k * 256 + c.val) := by
    intro r c
    rw [← hz r ⟨k * 256 + c.val, by omega⟩]
    exact Finset.sum_congr rfl fun d _ => congrArg _ (ldT K k hk c d)
  have hl : ∀ (r x : Fin 256), left (z r) (i * 256 + r.val) (k * 256 + x.val) = ell (z r (k * 256 + x.val)) := fun r x => if_pos (by omega)
  have hR : ∀ r c, k0_pay18 (F := Ideal) q mm (tileT K k hk) R (ix2 r c) = tail (left (z r) (i * 256 + r.val)) (k * 256) := by
    intro r c
    refine (pay18_at q _ mm hm (fun r c => z r (k * 256 + c.val)) hz' R _ h.total r c).trans ?_
    rw [tail_tile _ _ hk, add_comm]
    simp only [hl]
  refine ⟨fun r c => ?_, fun r c => ?_, fun r d => ?_⟩
  · have h6 : rNext (F := Ideal) q mm K k hk R (ix2 r c) = k0_pay18 (F := Ideal) q mm (tileT K k hk) R (ix2 r c) := by
      unfold rNext; pointwise [k0_pay6]
    exact h6.trans_le (pay7_at _ r c)
  · refine Eq.trans ?_ (hR r c)
    unfold rNext; pointwise [k0_pay6]
  · have h5 : aNext (F := Ideal) q mm K V k hk R A (ix2 r d) = k0_pay19 (F := Ideal) q mm (tileT K k hk) (tileT V k hk) R A (ix2 r d) := by
      unfold aNext; pointwise [k0_pay5]
    refine h5.trans ((pay19_at q _ _ mm hm (fun r c => z r (k * 256 + c.val)) hz' R _ h.total A r d).trans ?_)
    rw [mixed_tile _ _ _ _ hk, h.sum r d]
    refine congrArg _ (Finset.sum_congr rfl fun x _ => ?_)
    rw [weight, if_pos (by omega), tail_in_tile _ _ hk, ldT V k hk x d, val, dif_pos (by omega)]
    simp only [hl, add_assoc]

include hm hz in
/-- So the loop leaves the whole sum. -/
theorem walk_sum (i : ℕ) (r : Fin 256) (d : Fin 128) : ∀ (k : ℕ) (hk : k ≤ 64) (_ : k ≤ i) (x : EReal) (R : FVec Ideal S256x256 .f32) (A : FVec Ideal S256x128 .f32),
    Inv z V i k x R A → (walk (F := Ideal) q mm K V k hk x R A).2 (ix2 r d) = mixed (z r) (val V d) (i * 256 + r.val) 0
  | 0, _, _, x, R, A, h => (h.sum r d).trans (by rw [Nat.zero_mul])
  | k + 1, hk, hi, x, R, A, h => by
    unfold walk
    by_cases hx : ⊥ < x
    · rw [if_pos (test_holds k (by omega) x hx)]
      exact walk_sum i r d k (by omega) (by omega) _ _ _ (step q mm K V hm z hz i k (by omega) (by omega) x R A h)
    · rw [if_neg (test_fails k x hx)]
      have hb : tail (left (z r) (i * 256 + r.val)) ((k + 1) * 256) = ⊥ :=
        le_bot_iff.mp ((h.total r 0).symm.trans_le ((h.above r 0).trans (not_lt.mp hx)))
      exact (h.sum r d).trans (mixed_dead _ _ _ _ (by omega) hb)

include hm hz in
/-- The diagonal tile starts it. -/
theorem start (i : grid0.Coords) (hi : (i 1).val < 64) :
    Inv z V (i 1).val (i 1).val (k0_pay3 (F := Ideal) (k0_pay14 q mm (tileD K i))) (k0_pay2 (F := Ideal) (k0_pay14 q mm (tileD K i)))
      (k0_pay1 (F := Ideal) (k0_pay13 q mm (tileD K i) (tileD V i))) := by
  have hb : ∀ c : Fin 256, (i 1).val * 256 + c.val < 16384 := fun c => by omega
  have hz' : ∀ r c, (∑ d : Fin 128, q (ix2 r d) * tileD K i (ix2 c d) : EReal) = z r ((i 1).val * 256 + c.val) := by
    intro r c
    rw [← hz r ⟨(i 1).val * 256 + c.val, hb c⟩]
    exact Finset.sum_congr rfl fun d _ => congrArg _ (ldD K i hb c d)
  have hl : ∀ (r x : Fin 256), left (z r) ((i 1).val * 256 + r.val) ((i 1).val * 256 + x.val)
      = if x.val < r.val then ell (z r ((i 1).val * 256 + x.val)) else 0 := fun r x => by
    unfold left; simp only [Nat.add_lt_add_iff_left]
  have ht : ∀ r : Fin 256, tail (left (z r) ((i 1).val * 256 + r.val)) (((i 1).val + 1) * 256) = 0 := fun r => tail_late _ _ _ (by omega)
  have hR : ∀ r c, k0_pay14 (F := Ideal) q mm (tileD K i) (ix2 r c) = tail (left (z r) ((i 1).val * 256 + r.val)) ((i 1).val * 256) := by
    intro r c
    refine (pay14_at q _ mm hm (fun r c => z r ((i 1).val * 256 + c.val)) hz' r c).trans ?_
    rw [tail_tile _ _ hi, ht, add_zero]
    simp only [hl]
  refine ⟨fun r c => ?_, fun r c => ?_, fun r d => ?_⟩
  · have h6 : k0_pay2 (F := Ideal) (k0_pay14 q mm (tileD K i)) (ix2 r c) = k0_pay14 (F := Ideal) q mm (tileD K i) (ix2 r c) := by
      pointwise [k0_pay2]
    exact h6.trans_le (pay3_at _ r c)
  · refine Eq.trans ?_ (hR r c)
    pointwise [k0_pay2]
  · have h5 : k0_pay1 (F := Ideal) (k0_pay13 q mm (tileD K i) (tileD V i)) (ix2 r d) = k0_pay13 (F := Ideal) q mm (tileD K i) (tileD V i) (ix2 r d) := by
      pointwise [k0_pay1]
    refine h5.trans ((pay13_at q _ _ mm hm (fun r c => z r ((i 1).val * 256 + c.val)) hz' r d).trans ?_)
    rw [mixed_tile _ _ _ _ hi, mixed_late _ _ _ _ (by omega), zero_add]
    refine Finset.sum_congr rfl fun x _ => ?_
    rw [weight, tail_in_tile _ _ hi, ht, add_zero, ldD V i hb x d, val, dif_pos (hb x)]
    simp only [hl, Nat.add_lt_add_iff_left]

/-- The body's block, its whole loads read. -/
theorem block_eq (i : grid0.Coords) (q : Vec Ideal S256x128 .bf16) (K V : Vec Ideal S16384x128 .bf16) (mm : Vec Ideal S256x512 .bf16) :
    block (F := Ideal) i q K V mm = k0_pay4 (walk (F := Ideal) q (k0_pay8 mm) K V (i 1).val (Nat.le_of_lt (i 1).isLt)
      (k0_pay3 (F := Ideal) (k0_pay14 q mm (tileD K i))) (k0_pay2 (F := Ideal) (k0_pay14 q mm (tileD K i)))
      (k0_pay1 (F := Ideal) (k0_pay13 q mm (tileD K i) (tileD V i)))).2 := by
  have hM : View.ld mm rM = mm := View.ld_unit_zero (by funext a; fin_cases a <;> rfl) _ mm
  unfold block
  rw [hM, ldQ]
  exact View.canon_cons_unit_lit _ _ _ (by decide)

include hm hz in
/-- The body's block, at an entry. -/
theorem block_at (i : grid0.Coords) (hi : (i 1).val < 64) (r : Fin 256) (d : Fin 128) :
    (block (F := Ideal) i q K V mm : FVec Ideal S256x128 .bf16) (ix2 r d) = mixed (z r) (val V d) ((i 1).val * 256 + r.val) 0 := by
  have h8 : k0_pay8 (F := Ideal) mm = mm := by
    funext y
    rw [eq_ix2 y]
    pointwise [k0_pay8]
  rw [block_eq, h8]
  refine Eq.trans ?_ (walk_sum q mm K V hm z hz (i 1).val r d (i 1).val (Nat.le_of_lt (i 1).isLt) le_rfl _ _ _ (start q mm K V hm z hz i hi))
  pointwise [k0_pay4]

end Walk

end Cert.AttnIdeal.Walk

end
-- ==== Proof.AttnIdeal.Ref.lean ====
/- The attention reference at an entry: the sum over the keys of weighted values, with their weights. -/
module

public import proofs.«01_k».proof.Proof.Gen.AttnRefIdeal.Run
public import proofs.«01_k».proof.Proof.AttnIdeal.Math
public import Idealize.ShloMosaic.Lib.WordCmp

@[expose] public section

set_option maxRecDepth 16384

noncomputable section

open Idealize.ShloMosaic Idealize.ShloMosaic.TcCoe Idealize.SL.Sem

namespace Cert.AttnRefIdeal.Pure

open Cert.AttnRefIdeal Cert.AttnRefIdeal.Gen Cert.AttnMath

/-- The array of zeros, -/
def O : FVec Ideal S8x16384x16384 .f32 := (broadcastInDim S8x16384x16384 ![] bcast_S_S8x16384x16384 (constant S_ .f32 0x00000000#32))
/-- and the mask that keeps the earlier keys. -/
def B : IVec S8x16384x16384 1 := (broadcastInDim S8x16384x16384 ![1, 2] bcast_S16384x16384_S8x16384x16384_1_2 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
/-- The products of queries and keys. -/
def Z (X : FVec Ideal S16384x3072 .bf16) : FVec Ideal S8x16384x16384 .f32 := (Host.dotGeneral dot_S8x16384x128_S8x16384x128_S8x16384x16384_2_2_1_1_0_0 none (transpose S8x16384x128 [1, 0, 2] (shapeCast _ (extractStridedSlice S16384x1024 ![0, 0] (extf .f32 X bitsLt_bf16_f32) slices_S16384x3072_S16384x1024_0_0) shapeCasts_S16384x1024_S16384x8x128) transposes_S16384x8x128_S8x16384x128_1_0_2) (transpose S8x16384x128 [1, 0, 2] (shapeCast _ (extractStridedSlice S16384x1024 ![0, 1024] (extf .f32 X bitsLt_bf16_f32) slices_S16384x3072_S16384x1024_0_1024) shapeCasts_S16384x1024_S16384x8x128) transposes_S16384x8x128_S8x16384x128_1_0_2))
/-- The values of every head. -/
def VV (X : FVec Ideal S16384x3072 .bf16) : FVec Ideal S8x16384x128 .f32 := (transpose S8x16384x128 [1, 0, 2] (shapeCast _ (extractStridedSlice S16384x1024 ![0, 2048] (extf .f32 X bitsLt_bf16_f32) slices_S16384x3072_S16384x1024_0_2048) shapeCasts_S16384x1024_S16384x8x128) transposes_S16384x8x128_S8x16384x128_1_0_2)
/-- The logarithm of the sigmoid. -/
def LS (y : FVec Ideal S8x16384x16384 .f32) : FVec Ideal S8x16384x16384 .f32 := (Host.negf (select (cmpf .une (subf (Host.negf y) O) (subf (Host.negf y) O)) (addf (Host.negf y) O) (addf (maximumf (Host.negf y) O) (Host.log1p (Host.exp (Host.negf (Host.absf (subf (Host.negf y) O))))))))
/-- What each earlier key leaves. -/
def L (X : FVec Ideal S16384x3072 .bf16) : FVec Ideal S8x16384x16384 .f32 := (select B (LS (Host.negf (Z X))) (broadcastInDim S8x16384x16384 ![] bcast_S_S8x16384x16384 (id (constant S_ .f32 0x00000000#32))))
/-- The sums from each key on. -/
def C (f : FVec Ideal S8x16384x16384 .f32) : FVec Ideal S8x16384x16384 .f32 := (Host.reduceWindowAdd ![1, 1, 16384] ![1, 1, 1] ![0, 0, 0] ![0, 0, 16383] f (broadcastInDim S_ ![] bcast_S_S_ (constant S_ .f32 0x00000000#32)) reduceWindows_S8x16384x16384_S8x16384x16384_w1s1p0_0_w1s1p0_0_w16384s1p0_16383 h_S_)
/-- The weights. -/
def W (X : FVec Ideal S16384x3072 .bf16) : FVec Ideal S8x16384x16384 .f32 := (Host.exp (select B (addf (LS (Z X)) (subf (C (L X)) (L X))) (broadcastInDim S8x16384x16384 ![] bcast_S_S8x16384x16384 (id (constant S_ .f32 0xFF800000#32)))))
/-- The reference's result. -/
def REF (X : FVec Ideal S16384x3072 .bf16) : FVec Ideal S16384x1024 .bf16 := truncf .bf16 (shapeCast _ (transpose S16384x8x128 [1, 0, 2] (Host.dotGeneral dot_S8x16384x16384_S8x16384x128_S8x16384x128_2_1_1_2_0_0 none (W X) (VV X)) transposes_S8x16384x128_S16384x8x128_1_0_2) shapeCasts_S16384x8x128_S16384x1024) bitsLt_bf16_f32

/-- A fold of additions is a sum. -/
theorem foldl_sum {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

/-- The sum over the window positions that stay inside. -/
theorem sum_window (f : ℕ → EReal) (s : ℕ) (hs : s < 16384) :
    (∑ k : Fin 16384, if s + k.val < 16384 then f (s + k.val) else 0) = ∑ j ∈ Finset.Ico s 16384, f j := by
  rw [Finset.sum_Ico_eq_sum_range]
  rw [Fin.sum_univ_eq_sum_range (fun k => if s + k < 16384 then f (s + k) else 0) 16384]
  symm
  refine (Finset.sum_congr rfl fun k hk => ?_).trans (Finset.sum_subset (Finset.range_subset_range.mpr (Nat.sub_le 16384 s)) fun k _ hk => ?_)
  · have := Finset.mem_range.mp hk
    exact (if_pos (by omega)).symm
  · exact if_neg fun h => hk (Finset.mem_range.mpr (by omega))

/-- The positions of a window. -/
def pos : Fin 16384 ≃ (⟨3, ![1, 1, 16384]⟩ : Shape).Idx where
  toFun k := ix3 0 0 k
  invFun w := w 2
  left_inv _ := rfl
  right_inv w := by
    funext a
    fin_cases a
    · exact (Subsingleton.elim (α := Fin 1) _ _)
    · exact (Subsingleton.elim (α := Fin 1) _ _)
    · rfl

/-- The sums from each key on, at an entry. -/
theorem C_at (x : FVec Ideal S8x16384x16384 .f32) (f : ℕ → EReal) (h : Fin 8) (t s : Fin 16384) (hx : ∀ s', x (ix3 h t s') = f s'.val) :
    C x (ix3 h t s) = ∑ j ∈ Finset.Ico s.val 16384, f j := by
  have h0 : (broadcastInDim S_ ![] bcast_S_S_ (constant (F := Ideal) S_ .f32 0x00000000#32)) (Shape.Idx.first h_S_) = (0 : EReal) := by
    pointwise []
  rw [← sum_window f s.val s.isLt]
  unfold C Host.reduceWindowAdd
  rw [h0, Ideal.hostReduceWindowAdd_def]
  unfold Ideal.hostReduceWindowAdd Host.reduceWindow
  refine (foldl_sum _ _ _).trans ?_
  rw [zero_add, ← Fin.sum_univ_def]
  refine ((Equiv.sum_comp (pos.trans (Shape.rowMajor _)) _).symm.trans ?_)
  refine Finset.sum_congr rfl fun k _ => ?_
  have hk : (⟨3, ![1, 1, 16384]⟩ : Shape).rowMajor.symm ((pos.trans (Shape.rowMajor _)) k) = ix3 0 0 k := Equiv.symm_apply_apply _ _
  have hp : ∀ a : Fin 3, ((ix3 h t s : S8x16384x16384.Idx) a).val * (![1, 1, 1] : Fin 3 → ℕ) a
      + ((⟨3, ![1, 1, 16384]⟩ : Shape).rowMajor.symm ((pos.trans (Shape.rowMajor _)) k) a).val
      = (![h.val, t.val, s.val + k.val] : Fin 3 → ℕ) a := by
    intro a
    rw [hk]
    fin_cases a
    · exact Nat.mul_one _
    · exact Nat.mul_one _
    · exact congrArg (· + k.val) (Nat.mul_one s.val)
  have hlo : ∀ a : Fin 3, (![0, 0, 0] : Fin 3 → ℕ) a = 0 := by decide
  by_cases hin : s.val + k.val < 16384
  · rw [if_pos hin]
    refine (dif_pos ?_).trans ?_
    · intro a
      refine ⟨(hlo a).le.trans (Nat.zero_le _), (Nat.sub_le _ _).trans_lt ((hp a).trans_lt ?_)⟩
      fin_cases a
      · exact h.isLt
      · exact t.isLt
      · exact hin
    · rw [← hx ⟨s.val + k.val, hin⟩]
      refine congrArg x (funext fun a => Fin.ext ?_)
      refine (congrArg₂ (· - ·) (hp a) (hlo a)).trans ?_
      fin_cases a <;> rfl
  · rw [if_neg hin]
    refine dif_neg fun hall => hin ?_
    have h2 := (hall 2).2
    exact (congrArg₂ (· - ·) (hp 2) (hlo 2)).symm.trans_lt h2

/-- The mask at an entry. -/
theorem select_B {α : Type} (h : Fin 8) (t s : Fin 16384) (a b : α) : Scalar.select (B (ix3 h t s)) a b = if s.val < t.val then a else b := by
  have hB : B (ix3 h t s) = IntOp.cmpi .slt (BitVec.ofNat 32 s.val) (BitVec.ofNat 32 t.val) := by
    pointwise [B]
  have hc := WordCmp.cmpi_slt_ofNat_eq_one_iff (w := 32) (a := s.val) (b := t.val) (by omega) (by omega)
  rw [Scalar.select, hB]
  by_cases hst : s.val < t.val
  · rw [if_pos hst]; exact if_pos (hc.mpr hst)
  · rw [if_neg hst]; exact if_neg fun e => hst (hc.mp e)

/-- The products at an entry. -/
theorem Z_at (X : FVec Ideal S16384x3072 .bf16) (h : Fin 8) (t s : Fin 16384) : Z X (ix3 h t s)
    = (∑ d : Fin 128, X (ix2 t ⟨h.val * 128 + d.val, by omega⟩) * X (ix2 s ⟨1024 + (h.val * 128 + d.val), by omega⟩) : EReal) := by
  pointwise [Z]

/-- The values at an entry. -/
theorem VV_at (X : FVec Ideal S16384x3072 .bf16) (h : Fin 8) (s : Fin 16384) (d : Fin 128) : VV X (ix3 h s d)
    = X (ix2 s ⟨2048 + (h.val * 128 + d.val), by omega⟩) := by
  pointwise [VV]

/-- The logarithm of the sigmoid at an entry. -/
theorem LS_at (y : FVec Ideal S8x16384x16384 .f32) (h : Fin 8) (t s : Fin 16384) : LS y (ix3 h t s) = logSig (y (ix3 h t s)) := by
  pointwise [LS, O]
  rw [if_neg (fun e => e rfl), logSig]
  refine congrArg (fun u => -(max (-(y (ix3 h t s) : EReal)) 0 + Ideal.log1p (Ideal.exp (-u)))) ?_
  exact congrArg (max (-(y (ix3 h t s) : EReal))) (neg_neg (y (ix3 h t s) : EReal))

/-- What each earlier key leaves, at an entry. -/
theorem L_at (X : FVec Ideal S16384x3072 .bf16) (h : Fin 8) (t s : Fin 16384) (z : ℕ → EReal) (hz : ∀ s, Z X (ix3 h t s) = z s.val) :
    L X (ix3 h t s) = left z t.val s.val := by
  have hn : Host.negf (Z X) (ix3 h t s) = (-z s.val : EReal) := by
    pointwise []
    rw [hz]
  have h0 : id (constant (F := Ideal) S_ FTy.f32 0#32) ix0 = (0 : EReal) := by
    change constant (F := Ideal) S_ FTy.f32 0#32 ix0 = (0 : EReal)
    pointwise []
  pointwise [L]
  rw [select_B, left, h0, LS_at, hn, logSig_neg]

/-- The weights at an entry. -/
theorem W_at (X : FVec Ideal S16384x3072 .bf16) (h : Fin 8) (t s : Fin 16384) (z : ℕ → EReal) (hz : ∀ s, Z X (ix3 h t s) = z s.val) :
    W X (ix3 h t s) = weight z t.val s.val := by
  have h0 : id (constant (F := Ideal) S_ FTy.f32 4286578688#32) ix0 = (⊥ : EReal) := by
    change Ideal.ofBits .f32 4286578688#32 = (⊥ : EReal)
    simp [Ideal.ofBits, Ideal.ieee]
  have hC : C (L X) (ix3 h t s) = tail (left z t.val) s.val :=
    C_at _ (left z t.val) h t s fun s' => L_at X h t s' z hz
  pointwise [W]
  rw [select_B, h0, LS_at, hz, hC, L_at X h t s z hz, weight, tail_succ _ _ s.isLt]
  by_cases hst : s.val < t.val
  · have hl : left z t.val s.val = ell (z s.val) := if_pos hst
    rw [if_pos hst, if_pos hst, hl]
    exact congrArg Ideal.exp (exponent _ _)
  · rw [if_neg hst, if_neg hst]
    exact Ideal.exp_bot

/-- The result at an entry. -/
theorem REF_at (X : FVec Ideal S16384x3072 .bf16) (h : Fin 8) (t : Fin 16384) (d : Fin 128) :
    REF X (ix2 t ⟨h.val * 128 + d.val, by omega⟩) = (∑ s : Fin 16384, W X (ix3 h t s) * VV X (ix3 h s d) : EReal) := by
  pointwise [REF]

end Cert.AttnRefIdeal.Pure

end
-- ==== Proof.AttnIdeal.Value.lean ====
/- The attention call's result: each block of the kernel is the reference's. -/
module

public import proofs.«01_k».proof.Proof.AttnIdeal.Run
public import proofs.«01_k».proof.Proof.AttnIdeal.Walk
public import proofs.«01_k».proof.Proof.AttnIdeal.Ref
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.AttnIdeal.Hand Cert.AttnIdeal.Pure Cert.AttnIdeal.Walk Cert.AttnMath

variable (m : (ℓ : Loc nD τ sig) → Buf (Elt Ideal) ℓ)

/-- The windows' block indices at every point, -/
theorem idx : ∀ t : Fin (cfg0 (F := Ideal)).N, win0_0.index t = ![t.val % 64, t.val / 64] ∧ win0_1.index t = ![0, 8 + t.val / 64]
    ∧ win0_2.index t = ![0, 16 + t.val / 64] ∧ win0_3.index t = ![0, 0] ∧ win0_4.index t = ![t.val % 64, t.val / 64] :=
  (by decide +kernel : ∀ t : Fin grid0.N, _)

/-- and its block of queries. -/
theorem row : ∀ t : Fin (cfg0 (F := Ideal)).N, (grid0.coords t 1).val = t.val % 64 :=
  (by decide +kernel : ∀ t : Fin grid0.N, _)

/-- The argument. -/
abbrev aX (c : Dev nD) : FVec Ideal S16384x3072 .bf16 := m ((c : Thread nD τ).loc main_arg0)

/-- The comparison of a row and a column of the matrix, as a number. -/
theorem uitofp_gt (j c : Fin 256) :
    (((IntOp.cmpi .sgt (BitVec.ofNat 32 j.val) (BitVec.ofNat 32 c.val)).toNat : ℝ) : EReal) = if c.val < j.val then 1 else 0 := by
  rw [WordCmp.cmpi_sgt_ofNat (w := 32) (by omega) (by omega)]
  by_cases h : c.val < j.val <;> simp [h]

/-- The matrix the host computes. -/
theorem m_at (c : Dev nD) : IsSums (V m c main_v10 : FVec Ideal S256x512 .bf16) := by
  refine ⟨fun j k => ?_, fun j k => ?_⟩
  · entry_read
    pointwise
    exact uitofp_gt j k
  · entry_read
    pointwise

theorem head_lt (t : Fin (cfg0 (F := Ideal)).N) : t.val / 64 < 8 := by
  have : t.val < 512 := lt_of_lt_of_eq t.isLt N_0
  omega

theorem row_lt (t : Fin (cfg0 (F := Ideal)).N) (r : Fin 256) : t.val % 64 * 256 + r.val < 16384 := by omega

theorem col_lt (t : Fin (cfg0 (F := Ideal)).N) (d : Fin 128) : t.val / 64 * 128 + d.val < 1024 := by
  have := head_lt t
  omega

/-- The blocks of queries, keys, values and of the matrix at a point. -/
abbrev bQ (c : Dev nD) (t : Fin (cfg0 (F := Ideal)).N) : FVec Ideal S256x128 .bf16 := iblk m c 0 t
abbrev bK (c : Dev nD) (t : Fin (cfg0 (F := Ideal)).N) : FVec Ideal S16384x128 .bf16 := iblk m c 1 t
abbrev bV (c : Dev nD) (t : Fin (cfg0 (F := Ideal)).N) : FVec Ideal S16384x128 .bf16 := iblk m c 2 t
abbrev bM (c : Dev nD) (t : Fin (cfg0 (F := Ideal)).N) : FVec Ideal S256x512 .bf16 := iblk m c 3 t

/-- The blocks the windows hold at a point, at an entry. -/
theorem blk0 (c : Dev nD) (t : Fin (cfg0 (F := Ideal)).N) (r : Fin 256) (d : Fin 128) :
    (iblk m c 0 t : FVec Ideal S256x128 .bf16) (ix2 r d)
      = aX m c (ix2 ⟨t.val % 64 * 256 + r.val, row_lt t r⟩ ⟨t.val / 64 * 128 + d.val, by have := head_lt t; omega⟩) := by
  unfold aX; rw [← V_main_arg0 m c]; blk_ext [iblk, idx t]

theorem blk1 (c : Dev nD) (t : Fin (cfg0 (F := Ideal)).N) (s : Fin 16384) (d : Fin 128) :
    (iblk m c 1 t : FVec Ideal S16384x128 .bf16) (ix2 s d)
      = aX m c (ix2 s ⟨1024 + (t.val / 64 * 128 + d.val), by have := head_lt t; omega⟩) := by
  unfold aX; rw [← V_main_arg0 m c]; blk_ext [iblk, idx t]

theorem blk2 (c : Dev nD) (t : Fin (cfg0 (F := Ideal)).N) (s : Fin 16384) (d : Fin 128) :
    (iblk m c 2 t : FVec Ideal S16384x128 .bf16) (ix2 s d)
      = aX m c (ix2 s ⟨2048 + (t.val / 64 * 128 + d.val), by have := head_lt t; omega⟩) := by
  unfold aX; rw [← V_main_arg0 m c]; blk_ext [iblk, idx t]

/-- The matrix's block is the whole matrix. -/
theorem blk3 (c : Dev nD) (t : Fin (cfg0 (F := Ideal)).N) : IsSums (iblk m c 3 t : FVec Ideal S256x512 .bf16) := by
  have h : (iblk m c 3 t : FVec Ideal S256x512 .bf16) = (V m c main_v10 : FVec Ideal S256x512 .bf16) := by
    funext y
    blk_ext [iblk, idx t]
  rw [h]
  exact m_at m c

/-- The block a point computes is the reference's. -/
theorem block_eq_ref (c : Dev nD) (t : Fin (cfg0 (F := Ideal)).N) (r : Fin 256) (d : Fin 128) :
    (block (F := Ideal) (grid0.coords t) (bQ m c t) (bK m c t) (bV m c t) (bM m c t) : FVec Ideal S256x128 .bf16) (ix2 r d)
      = Cert.AttnRefIdeal.Pure.REF (aX m c) (ix2 ⟨t.val % 64 * 256 + r.val, row_lt t r⟩ ⟨t.val / 64 * 128 + d.val, col_lt t d⟩) := by
  let z : Fin 256 → ℕ → EReal := fun r n => if hn : n < 16384 then
    Cert.AttnRefIdeal.Pure.Z (aX m c) (ix3 ⟨t.val / 64, head_lt t⟩ ⟨t.val % 64 * 256 + r.val, row_lt t r⟩ ⟨n, hn⟩) else 0
  have hz : ∀ (r : Fin 256) (s : Fin 16384), Cert.AttnRefIdeal.Pure.Z (aX m c) (ix3 ⟨t.val / 64, head_lt t⟩ ⟨t.val % 64 * 256 + r.val, row_lt t r⟩ s) = z r s.val :=
    fun r s => by simp only [z, dif_pos s.isLt]
  have hz' : ∀ (r : Fin 256) (s : Fin 16384), (∑ d : Fin 128, bQ m c t (ix2 r d) * bK m c t (ix2 s d) : EReal) = z r s.val := by
    intro r s
    rw [← hz r s, Cert.AttnRefIdeal.Pure.Z_at]
    exact Finset.sum_congr rfl fun d _ => congrArg₂ (· * ·) (blk0 m c t r d) (blk1 m c t s d)
  refine (block_at (bQ m c t) (bM m c t) (bK m c t) (bV m c t) (blk3 m c t) z hz' (grid0.coords t) (by rw [row]; omega) r d).trans ?_
  refine Eq.trans ?_ (Cert.AttnRefIdeal.Pure.REF_at (aX m c) ⟨t.val / 64, head_lt t⟩ ⟨t.val % 64 * 256 + r.val, row_lt t r⟩ d).symm
  rw [mixed, row, Nat.Ico_zero_eq_range, ← Fin.sum_univ_eq_sum_range (fun j => weight (z r) (t.val % 64 * 256 + r.val) j * val (bV m c t) d j)]
  refine Finset.sum_congr rfl fun s _ => ?_
  rw [Cert.AttnRefIdeal.Pure.W_at _ _ _ _ _ (hz r), Cert.AttnRefIdeal.Pure.VV_at, val, dif_pos s.isLt]
  exact congrArg _ (blk2 m c t s d)

/-- The result array after the run is the reference's. -/
theorem final (c : Dev nD) : (dats m 0 c).arrAt 4 (cfgs (F := Ideal) 0).N
    = Cert.AttnRefIdeal.Pure.REF (m ((c : Thread nD τ).loc main_arg0)) := by
  refine (dats m 0 c).arrAt_eq_of_covers 4 _ (by decide +kernel) fun t hf y => ?_
  blk_simp
  rw [after0_4]
  have he : ((View.whole main_v11).slice (win0_4.rect t)).emb y
      = (ix2 ⟨t.val % 64 * 256 + (y 0).val, row_lt t (y 0)⟩ ⟨t.val / 64 * 128 + (y 1).val, col_lt t (y 1)⟩ : S16384x1024.Idx) := by
    blk_ext [idx t]
  rw [he]
  exact (congrArg _ (eq_ix2 y)).trans (block_eq_ref m c t (y 0) (y 1))

end Cert.AttnIdeal.Value

end
-- ==== Proof.Ffn.Pure.lean ====
/- The feed-forward call's pure part: what the body computes and what the reference's term is, entry by entry. -/
module

public import proofs.«01_k».proof.Proof.Gen.FfnIdeal.Skeleton
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem

namespace Cert.FfnMath

/-- A row's normalised entry `k`: the entry over the root of the row's mean square, times the weight. -/
def rowNorm (x g : Fin 2048 → EReal) (k : Fin 2048) : EReal :=
  x k * Ideal.rsqrt (Ideal.div (∑ l, x l * x l) (Ideal.ofBits .f32 0x45000000#32) + Ideal.ofBits .f32 0x358637BD#32) * g k

/-- A hidden unit: the gate's product through the swish, times the up product. -/
def hid (n wg wu : Fin 2048 → EReal) : EReal :=
  (∑ k, n k * wg k) * Ideal.div 1 (1 + Ideal.exp (-∑ k, n k * wg k)) * ∑ k, n k * wu k

/-- A hidden unit whose up weights are all zero is zero. -/
theorem hid_zero (n wg wu : Fin 2048 → EReal) (h : ∀ k, wu k = 0) : hid n wg wu = 0 := by
  unfold hid
  rw [(Finset.sum_eq_zero fun k _ => by rw [h k, mul_zero] : ∑ k, n k * wu k = 0), mul_zero]

end Cert.FfnMath

namespace Cert.FfnRefIdeal.Pure

open Cert.FfnRefIdeal Cert.FfnRefIdeal.Gen Cert.FfnMath

/-- The reference's normalised rows. -/
def XN (X : FVec Ideal S16384x2048 .f32) (G : FVec Ideal S2048 .f32) : FVec Ideal S16384x2048 .f32 :=
  (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 G)))

/-- The reference's gate and up products. -/
def GU (X : FVec Ideal S16384x2048 .f32) (G : FVec Ideal S2048 .f32) (W : FVec Ideal S2048x11008 .f32) : FVec Ideal S16384x11008 .f32 :=
  Host.dotGeneral dot_S16384x2048_S2048x11008_S16384x11008_1_0_0_1_n_n none (XN X G) W

/-- The reference's result over its four arguments. -/
def REF (X : FVec Ideal S16384x2048 .f32) (G : FVec Ideal S2048 .f32) (W : FVec Ideal S2048x11008 .f32) (D : FVec Ideal S5504x2048 .f32) : FVec Ideal S16384x2048 .f32 :=
  addf X (mulf (broadcastInDim S16384x2048 ![] bcast_S_S16384x2048 (constant S_ .f32 0x3F000000#32)) (Host.dotGeneral dot_S16384x5504_S5504x2048_S16384x2048_1_0_0_1_n_n none (mulf (mulf (extractStridedSlice S16384x5504 ![0, 0] (GU X G W) slices_S16384x11008_S16384x5504_0_0) (Host.divf (broadcastInDim S16384x5504 ![] bcast_S_S16384x5504 (constant S_ .f32 0x3F800000#32)) (addf (broadcastInDim S16384x5504 ![] bcast_S_S16384x5504 (constant S_ .f32 0x3F800000#32)) (Host.exp (Host.negf (extractStridedSlice S16384x5504 ![0, 0] (GU X G W) slices_S16384x11008_S16384x5504_0_0)))))) (extractStridedSlice S16384x5504 ![0, 5504] (GU X G W) slices_S16384x11008_S16384x5504_0_5504)) D))

/-- A normalised row at an entry. -/
theorem XN_at (X : FVec Ideal S16384x2048 .f32) (G : FVec Ideal S2048 .f32) (r : Fin 16384) (k : Fin 2048) :
    XN X G (ix2 r k) = rowNorm (fun k => X (ix2 r k)) (fun k => G (ix1 k)) k := by
  pointwise [XN, rowNorm]

/-- The products at an entry. -/
theorem GU_at (X : FVec Ideal S16384x2048 .f32) (G : FVec Ideal S2048 .f32) (W : FVec Ideal S2048x11008 .f32) (r : Fin 16384) (l : Fin 11008) :
    GU X G W (ix2 r l) = ∑ k : Fin 2048, rowNorm (fun k => X (ix2 r k)) (fun k => G (ix1 k)) k * W (ix2 k l) := by
  pointwise [GU, XN_at]

/-- The reference at an entry. -/
theorem REF_at (X : FVec Ideal S16384x2048 .f32) (G : FVec Ideal S2048 .f32) (W : FVec Ideal S2048x11008 .f32) (D : FVec Ideal S5504x2048 .f32)
    (r : Fin 16384) (q : Fin 2048) :
    REF X G W D (ix2 r q) = X (ix2 r q) + Ideal.ofBits .f32 0x3F000000#32 * ∑ l : Fin 5504,
      hid (rowNorm (fun k => X (ix2 r k)) (fun k => G (ix1 k))) (fun k => W (ix2 k ⟨l.val, by omega⟩)) (fun k => W (ix2 k ⟨5504 + l.val, by omega⟩)) * D (ix2 l q) := by
  pointwise [REF, GU_at, hid]

end Cert.FfnRefIdeal.Pure

namespace Cert.FfnIdeal.Pure

open Cert.FfnIdeal Cert.FfnIdeal.Gen Cert.FfnMath

/-- The body's normalised block at an entry. -/
theorem pay1_at (x : FVec Ideal S512x2048 .f32) (g : FVec Ideal S1x2048 .f32) (r : Fin 512) (k : Fin 2048) :
    k0_pay1 (F := Ideal) x g (ix2 r k) = rowNorm (fun k => x (ix2 r k)) (fun k => g (ix2 0 k)) k := by
  pointwise [k0_pay1, rowNorm]

/-- The body's part of the product at an entry. -/
theorem pay2_at (n : FVec Ideal S512x2048 .bf16) (wg wu : FVec Ideal S2048x512 .bf16) (wd : FVec Ideal S512x2048 .bf16) (r : Fin 512) (q : Fin 2048) :
    k0_pay2 (F := Ideal) n wg wu wd (ix2 r q) = ∑ l : Fin 512, hid (fun k => n (ix2 r k)) (fun k => wg (ix2 k l)) (fun k => wu (ix2 k l)) * wd (ix2 l q) := by
  pointwise [k0_pay2, hid]
  rfl

/-- A later part is the sum before it plus the part. -/
theorem pay3_at (n : FVec Ideal S512x2048 .bf16) (wg wu : FVec Ideal S2048x512 .bf16) (wd : FVec Ideal S512x2048 .bf16) (a : FVec Ideal S512x2048 .f32) (y : S512x2048.Idx) :
    k0_pay3 (F := Ideal) n wg wu wd a y = a y + k0_pay2 (F := Ideal) n wg wu wd y := by
  pointwise [k0_pay2, k0_pay3]

/-- The last step: the argument plus half the sum. -/
theorem pay4_at (x a : FVec Ideal S512x2048 .f32) (y : S512x2048.Idx) :
    k0_pay4 (F := Ideal) x a y = x y + Ideal.ofBits .f32 0x3F000000#32 * a y := by
  pointwise [k0_pay4]

end Cert.FfnIdeal.Pure

end
-- ==== Proof.FfnLast.Pure.lean ====
/- The last layer's feed-forward call's pure part: the feed-forward call's, with the final norm over its rows. -/
module

public import proofs.«01_k».proof.Proof.Ffn.Pure
public import proofs.«01_k».proof.Proof.Gen.FfnLastIdeal.Skeleton

@[expose] public section

set_option maxRecDepth 16384

noncomputable section

open Idealize.ShloMosaic Idealize.ShloMosaic.TcCoe Idealize.SL.Sem

namespace Cert.FfnRefIdeal.Pure

open Cert.FfnRefIdeal Cert.FfnRefIdeal.Gen Cert.FfnMath

/-- The last layer's reference: the feed-forward reference's result, its rows normalised by the last weight. -/
def LAST (X : FVec Ideal S16384x2048 .f32) (G : FVec Ideal S2048 .f32) (W : FVec Ideal S2048x11008 .f32) (D : FVec Ideal S5504x2048 .f32)
    (E : FVec Ideal S2048 .f32) : FVec Ideal S16384x2048 .f32 :=
  XN (REF X G W D) E

end Cert.FfnRefIdeal.Pure

namespace Cert.FfnLastIdeal.Pure

open Cert.FfnLastIdeal Cert.FfnLastIdeal.Gen Cert.FfnMath

/-- The body's normalised block at an entry. -/
theorem pay1_at (x : FVec Ideal S512x2048 .f32) (g : FVec Ideal S1x2048 .f32) (r : Fin 512) (k : Fin 2048) :
    k0_pay1 (F := Ideal) x g (ix2 r k) = rowNorm (fun k => x (ix2 r k)) (fun k => g (ix2 0 k)) k :=
  Cert.FfnIdeal.Pure.pay1_at x g r k

/-- The body's part of the product at an entry. -/
theorem pay2_at (n : FVec Ideal S512x2048 .bf16) (wg wu : FVec Ideal S2048x512 .bf16) (wd : FVec Ideal S512x2048 .bf16) (r : Fin 512) (q : Fin 2048) :
    k0_pay2 (F := Ideal) n wg wu wd (ix2 r q) = ∑ l : Fin 512, hid (fun k => n (ix2 r k)) (fun k => wg (ix2 k l)) (fun k => wu (ix2 k l)) * wd (ix2 l q) :=
  Cert.FfnIdeal.Pure.pay2_at n wg wu wd r q

/-- A later part is the sum before it plus the part. -/
theorem pay3_at (n : FVec Ideal S512x2048 .bf16) (wg wu : FVec Ideal S2048x512 .bf16) (wd : FVec Ideal S512x2048 .bf16) (a : FVec Ideal S512x2048 .f32) (y : S512x2048.Idx) :
    k0_pay3 (F := Ideal) n wg wu wd a y = a y + k0_pay2 (F := Ideal) n wg wu wd y := by
  pointwise [k0_pay2, k0_pay3]

/-- The last step: the argument plus half the sum, its rows normalised. -/
theorem pay4_at (x a : FVec Ideal S512x2048 .f32) (e : FVec Ideal S1x2048 .f32) (r : Fin 512) (q : Fin 2048) :
    k0_pay4 (F := Ideal) x a e (ix2 r q)
      = rowNorm (fun k => x (ix2 r k) + Ideal.ofBits .f32 0x3F000000#32 * a (ix2 r k)) (fun k => e (ix2 0 k)) q := by
  pointwise [k0_pay4, rowNorm]

end Cert.FfnLastIdeal.Pure

end
-- ==== Proof.FfnLast.Value.lean ====
/- The last layer's feed-forward call's result: each block of the kernel is the reference's. -/
module

public import proofs.«01_k».proof.Proof.FfnLast.Pure
public import proofs.«01_k».proof.Proof.Gen.FfnLastIdeal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnLastIdeal.Value

open Cert.FfnLastIdeal Cert.FfnLastIdeal.Gen Cert.FfnLastIdeal.Pure Cert.FfnMath

variable (m : (ℓ : Loc nD τ sig) → Buf (Elt Ideal) ℓ)

/-- The windows' block indices at every point. -/
theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![0, 0] ∧ win0_6.index t = ![t.val / 11, 0] :=
  (by decide +kernel : ∀ t : Fin grid0.N, _)

/-- The five arguments. -/
abbrev aX (c : Dev nD) : FVec Ideal S16384x2048 .f32 := m ((c : Thread nD τ).loc main_arg0)
abbrev aG (c : Dev nD) : FVec Ideal S2048 .f32 := m ((c : Thread nD τ).loc main_arg1)
abbrev aW (c : Dev nD) : FVec Ideal S2048x11008 .f32 := m ((c : Thread nD τ).loc main_arg2)
abbrev aD (c : Dev nD) : FVec Ideal S5504x2048 .f32 := m ((c : Thread nD τ).loc main_arg3)
abbrev aF (c : Dev nD) : FVec Ideal S2048 .f32 := m ((c : Thread nD τ).loc main_arg4)
/-- The two padded operands. -/
abbrev aP (c : Dev nD) : FVec Ideal S2048x11264 .bf16 := V m c main_v5
abbrev aE (c : Dev nD) : FVec Ideal S5632x2048 .bf16 := V m c main_v7

/-- The integer zero is zero. -/
theorem sitofp_zero : (FloatOps.sitofp (F := Ideal) .f32 (0#32 : BitVec 32) : EReal) = 0 := by
  show (((0#32 : BitVec 32).toInt : ℝ) : EReal) = 0
  simp

/-- The gate and up weights, each padded with zero columns, side by side. -/
theorem aP_eq (c : Dev nD) : aP m c = truncf .bf16 (concatenate S2048x11264 1
    [⟨S2048x5632, pad S2048x5632 ![0, 0] ![0, 128] ![0, 0] (extractStridedSlice S2048x5504 ![0, 0] (aW m c) slices_S2048x11008_S2048x5504_0_0)
        (sitofp (F := Ideal) .f32 (constantI S_ 32 0#32)) pads_S2048x5504_S2048x5632_000_01280 h_S_⟩,
      ⟨S2048x5632, pad S2048x5632 ![0, 0] ![0, 128] ![0, 0] (extractStridedSlice S2048x5504 ![0, 5504] (aW m c) slices_S2048x11008_S2048x5504_0_5504)
        (sitofp (F := Ideal) .f32 (constantI S_ 32 0#32)) pads_S2048x5504_S2048x5632_000_01280 h_S_⟩]
    concatenates_S2048x5632_S2048x5632_S2048x11264_d1) bitsLt_bf16_f32 := by
  unfold aP V aW
  simp only [hostOps0, hostOps0_1, hostOps0_2, hostOps0_3, hostOps0_4, hostOps0_5, hostOps0_6, List.flatten_cons, List.flatten_nil, List.append_nil, List.cons_append,
      List.nil_append, StableHlo.TRef.binary, StableHlo.TRef.unary, StableHlo.TRef.toBuf, StableHlo.TRef.ofBuf, cast_eq]
  after_results

/-- The down weights padded with zero rows. -/
theorem aE_eq (c : Dev nD) : aE m c = truncf .bf16 (pad S5632x2048 ![0, 0] ![128, 0] ![0, 0] (aD m c)
        (sitofp (F := Ideal) .f32 (constantI S_ 32 0#32)) pads_S5504x2048_S5632x2048_01280_000 h_S_) bitsLt_bf16_f32 := by
  unfold aE V aD
  simp only [hostOps0, hostOps0_1, hostOps0_2, hostOps0_3, hostOps0_4, hostOps0_5, hostOps0_6, List.flatten_cons, List.flatten_nil, List.append_nil, List.cons_append,
      List.nil_append, StableHlo.TRef.binary, StableHlo.TRef.unary, StableHlo.TRef.toBuf, StableHlo.TRef.ofBuf, cast_eq]
  after_results

/-- The weight as one row. -/
theorem aR_eq (c : Dev nD) : (V m c main_v8 : FVec Ideal S1x2048 .f32) = shapeCast S1x2048 (aG m c) shapeCasts_S2048_S1x2048 := by
  unfold V aG
  simp only [hostOps0, hostOps0_1, hostOps0_2, hostOps0_3, hostOps0_4, hostOps0_5, hostOps0_6, List.flatten_cons, List.flatten_nil, List.append_nil, List.cons_append,
      List.nil_append, StableHlo.TRef.binary, StableHlo.TRef.unary, StableHlo.TRef.toBuf, StableHlo.TRef.ofBuf, cast_eq]
  after_results_simp
  rfl

/-- The last weight as one row. -/
theorem aL_eq (c : Dev nD) : (V m c main_v9 : FVec Ideal S1x2048 .f32) = shapeCast S1x2048 (aF m c) shapeCasts_S2048_S1x2048 := by
  unfold V aF
  simp only [hostOps0, hostOps0_1, hostOps0_2, hostOps0_3, hostOps0_4, hostOps0_5, hostOps0_6, List.flatten_cons, List.flatten_nil, List.append_nil, List.cons_append,
      List.nil_append, StableHlo.TRef.binary, StableHlo.TRef.unary, StableHlo.TRef.toBuf, StableHlo.TRef.ofBuf, cast_eq]
  after_results_simp
  rfl

/-- The padded operand's gate columns. -/
theorem gate_at (c : Dev nD) (k : Fin 2048) (l : Fin 5504) :
    aP m c (ix2 k ⟨l.val, by omega⟩) = aW m c (ix2 k ⟨l.val, by omega⟩) := by
  rw [aP_eq]; pointwise
  rw [dif_pos (by omega)]

/-- The padded operand's up columns. -/
theorem up_at (c : Dev nD) (k : Fin 2048) (l : Fin 5504) :
    aP m c (ix2 k ⟨5632 + l.val, by omega⟩) = aW m c (ix2 k ⟨5504 + l.val, by omega⟩) := by
  rw [aP_eq]; pointwise

/-- The padding's up columns are zero. -/
theorem up_pad (c : Dev nD) (k : Fin 2048) (l : Fin 128) :
    aP m c (ix2 k ⟨5632 + (5504 + l.val), by omega⟩) = (0 : EReal) := by
  rw [aP_eq]; pointwise
  exact sitofp_zero

/-- The padded operand's rows. -/
theorem down_at (c : Dev nD) (l : Fin 5504) (q : Fin 2048) :
    aE m c (ix2 ⟨l.val, by omega⟩ q) = aD m c (ix2 l q) := by
  rw [aE_eq]; pointwise

/-- The weight's row. -/
theorem g_at (c : Dev nD) (k : Fin 2048) :
    (V m c main_v8 : FVec Ideal S1x2048 .f32) (ix2 0 k) = aG m c (ix1 k) := by
  rw [aR_eq]; pointwise

/-- The last weight's row. -/
theorem f_at (c : Dev nD) (k : Fin 2048) :
    (V m c main_v9 : FVec Ideal S1x2048 .f32) (ix2 0 k) = aF m c (ix1 k) := by
  rw [aL_eq]; pointwise

/-- The normalised row `r`. -/
abbrev XR (c : Dev nD) (r : Fin 16384) : Fin 2048 → EReal :=
  rowNorm (fun k => aX m c (ix2 r k)) (fun k => aG m c (ix1 k))

theorem row_lt {n : ℕ} (h : n < cfg0.N) (r : Fin 512) : n / 11 * 512 + r.val < 16384 := by
  have : n < 352 := lt_of_lt_of_eq h N_0
  omega

/-- The blocks the windows hold at a point, at an entry. -/
theorem blk0 (c : Dev nD) (t : Fin cfg0.N) (r : Fin 512) (k : Fin 2048) :
    (iblk m c 0 t : FVec Ideal S512x2048 .f32) (ix2 r k) = aX m c (ix2 ⟨t.val / 11 * 512 + r.val, row_lt t.isLt r⟩ k) := by
  unfold aX; blk_ext [iblk, V, idx t]

theorem blk1 (c : Dev nD) (t : Fin cfg0.N) (k : Fin 2048) :
    (iblk m c 1 t : FVec Ideal S1x2048 .f32) (ix2 0 k) = aG m c (ix1 k) := by
  rw [← g_at]; blk_ext [iblk, idx t]

theorem blk5 (c : Dev nD) (t : Fin cfg0.N) (k : Fin 2048) :
    (iblk m c 5 t : FVec Ideal S1x2048 .f32) (ix2 0 k) = aF m c (ix1 k) := by
  rw [← f_at]; blk_ext [iblk, idx t]

theorem blk2 (c : Dev nD) (t : Fin cfg0.N) (k : Fin 2048) (l : Fin 512) :
    (iblk m c 2 t : FVec Ideal S2048x512 .bf16) (ix2 k l) = aP m c (ix2 k ⟨t.val % 11 * 512 + l.val, by omega⟩) := by
  unfold aP; blk_ext [iblk, idx t]

theorem blk3 (c : Dev nD) (t : Fin cfg0.N) (k : Fin 2048) (l : Fin 512) :
    (iblk m c 3 t : FVec Ideal S2048x512 .bf16) (ix2 k l) = aP m c (ix2 k ⟨5632 + (t.val % 11 * 512 + l.val), by omega⟩) := by
  unfold aP; blk_ext [iblk, idx t]

theorem blk4 (c : Dev nD) (t : Fin cfg0.N) (l : Fin 512) (q : Fin 2048) :
    (iblk m c 4 t : FVec Ideal S512x2048 .bf16) (ix2 l q) = aE m c (ix2 ⟨t.val % 11 * 512 + l.val, by omega⟩ q) := by
  unfold aE; blk_ext [iblk, idx t]

/-- The normalised block the first point of a run computes. -/
theorem first_at (c : Dev nD) (t : Fin cfg0.N) (r : Fin 512) (k : Fin 2048) :
    k0_pay1 (F := Ideal) (iblk m c 0 t) (iblk m c 1 t) (ix2 r k) = XR m c ⟨t.val / 11 * 512 + r.val, row_lt t.isLt r⟩ k :=
  (pay1_at _ _ r k).trans (by simp only [blk0, blk1])

/-- The scratch after a run's first point. -/
theorem scratch_first (c : Dev nD) (t : Fin cfg0.N) (h : t.val % 11 = 0) (r : Fin 512) (k : Fin 2048) :
    ((outsAt0 m c t.val t.isLt).2 : FVec Ideal S512x2048 .bf16) (ix2 r k) = XR m c ⟨t.val / 11 * 512 + r.val, row_lt t.isLt r⟩ k := by
  rw [outsAt0_A m c t h h (by omega) (by omega)]
  frame_out
  exact first_at m c t r k

/-- The later points keep the scratch. -/
theorem scratch_keep (c : Dev nD) (t : Fin cfg0.N) (h : ¬t.val % 11 = 0) :
    (outsAt0 m c t.val t.isLt).2 = (outsAt0 m c (t.val - 1) (Nat.lt_of_le_of_lt (Nat.sub_le _ _) t.isLt)).2 := by
  by_cases h1 : t.val % 11 = 10
  · rw [outsAt0_C m c t h h (by omega) h1]; rfl
  · rw [outsAt0_B m c t h h (by omega) h1]; rfl

/-- The scratch after every point: the normalised rows of the point's block. -/
theorem scratch (c : Dev nD) (r : Fin 512) (k : Fin 2048) (n : ℕ) : ∀ h : n < cfg0.N,
    ((outsAt0 m c n h).2 : FVec Ideal S512x2048 .bf16) (ix2 r k) = XR m c ⟨n / 11 * 512 + r.val, row_lt h r⟩ k := by
  induction n with
  | zero => exact fun h => scratch_first m c ⟨0, h⟩ rfl r k
  | succ n ih =>
    intro h
    by_cases h0 : (n + 1) % 11 = 0
    · exact scratch_first m c ⟨n + 1, h⟩ h0 r k
    · rw [scratch_keep m c ⟨n + 1, h⟩ h0]
      refine (ih (Nat.lt_of_succ_lt h)).trans ?_
      have hd : n / 11 = (n + 1) / 11 := by omega
      simp only [hd]

/-- A point's part of the sum, at an index of the block. -/
def part (c : Dev nD) (t : Fin cfg0.N) (y : S512x2048.Idx) : EReal :=
  ∑ l : Fin 512, hid (XR m c ⟨t.val / 11 * 512 + (y 0).val, row_lt t.isLt (y 0)⟩)
    (fun k => (iblk m c 2 t : FVec Ideal S2048x512 .bf16) (ix2 k l)) (fun k => (iblk m c 3 t : FVec Ideal S2048x512 .bf16) (ix2 k l))
    * (iblk m c 4 t : FVec Ideal S512x2048 .bf16) (ix2 l (y 1))

/-- The output before the last step's addition: the sum of the parts up to the point. -/
def acc (c : Dev nD) (n : ℕ) (h : n < cfg0.N) (y : S512x2048.Idx) : EReal :=
  if n % 11 = 10 then ((outsAt0 m c (n - 1) (Nat.lt_of_le_of_lt (Nat.sub_le _ _) h)).1 : FVec Ideal S512x2048 .f32) y + part m c ⟨n, h⟩ y
  else ((outsAt0 m c n h).1 : FVec Ideal S512x2048 .f32) y

/-- The part a point computes from a scratch holding the normalised rows. -/
theorem part_eq (c : Dev nD) (t : Fin cfg0.N) (n : FVec Ideal S512x2048 .bf16)
    (hn : ∀ r k, n (ix2 r k) = XR m c ⟨t.val / 11 * 512 + r.val, row_lt t.isLt r⟩ k) (y : S512x2048.Idx) :
    k0_pay2 (F := Ideal) n (iblk m c 2 t) (iblk m c 3 t) (iblk m c 4 t) y = part m c t y := by
  rw [eq_ix2 y]
  refine (pay2_at n _ _ _ (y 0) (y 1)).trans ?_
  unfold part
  exact Finset.sum_congr rfl fun l _ => by rw [funext (hn (y 0))]; rfl

/-- The scratch a later point reads. -/
theorem scratch_prev (c : Dev nD) (t : Fin cfg0.N) (h : ¬t.val % 11 = 0) (r : Fin 512) (k : Fin 2048) :
    ((outsAt0 m c (t.val - 1) (Nat.lt_of_le_of_lt (Nat.sub_le _ _) t.isLt)).2 : FVec Ideal S512x2048 .bf16) (ix2 r k)
      = XR m c ⟨t.val / 11 * 512 + r.val, row_lt t.isLt r⟩ k := by
  rw [scratch]
  have hd : (t.val - 1) / 11 = t.val / 11 := by omega
  simp only [hd]

theorem acc_zero (c : Dev nD) (t : Fin cfg0.N) (h : t.val % 11 = 0) (y : S512x2048.Idx) :
    acc m c t.val t.isLt y = 0 + part m c t y := by
  unfold acc
  rw [if_neg (by omega), zero_add, outsAt0_A m c t h h (by omega) (by omega)]
  frame_out
  exact part_eq m c t _ (first_at m c t) y

theorem acc_step (c : Dev nD) (t : Fin cfg0.N) (h : ¬t.val % 11 = 0) (y : S512x2048.Idx) :
    acc m c t.val t.isLt y = acc m c (t.val - 1) (Nat.lt_of_le_of_lt (Nat.sub_le _ _) t.isLt) y + part m c t y := by
  have h2 : acc m c (t.val - 1) (Nat.lt_of_le_of_lt (Nat.sub_le _ _) t.isLt) y
      = ((outsAt0 m c (t.val - 1) (Nat.lt_of_le_of_lt (Nat.sub_le _ _) t.isLt)).1 : FVec Ideal S512x2048 .f32) y := by
    unfold acc; rw [if_neg (by omega)]
  rw [h2]
  unfold acc
  by_cases h1 : t.val % 11 = 10
  · rw [if_pos h1]
  · rw [if_neg h1, outsAt0_B m c t h h (by omega) h1]
    frame_out
    rw [read_unread_whole, pay3_at, part_eq m c t _ (scratch_prev m c t h)]

/-- The parts of a run's eleven points sum to the product over the unpadded hidden units. -/
theorem parts_sum (c : Dev nD) (t : Fin cfg0.N) (hr : t.val % 11 = 11 - 1) (y : S512x2048.Idx) :
    ∑ s : Fin 11, part m c ⟨11 * (t.val / 11) + s.val, Pipeline.run_point_lt_of_flush t hr s⟩ y
      = ∑ l : Fin 5504, hid (XR m c ⟨t.val / 11 * 512 + (y 0).val, row_lt t.isLt (y 0)⟩)
          (fun k => aW m c (ix2 k ⟨l.val, by omega⟩)) (fun k => aW m c (ix2 k ⟨5504 + l.val, by omega⟩)) * aD m c (ix2 l (y 1)) := by
  trans ∑ l : Fin 5632, hid (XR m c ⟨t.val / 11 * 512 + (y 0).val, row_lt t.isLt (y 0)⟩)
          (fun k => aP m c (ix2 k ⟨l.val, by omega⟩)) (fun k => aP m c (ix2 k ⟨5632 + l.val, by omega⟩)) * (show EReal from aE m c (ix2 l (y 1)))
  · refine Fin.sum_mul_add_congr fun s l hl => ?_
    have hm : (11 * (t.val / 11) + s.val) % 11 = s.val := by omega
    have hq : (11 * (t.val / 11) + s.val) / 11 = t.val / 11 := by omega
    have h4 := blk4 m c ⟨11 * (t.val / 11) + s.val, Pipeline.run_point_lt_of_flush t hr s⟩ l (y 1)
    simp only [hm] at h4
    simp only [blk2, blk3, hm, hq]
    exact congrArg₂ _ rfl h4
  · refine (Fin.sum_univ_add (a := 5504) (b := 128) _).trans ?_
    refine (congrArg₂ (· + ·) rfl (Finset.sum_eq_zero fun l _ => ?_)).trans ((add_zero _).trans ?_)
    · refine (congrArg₂ _ (hid_zero _ _ _ fun k => up_pad m c k l) rfl).trans ?_
      exact zero_mul _
    · exact Finset.sum_congr rfl fun l _ => congrArg₂ _ (congrArg₂ _ (funext fun k => gate_at m c k l) (funext fun k => up_at m c k l)) (down_at m c l (y 1))

/-- The row before the last norm is the feed-forward reference's. -/
theorem row_eq (c : Dev nD) (t : Fin cfg0.N) (hr : t.val % 11 = 10) (r : Fin 512) (q : Fin 2048) :
    (show EReal from (iblk m c 0 t : FVec Ideal S512x2048 .f32) (ix2 r q)) + Ideal.ofBits .f32 0x3F000000#32 * acc m c t.val t.isLt (ix2 r q)
      = Cert.FfnRefIdeal.Pure.REF (aX m c) (aG m c) (aW m c) (aD m c) (ix2 ⟨t.val / 11 * 512 + r.val, row_lt t.isLt r⟩ q) := by
  have hs := Pipeline.eq_sum_fin_of_reset_step_apply_of_flush (fun n h => acc m c n h) 11 (fun _ => 0) (part m c) (acc_zero m c) (acc_step m c) t hr (ix2 r q)
  rw [zero_add, parts_sum m c t hr] at hs
  rw [hs]
  refine Eq.trans ?_ (Cert.FfnRefIdeal.Pure.REF_at _ _ _ _ _ _).symm
  exact congrArg₂ _ (blk0 m c t r q) rfl

/-- The result array after the run is the reference's. -/
theorem final (c : Dev nD) : (dats m 0 c).arrAt 6 (cfgs 0).N
    = Cert.FfnRefIdeal.Pure.LAST (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have hr := (flush0_6 t).mp hf
  blk_simp
  rw [after0_6, outsAt0_C m c t (by omega) (by omega) (by omega) hr]
  frame_out
  have he : ((View.whole main_v10).slice (win0_6.rect t)).emb y = (ix2 ⟨t.val / 11 * 512 + (y 0).val, row_lt t.isLt (y 0)⟩ (y 1) : S16384x2048.Idx) := by
    blk_ext [idx t]
  rw [he]
  refine (congrArg _ (eq_ix2 y)).trans ((pay4_at _ _ _ (y 0) (y 1)).trans ?_)
  refine Eq.trans ?_ (Cert.FfnRefIdeal.Pure.XN_at _ _ _ _).symm
  refine congrArg₂ (fun a b => rowNorm a b (y 1)) (funext fun k => ?_) (funext fun k => blk5 m c t k)
  refine Eq.trans ?_ (row_eq m c t hr (y 0) k)
  have ha : acc m c t.val t.isLt (ix2 (y 0) k)
      = ((outsAt0 m c (t.val - 1) (Nat.lt_of_le_of_lt (Nat.sub_le _ _) t.isLt)).1 : FVec Ideal S512x2048 .f32) (ix2 (y 0) k) + part m c t (ix2 (y 0) k) :=
    if_pos hr
  rw [ha, pay3_at, read_unread_whole, part_eq m c t _ (scratch_prev m c t (by omega))]

end Cert.FfnLastIdeal.Value

end
-- ==== Proof.Qkv.Pure.lean ====
/- The projection call's pure part: what the body computes and what the reference's term is, entry by entry. -/
module

public import proofs.«01_k».proof.Proof.Ffn.Pure
public import proofs.«01_k».proof.Proof.Gen.QkvIdeal.Skeleton
public import proofs.«01_k».proof.Proof.Gen.QkvRefIdeal.Run

@[expose] public section

set_option maxRecDepth 16384

noncomputable section

open Idealize.ShloMosaic Idealize.ShloMosaic.TcCoe Idealize.SL.Sem

namespace Cert.QkvRefIdeal.Pure

open Cert.QkvRefIdeal Cert.QkvRefIdeal.Gen Cert.FfnMath

/-- The reference's products of the normalised rows. -/
def PR (X : FVec Ideal S16384x2048 .f32) (G : FVec Ideal S2048 .f32) (W : FVec Ideal S2048x4608 .f32) : FVec Ideal S16384x4608 .f32 :=
  Host.dotGeneral dot_S16384x2048_S2048x4608_S16384x4608_1_0_0_1_n_n none (Cert.FfnRefIdeal.Pure.XN X G) W

/-- The reference's result over its three arguments. -/
def REF (X : FVec Ideal S16384x2048 .f32) (G : FVec Ideal S2048 .f32) (W : FVec Ideal S2048x4608 .f32) : FVec Ideal S16384x3072 .bf16 :=
  truncf .bf16 (concatenate S16384x3072 1 [⟨S16384x1024, (mulf (extractStridedSlice S16384x1024 ![0, 0] (PR X G W) slices_S16384x4608_S16384x1024_0_0) (broadcastInDim S16384x1024 ![] bcast_S_S16384x1024 (constant S_ .f32 0x3DB504F3#32)))⟩, ⟨S16384x2048, (extractStridedSlice S16384x2048 ![0, 1024] (PR X G W) slices_S16384x4608_S16384x2048_0_1024)⟩] concatenates_S16384x1024_S16384x2048_S16384x3072_d1) bitsLt_bf16_f32

/-- The products at an entry. -/
theorem PR_at (X : FVec Ideal S16384x2048 .f32) (G : FVec Ideal S2048 .f32) (W : FVec Ideal S2048x4608 .f32) (r : Fin 16384) (l : Fin 4608) :
    PR X G W (ix2 r l) = ∑ k : Fin 2048, rowNorm (fun k => X (ix2 r k)) (fun k => G (ix1 k)) k * W (ix2 k l) := by
  unfold PR
  refine Eq.trans (by pointwise) (Finset.sum_congr rfl fun k _ => congrArg₂ _ (Cert.FfnRefIdeal.Pure.XN_at X G r k) rfl)

/-- The reference at an entry of the queries' columns. -/
theorem REF_lo (X : FVec Ideal S16384x2048 .f32) (G : FVec Ideal S2048 .f32) (W : FVec Ideal S2048x4608 .f32) (r : Fin 16384) (l : Fin 3072) (h : l.val < 1024) :
    REF X G W (ix2 r l) = PR X G W (ix2 r ⟨l.val, by omega⟩) * Ideal.ofBits .f32 0x3DB504F3#32 := by
  pointwise [REF]
  rw [dif_pos h]

/-- The reference at an entry of the keys' and values' columns. -/
theorem REF_hi (X : FVec Ideal S16384x2048 .f32) (G : FVec Ideal S2048 .f32) (W : FVec Ideal S2048x4608 .f32) (r : Fin 16384) (l : Fin 3072) (h : ¬l.val < 1024) :
    REF X G W (ix2 r l) = PR X G W (ix2 r ⟨l.val, by omega⟩) := by
  pointwise [REF]
  rw [dif_neg h]
  exact congrArg _ (congrArg _ (Fin.ext (by simp only; omega)))

end Cert.QkvRefIdeal.Pure

namespace Cert.QkvIdeal.Pure

open Cert.QkvIdeal Cert.QkvIdeal.Gen Cert.FfnMath

/-- The body's normalised block at an entry. -/
theorem pay1_at (x : FVec Ideal S512x2048 .f32) (g : FVec Ideal S1x2048 .f32) (r : Fin 512) (k : Fin 2048) :
    k0_pay1 (F := Ideal) x g (ix2 r k) = rowNorm (fun k => x (ix2 r k)) (fun k => g (ix2 0 k)) k :=
  Cert.FfnIdeal.Pure.pay1_at x g r k

/-- The body's product at an entry, in the queries' columns. -/
theorem pay2_lo (i : grid0.Coords) (h : (i 1).val = 0) (n : FVec Ideal S512x2048 .bf16) (w : FVec Ideal S2048x1024 .bf16) (r : Fin 512) (q : Fin 1024) :
    k0_pay2 (F := Ideal) i n w (ix2 r q) = (∑ k : Fin 2048, n (ix2 r k) * w (ix2 k q)) * Ideal.ofBits .f32 0x3DB504F3#32 := by
  pointwise [k0_pay2]
  rw [h]
  rfl

/-- The body's product at an entry, in the other columns. -/
theorem pay2_hi (i : grid0.Coords) (h : (i 1).val = 1 ∨ (i 1).val = 2) (n : FVec Ideal S512x2048 .bf16) (w : FVec Ideal S2048x1024 .bf16) (r : Fin 512) (q : Fin 1024) :
    k0_pay2 (F := Ideal) i n w (ix2 r q) = ∑ k : Fin 2048, n (ix2 r k) * w (ix2 k q) := by
  pointwise [k0_pay2]
  rcases h with h | h <;> rw [h] <;> exact mul_one _

end Cert.QkvIdeal.Pure

end
-- ==== Proof.Qkv.Value.lean ====
/- The projection call's result: each block of the kernel is the reference's. -/
module

public import proofs.«01_k».proof.Proof.Qkv.Pure
public import proofs.«01_k».proof.Proof.Gen.QkvIdeal.Frame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen Cert.QkvIdeal.Pure Cert.FfnMath

variable (m : (ℓ : Loc nD τ sig) → Buf (Elt Ideal) ℓ)

/-- The windows' block indices at every point. -/
theorem idx : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

/-- The column coordinate of every point. -/
theorem col : ∀ t : Fin cfg0.N, (grid0.coords t 1).val = t.val % 3 :=
  (by decide +kernel : ∀ t : Fin grid0.N, _)

/-- The three arguments. -/
abbrev aX (c : Dev nD) : FVec Ideal S16384x2048 .f32 := m ((c : Thread nD τ).loc main_arg0)
abbrev aG (c : Dev nD) : FVec Ideal S2048 .f32 := m ((c : Thread nD τ).loc main_arg1)
abbrev aW (c : Dev nD) : FVec Ideal S2048x4608 .f32 := m ((c : Thread nD τ).loc main_arg2)

/-- The weight's row. -/
theorem g_at (c : Dev nD) (k : Fin 2048) :
    (V m c main_v0 : FVec Ideal S1x2048 .f32) (ix2 0 k) = aG m c (ix1 k) := by
  unfold aG; entry_read; pointwise

/-- The weights as the kernel reads them. -/
theorem w_at (c : Dev nD) (k : Fin 2048) (l : Fin 4608) :
    (V m c main_v1 : FVec Ideal S2048x4608 .bf16) (ix2 k l) = aW m c (ix2 k l) := by
  unfold aW; entry_read; pointwise

/-- The normalised row `r`. -/
abbrev XR (c : Dev nD) (r : Fin 16384) : Fin 2048 → EReal :=
  rowNorm (fun k => aX m c (ix2 r k)) (fun k => aG m c (ix1 k))

theorem row_lt {n : ℕ} (h : n < cfg0.N) (r : Fin 512) : n / 3 * 512 + r.val < 16384 := by
  have : n < 96 := lt_of_lt_of_eq h N_0
  omega

theorem col_lt (t : Fin cfg0.N) (q : Fin 1024) : t.val % 3 * 1024 + q.val < 3072 := by omega

/-- The blocks the windows hold at a point, at an entry. -/
theorem blk0 (c : Dev nD) (t : Fin cfg0.N) (r : Fin 512) (k : Fin 2048) :
    (iblk m c 0 t : FVec Ideal S512x2048 .f32) (ix2 r k) = aX m c (ix2 ⟨t.val / 3 * 512 + r.val, row_lt t.isLt r⟩ k) := by
  unfold aX; blk_ext [iblk, V, idx t]

theorem blk1 (c : Dev nD) (t : Fin cfg0.N) (k : Fin 2048) :
    (iblk m c 1 t : FVec Ideal S1x2048 .f32) (ix2 0 k) = aG m c (ix1 k) := by
  rw [← g_at]; blk_ext [iblk, idx t]

theorem blk2 (c : Dev nD) (t : Fin cfg0.N) (k : Fin 2048) (l : Fin 1024) :
    (X0_2 m c t : FVec Ideal S2048x1024 .bf16) (ix2 k l) = aW m c (ix2 k ⟨t.val % 3 * 1024 + l.val, by omega⟩) := by
  rw [← w_at]
  unfold X0_2 Pipeline.Window.fill
  rw [dif_pos (moved0_2 t _)]
  blk_ext [iblk, idx t]

/-- The normalised block the first point of a run computes. -/
theorem first_at (c : Dev nD) (t : Fin cfg0.N) (r : Fin 512) (k : Fin 2048) :
    k0_pay1 (F := Ideal) (iblk m c 0 t) (iblk m c 1 t) (ix2 r k) = XR m c ⟨t.val / 3 * 512 + r.val, row_lt t.isLt r⟩ k :=
  (pay1_at _ _ r k).trans (by simp only [blk0, blk1])

/-- The scratch after a run's first point. -/
theorem scratch_first (c : Dev nD) (t : Fin cfg0.N) (h : t.val % 3 = 0) (r : Fin 512) (k : Fin 2048) :
    ((outsAt0 m c t.val t.isLt).2 : FVec Ideal S512x2048 .bf16) (ix2 r k) = XR m c ⟨t.val / 3 * 512 + r.val, row_lt t.isLt r⟩ k := by
  rw [outsAt0_A m c t h]
  frame_out
  exact first_at m c t r k

/-- The later points keep the scratch. -/
theorem scratch_keep (c : Dev nD) (t : Fin cfg0.N) (h : ¬t.val % 3 = 0) :
    (outsAt0 m c t.val t.isLt).2 = (outsAt0 m c (t.val - 1) (Nat.lt_of_le_of_lt (Nat.sub_le _ _) t.isLt)).2 := by
  rw [outsAt0_B m c t h]; rfl

/-- The scratch after every point: the normalised rows of the point's block. -/
theorem scratch (c : Dev nD) (r : Fin 512) (k : Fin 2048) (n : ℕ) : ∀ h : n < cfg0.N,
    ((outsAt0 m c n h).2 : FVec Ideal S512x2048 .bf16) (ix2 r k) = XR m c ⟨n / 3 * 512 + r.val, row_lt h r⟩ k := by
  induction n with
  | zero => exact fun h => scratch_first m c ⟨0, h⟩ rfl r k
  | succ n ih =>
    intro h
    by_cases h0 : (n + 1) % 3 = 0
    · exact scratch_first m c ⟨n + 1, h⟩ h0 r k
    · rw [scratch_keep m c ⟨n + 1, h⟩ h0]
      refine (ih (Nat.lt_of_succ_lt h)).trans ?_
      have hd : n / 3 = (n + 1) / 3 := by omega
      simp only [hd]

/-- The scratch a later point reads. -/
theorem scratch_prev (c : Dev nD) (t : Fin cfg0.N) (h : ¬t.val % 3 = 0) (r : Fin 512) (k : Fin 2048) :
    ((outsAt0 m c (t.val - 1) (Nat.lt_of_le_of_lt (Nat.sub_le _ _) t.isLt)).2 : FVec Ideal S512x2048 .bf16) (ix2 r k)
      = XR m c ⟨t.val / 3 * 512 + r.val, row_lt t.isLt r⟩ k := by
  rw [scratch]
  have hd : (t.val - 1) / 3 = t.val / 3 := by omega
  simp only [hd]

/-- The sum a point computes from a scratch holding the normalised rows. -/
theorem sum_eq (c : Dev nD) (t : Fin cfg0.N) (n : FVec Ideal S512x2048 .bf16)
    (hn : ∀ r k, n (ix2 r k) = XR m c ⟨t.val / 3 * 512 + r.val, row_lt t.isLt r⟩ k) (r : Fin 512) (q : Fin 1024) :
    ∑ k : Fin 2048, n (ix2 r k) * (X0_2 m c t : FVec Ideal S2048x1024 .bf16) (ix2 k q)
      = Cert.QkvRefIdeal.Pure.PR (aX m c) (aG m c) (aW m c) (ix2 ⟨t.val / 3 * 512 + r.val, row_lt t.isLt r⟩ ⟨t.val % 3 * 1024 + q.val, by omega⟩) := by
  refine Eq.trans ?_ (Cert.QkvRefIdeal.Pure.PR_at _ _ _ _ _).symm
  exact Finset.sum_congr rfl fun k _ => congrArg₂ _ (hn r k) (blk2 m c t k q)

/-- The block a point computes from a scratch holding the normalised rows is the reference's. -/
theorem block_eq (c : Dev nD) (t : Fin cfg0.N) (n : FVec Ideal S512x2048 .bf16)
    (hn : ∀ r k, n (ix2 r k) = XR m c ⟨t.val / 3 * 512 + r.val, row_lt t.isLt r⟩ k) (r : Fin 512) (q : Fin 1024) :
    k0_pay2 (F := Ideal) (grid0.coords t) n (X0_2 m c t) (ix2 r q)
      = Cert.QkvRefIdeal.Pure.REF (aX m c) (aG m c) (aW m c) (ix2 ⟨t.val / 3 * 512 + r.val, row_lt t.isLt r⟩ ⟨t.val % 3 * 1024 + q.val, by omega⟩) := by
  by_cases h : t.val % 3 = 0
  · refine (pay2_lo _ ((col t).trans h) n _ r q).trans ?_
    refine Eq.trans ?_ (Cert.QkvRefIdeal.Pure.REF_lo _ _ _ _ _ (by simp only [h]; omega)).symm
    exact congrArg₂ _ (sum_eq m c t n hn r q) rfl
  · refine (pay2_hi _ (by rw [col t]; omega) n _ r q).trans ?_
    refine Eq.trans ?_ (Cert.QkvRefIdeal.Pure.REF_hi _ _ _ _ _ (by simp only; omega)).symm
    exact sum_eq m c t n hn r q

/-- The result array after the run is the reference's. -/
theorem final (c : Dev nD) : (dats m 0 c).arrAt 3 (cfgs 0).N
    = Cert.QkvRefIdeal.Pure.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have he : ((View.whole main_v2).slice (win0_3.rect t)).emb y
      = (ix2 ⟨t.val / 3 * 512 + (y 0).val, row_lt t.isLt (y 0)⟩ ⟨t.val % 3 * 1024 + (y 1).val, col_lt t (y 1)⟩ : S16384x3072.Idx) := by
    blk_ext [idx t]
  rw [he]
  by_cases h : t.val % 3 = 0
  · rw [outsAt0_A m c t h]
    frame_out
    exact (congrArg _ (eq_ix2 y)).trans (block_eq m c t _ (first_at m c t) (y 0) (y 1))
  · rw [outsAt0_B m c t h]
    frame_out
    rw [read_unread_whole]
    exact (congrArg _ (eq_ix2 y)).trans (block_eq m c t _ (scratch_prev m c t h) (y 0) (y 1))

end Cert.QkvIdeal.Value

end
-- ==== Proof.OutProj.Value.lean ====
/- The output projection's result: each block of the kernel is the reference's. -/
module

public import proofs.«01_k».proof.Proof.Gen.OutProjIdeal.Frame
public import proofs.«01_k».proof.Proof.Gen.OutProjRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The reference's result over its four arguments. -/
abbrev REF (X : FVec Ideal Cert.OutProjRefIdeal.S16384x2048 .f32) (A B : FVec Ideal Cert.OutProjRefIdeal.S16384x1024 .bf16)
    (W : FVec Ideal Cert.OutProjRefIdeal.S2048x2048 .f32) : FVec Ideal Cert.OutProjRefIdeal.S16384x2048 .f32 :=
  addf X (Host.dotGeneral Cert.OutProjRefIdeal.dot_S16384x2048_S2048x2048_S16384x2048_1_0_0_1_n_n none
    (concatenate Cert.OutProjRefIdeal.S16384x2048 1 [⟨Cert.OutProjRefIdeal.S16384x1024, extf .f32 A Cert.OutProjRefIdeal.Gen.bitsLt_bf16_f32⟩,
      ⟨Cert.OutProjRefIdeal.S16384x1024, extf .f32 B Cert.OutProjRefIdeal.Gen.bitsLt_bf16_f32⟩]
      Cert.OutProjRefIdeal.Gen.concatenates_S16384x1024_S16384x1024_S16384x2048_d1) W)

/-- The windows' block indices at every point. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, _)

/-- The reference at an index: the argument plus the two halves of the product's sum. -/
theorem ref_at (X : FVec Ideal Cert.OutProjRefIdeal.S16384x2048 .f32) (A B : FVec Ideal Cert.OutProjRefIdeal.S16384x1024 .bf16)
    (W : FVec Ideal Cert.OutProjRefIdeal.S2048x2048 .f32) (j : Cert.OutProjRefIdeal.S16384x2048.Idx) :
    REF X A B W j = X j + ((∑ k : Fin 1024, A (ix2 (j 0) k) * W (ix2 ⟨k.val, by omega⟩ (j 1)))
      + ∑ k : Fin 1024, B (ix2 (j 0) k) * W (ix2 ⟨1024 + k.val, by omega⟩ (j 1))) := by
  pointwise [REF]

/-- What the body stores, at an index: the argument's entry plus the two products. -/
theorem pay_at (x : FVec Ideal S512x2048 .f32) (a b : FVec Ideal S512x1024 .bf16) (wa wb : FVec Ideal S1024x2048 .bf16) (y : S512x2048.Idx) :
    k0_pay1 (F := Ideal) x a wa b wb y = x y + (∑ k : Fin 1024, a (ix2 (y 0) k) * wa (ix2 k (y 1)))
      + ∑ k : Fin 1024, b (ix2 (y 0) k) * wb (ix2 k (y 1)) := by
  pointwise [k0_pay1]

/-- The result array after the run is the reference's. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  rw [pay_at, ref_at, add_assoc]
  blk_point [iblk, V, idx t]

end Cert.OutProjIdeal.Value

end
-- ==== Proof.SguPool.Math.lean ====
/- The gating unit and the pooling mixer over extended reals: their functions, and why a window's sum is a difference of running sums. -/
module

public import proofs.«01_k».proof.Proof.Ffn.Pure

@[expose] public section

set_option maxRecDepth 16384

noncomputable section

open Idealize.ShloMosaic

namespace Cert.SguMath

open Cert.FfnMath

/-- The smooth gate, through the hyperbolic tangent. -/
def gelu (y : EReal) : EReal :=
  y * (Ideal.ofBits .f32 0x3F000000#32 * (1
    + Ideal.tanh (Ideal.ofBits .f32 0x3F4C422A#32 * (y + Ideal.ofBits .f32 0x3D372713#32 * (y * y * y)))))

/-- A group's normalised entry `k`: the entry over the root of the group's mean square, times the weight. -/
def norm (v g : Fin 128 → EReal) (k : Fin 128) : EReal :=
  v k * Ideal.rsqrt (Ideal.div (∑ l, v l * v l) (Ideal.ofBits .f32 0x43000000#32) + Ideal.ofBits .f32 0x358637BD#32) * g k

/-- The four trailing windows. -/
def win (g : Fin 4) : ℕ := 2 ^ (g.val + 1)

theorem win_le (g : Fin 4) : win g ≤ 128 := by fin_cases g <;> decide

/-- The number of positions that a window of `w` holds at position `R`. -/
def cnt (w R : ℕ) : EReal := (((IntOp.minsi (BitVec.ofNat 32 R + 1#32) (BitVec.ofNat 32 w)).toInt : ℝ) : EReal)

/-- Being a real, and no infinity. -/
def IsReal (x : EReal) : Prop := ∃ y : ℝ, x = (y : EReal)

theorem IsReal.mul {a b : EReal} (ha : IsReal a) (hb : IsReal b) : IsReal (a * b) := by
  obtain ⟨x, rfl⟩ := ha; obtain ⟨y, rfl⟩ := hb
  exact ⟨x * y, (EReal.coe_mul x y).symm⟩

theorem IsReal.add {a b : EReal} (ha : IsReal a) (hb : IsReal b) : IsReal (a + b) := by
  obtain ⟨x, rfl⟩ := ha; obtain ⟨y, rfl⟩ := hb
  exact ⟨x + y, (EReal.coe_add x y).symm⟩

theorem isReal_zero : IsReal 0 := ⟨0, rfl⟩

/-- A sum of reals is a real. -/
theorem isReal_sum {ι : Type} (s : Finset ι) (f : ι → EReal) (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- A real less itself is nothing. -/
theorem IsReal.sub_self {a : EReal} (ha : IsReal a) : a - a = 0 := by
  obtain ⟨x, rfl⟩ := ha
  rw [← EReal.coe_sub, _root_.sub_self]; rfl

/-- What is added to a real is left when the real is taken away. -/
theorem IsReal.add_sub_cancel {a : EReal} (ha : IsReal a) {b : EReal} (hb : IsReal b) : a + b - a = b := by
  obtain ⟨x, rfl⟩ := ha; obtain ⟨y, rfl⟩ := hb
  rw [← EReal.coe_add, ← EReal.coe_sub, add_sub_cancel_left]

/-- A sequence that begins 128 places late, with zeros before. -/
def late (p : ℕ → EReal) (n : ℕ) : EReal := if n < 128 then 0 else p (n - 128)

theorem isReal_late (p : ℕ → EReal) (hp : ∀ n, IsReal (p n)) (n : ℕ) : IsReal (late p n) := by
  unfold late; split
  · exact isReal_zero
  · exact hp _

/-- The running sum of the late sequence is that of the sequence. -/
theorem sum_late (p : ℕ → EReal) (n : ℕ) : ∑ k ∈ Finset.range (n + 128), late p k = ∑ k ∈ Finset.range n, p k := by
  rw [show n + 128 = 128 + n by omega, Finset.sum_range_add]
  have hz : ∑ k ∈ Finset.range 128, late p k = 0 := Finset.sum_eq_zero fun k hk => if_pos (Finset.mem_range.mp hk)
  rw [hz, zero_add]
  refine Finset.sum_congr rfl fun k _ => ?_
  unfold late
  rw [if_neg (by omega), Nat.add_sub_cancel_left]

/-- A window of ones picks the late sequence's sum over the window. -/
theorem sum_band (e : ℕ → EReal) (w r b : ℕ) (hw : w ≤ 128) (hr : r < 128) :
    ∑ j : Fin 256, (if j.val ≤ r + 128 ∧ r + 128 < j.val + w then (1 : EReal) else 0) * e (b + j.val)
      = ∑ k ∈ Finset.range w, e (b + r + 129 - w + k) := by
  rw [Fin.sum_univ_eq_sum_range (fun j => (if j ≤ r + 128 ∧ r + 128 < j + w then (1 : EReal) else 0) * e (b + j)) 256]
  have h1 : ∑ k ∈ Finset.range w, e (b + r + 129 - w + k) = ∑ j ∈ Finset.Ico (r + 129 - w) (r + 129), e (b + j) := by
    rw [Finset.sum_Ico_eq_sum_range, show r + 129 - (r + 129 - w) = w by omega]
    refine Finset.sum_congr rfl fun k _ => congrArg e (by omega)
  rw [h1]
  symm
  refine (Finset.sum_congr rfl fun j hj => ?_).trans (Finset.sum_subset ?_ fun j _ hj => ?_)
  · have := Finset.mem_Ico.mp hj
    rw [if_pos (by omega), one_mul]
  · intro j hj
    have := Finset.mem_Ico.mp hj
    exact Finset.mem_range.mpr (by omega)
  · rw [if_neg (fun h => hj (Finset.mem_Ico.mpr (by omega))), zero_mul]

/-- The window's sum is the difference of the running sums, where the entries are reals. -/
theorem window (p : ℕ → EReal) (hp : ∀ n, IsReal (p n)) (w R : ℕ) (hw : w ≤ 128) :
    (∑ k ∈ Finset.range (R + 1), p k) - (if R < w then 0 else ∑ k ∈ Finset.range (R - w + 1), p k)
      = ∑ k ∈ Finset.range w, late p (R + 129 - w + k) := by
  have h0 : (if R < w then 0 else ∑ k ∈ Finset.range (R - w + 1), p k) = ∑ k ∈ Finset.range (R + 129 - w), late p k := by
    split
    · symm
      refine Finset.sum_eq_zero fun k hk => if_pos ?_
      have := Finset.mem_range.mp hk
      omega
    · rw [← sum_late, show R - w + 1 + 128 = R + 129 - w by omega]
  have h1 : ∑ k ∈ Finset.range (R + 1), p k = ∑ k ∈ Finset.range (R + 129 - w), late p k + ∑ k ∈ Finset.range w, late p (R + 129 - w + k) := by
    rw [← sum_late, ← Finset.sum_range_add]
    exact congrArg (fun n => ∑ k ∈ Finset.range n, late p k) (by omega)
  rw [h0, h1]
  exact (isReal_sum _ _ fun k _ => isReal_late p hp k).add_sub_cancel (isReal_sum _ _ fun k _ => isReal_late p hp _)

/-- A square is not negative. -/
theorem sq_nonneg (x : EReal) : 0 ≤ x * x := by
  induction x using EReal.rec with
  | bot => simp
  | top => simp
  | coe y => rw [← EReal.coe_mul]; exact EReal.coe_nonneg.mpr (mul_self_nonneg y)

/-- An entry over the root of its row's mean square is a real, whatever the row. -/
theorem isReal_scaled (x : Fin 2048 → EReal) (k : Fin 2048) :
    IsReal (x k * Ideal.rsqrt (Ideal.div (∑ l, x l * x l) (Ideal.ofBits .f32 0x45000000#32) + Ideal.ofBits .f32 0x358637BD#32)) := by
  have hn : Ideal.ofBits .f32 0x45000000#32 = ((2048 : ℝ) : EReal) := by
    simp [Ideal.ofBits, Ideal.ieee]
    rw [← EReal.coe_mul]
    norm_num
  have he : ∃ e : ℝ, 0 < e ∧ Ideal.ofBits .f32 0x358637BD#32 = (e : EReal) := by
    refine ⟨_, ?_, by simp [Ideal.ofBits, Ideal.ieee]; rfl⟩
    positivity
  obtain ⟨e, he0, he⟩ := he
  rw [hn, he]
  have hs : (0 : EReal) ≤ ∑ l, x l * x l := Finset.sum_nonneg fun l _ => sq_nonneg _
  have hd : Ideal.div (∑ l, x l * x l) ((2048 : ℝ) : EReal) = (∑ l, x l * x l) * (((2048 : ℝ)⁻¹ : ℝ) : EReal) := by
    unfold Ideal.div
    rw [if_neg (by norm_num), EReal.coe_inv]
  rw [hd]
  by_cases ht : ∑ l, x l * x l = ⊤
  · rw [ht, EReal.top_mul_coe_of_pos (by norm_num), EReal.top_add_coe]
    show IsReal (x k * 0)
    rw [mul_zero]; exact isReal_zero
  · have hk : x k * x k ≠ ⊤ := fun h => ht (top_le_iff.mp (h ▸ Finset.single_le_sum (f := fun l => x l * x l) (fun l _ => sq_nonneg _) (Finset.mem_univ k)))
    have hx : IsReal (x k) := by
      generalize x k = y at hk
      induction y using EReal.rec with
      | bot => simp at hk
      | top => simp at hk
      | coe y => exact ⟨y, rfl⟩
    generalize (∑ l, x l * x l) = s at hs ht
    refine hx.mul ?_
    induction s using EReal.rec with
    | bot => simp at hs
    | top => simp at ht
    | coe s =>
      have hs0 : 0 ≤ s := EReal.coe_nonneg.mp hs
      rw [← EReal.coe_mul, ← EReal.coe_add]
      have hpos : 0 < s * 2048⁻¹ + e := by positivity
      show IsReal (if s * 2048⁻¹ + e < 0 then ⊥ else if s * 2048⁻¹ + e = 0 then ⊤ else (((Real.sqrt (s * 2048⁻¹ + e))⁻¹ : ℝ) : EReal))
      rw [if_neg (by linarith), if_neg (by linarith)]
      exact ⟨_, rfl⟩

/-- The products of a normalised row with finite weights are reals, whatever the row. -/
theorem isReal_proj (x g w : Fin 2048 → EReal) (hg : ∀ k, IsReal (g k)) (hw : ∀ k, IsReal (w k)) :
    IsReal (∑ k, rowNorm x g k * w k) :=
  isReal_sum _ _ fun k _ => ((isReal_scaled x k).mul (hg k)).mul (hw k)

end Cert.SguMath

end
-- ==== Proof.SguPool.Pure.lean ====
/- The gating and pooling kernel's stored values, entry by entry. -/
module

public import proofs.«01_k».proof.Proof.SguPool.Math
public import proofs.«01_k».proof.Proof.Gen.SguPoolIdeal.Skeleton
public import Idealize.ShloMosaic.Lib.WordCmp

@[expose] public section

set_option maxRecDepth 16384

noncomputable section

open Idealize.ShloMosaic Idealize.ShloMosaic.TcCoe Idealize.SL.Sem

namespace Cert.SguPoolIdeal.Pure

open Cert.SguPoolIdeal Cert.SguPoolIdeal.Gen Cert.FfnMath Cert.SguMath

/-- Place `r` of part `c` of four. -/
def at4 (c : ℕ) (hc : c < 4) (r : Fin 128) : Fin 512 := ⟨c * 128 + r.val, by omega⟩

/-- The rows' positions in a tile. -/
abbrev io : IVec S128x128 32 := iota .tc S128x128 32 [0] iota_S128x128_d0_w32

/-- The constant one. -/
abbrev one : Ideal .f32 := Scalar.ofBits (F := Ideal) .f32 0x3F800000#32

/-- The count a row of a tile divides by. -/
def kcnt (w a b : BitVec 32) (r : ℕ) : EReal :=
  (((IntOp.minsi (IntOp.addi (IntOp.addi (Scalar.addi (Scalar.muli a 512#32) b) (BitVec.ofNat 32 r)) 1#32) w).toInt : ℝ) : EReal)

/-- The products at an entry. -/
theorem pay4_at (v0 : Vec Ideal S512x2048 .f32) (v1 : Vec Ideal S1x2048 .f32) (v16 : Vec Ideal S2048x1536 .bf16) (r : Fin 512) (l : Fin 1536) :
    k0_pay4 v0 v1 v16 (ix2 r l) = ∑ k : Fin 2048, rowNorm (fun k => v0 (ix2 r k)) (fun k => v1 (ix2 0 k)) k * v16 (ix2 k l) := by
  pointwise [k0_pay4, rowNorm]

/-- The gate with the cube read from the right. -/
theorem gelu' (y : EReal) : gelu y = y * (Ideal.ofBits .f32 0x3F000000#32 * (1
    + Ideal.tanh (Ideal.ofBits .f32 0x3F4C422A#32 * (y + Ideal.ofBits .f32 0x3D372713#32 * (y * (y * y)))))) := by
  rw [gelu, mul_assoc y y y]

/-- The gate of the first columns. -/
theorem pay5_at (v0 : Vec Ideal S512x2048 .f32) (v1 : Vec Ideal S1x2048 .f32) (v16 : Vec Ideal S2048x1536 .bf16) (r : Fin 512) (l : Fin 512) :
    k0_pay5 v0 v1 v16 (ix2 r l) = gelu (k0_pay4 v0 v1 v16 (ix2 r ⟨l.val, by omega⟩)) := by
  pointwise [k0_pay5, gelu']

/-- The gate of the second columns. -/
theorem pay8_at (v0 : Vec Ideal S512x2048 .f32) (v1 : Vec Ideal S1x2048 .f32) (v16 : Vec Ideal S2048x1536 .bf16) (r : Fin 512) (l : Fin 512) :
    k0_pay8 (k0_pay6 v0 v1 v16) (k0_pay7 v0 v1 v16) one (ix2 r l) = gelu (k0_pay4 v0 v1 v16 (ix2 r ⟨512 + l.val, by omega⟩)) := by
  pointwise [k0_pay8, k0_pay7, k0_pay6, gelu', one]

/-- The pooling columns. -/
theorem pay9_at (v18 : FVec Ideal S512x1536 .f32) (r : Fin 512) (l : Fin 512) : k0_pay9 v18 (ix2 r l) = v18 (ix2 r ⟨1024 + l.val, by omega⟩) := by
  pointwise [k0_pay9]

/-- What the scratch takes of the pooling columns, -/
theorem pay13_at (v18 : FVec Ideal S512x1536 .f32) (r : Fin 512) (l : Fin 512) : k0_pay13 v18 (ix2 r l) = k0_pay9 v18 (ix2 r l) := by
  pointwise [k0_pay13, k0_pay12]

/-- and what it takes of what is left of them. -/
theorem pay14_at (v18 : FVec Ideal S512x1536 .f32) (r : Fin 512) (l : Fin 512) : k0_pay14 v18 (ix2 r l) = (k0_pay9 v18 (ix2 r l) - k0_pay9 v18 (ix2 r l) : EReal) := by
  pointwise [k0_pay14, k0_pay12]

/-- The first rows of the scratch begin at zero, -/
theorem pay10_at (r : Fin 128) (l : Fin 512) : (k0_pay10 (F := Ideal)) (ix2 r l) = (0 : EReal) := by
  pointwise [k0_pay10]

/-- both times. -/
theorem pay11_at (r : Fin 128) (l : Fin 512) : (k0_pay11 (F := Ideal)) (ix2 r l) = (0 : EReal) := by
  pointwise [k0_pay11]

/-- What the scratch hands on, -/
theorem pay2_at (v : Vec Ideal S128x512 .bf16) (r : Fin 128) (l : Fin 512) : k0_pay2 v (ix2 r l) = v (ix2 r l) := by
  pointwise [k0_pay2]

/-- both times. -/
theorem pay3_at (v : Vec Ideal S128x512 .bf16) (r : Fin 128) (l : Fin 512) : k0_pay3 v (ix2 r l) = v (ix2 r l) := by
  pointwise [k0_pay3]

/-- A choice between earlier and later positions. -/
theorem tril {α : Type} (t s : Fin 128) (a b : α) :
    Scalar.select (IntOp.cmpi .sle (BitVec.ofNat 32 s.val) (BitVec.ofNat 32 t.val)) a b = if s.val ≤ t.val then a else b := by
  have hc : IntOp.cmpi .sle (BitVec.ofNat 32 s.val) (BitVec.ofNat 32 t.val) = 1#1 ↔ s.val ≤ t.val := by
    revert t s
    decide +kernel
  rw [Scalar.select]
  by_cases h : s.val ≤ t.val
  · rw [if_pos h]; exact if_pos (hc.mpr h)
  · rw [if_neg h]; exact if_neg fun e => h (hc.mp e)

/-- Group 0, normalised. -/
theorem norm0_at (v33 v41 : FVec Ideal S512x512 .f32) (w : Vec Ideal S1x128 .f32) (r : Fin 512) (q : Fin 128) :
    (k0_pay16 v33 v41 one w : FVec Ideal S512x128 .bf16) (ix2 r q) = norm (fun l => k0_pay8 v33 v41 one (ix2 r (at4 0 (by decide) l))) (fun l => w (ix2 0 l)) q := by
  pointwise [k0_pay16, SguMath.norm, at4]

/-- Group 1, normalised. -/
theorem norm1_at (v46 : FVec Ideal S512x512 .f32) (w : Vec Ideal S1x128 .f32) (r : Fin 512) (q : Fin 128) :
    (k0_pay32 (k0_pay31 v46) w : FVec Ideal S512x128 .bf16) (ix2 r q) = norm (fun l => v46 (ix2 r (at4 1 (by decide) l))) (fun l => w (ix2 0 l)) q := by
  pointwise [k0_pay32, k0_pay31, SguMath.norm, at4]

/-- Group 2, normalised. -/
theorem norm2_at (v46 : FVec Ideal S512x512 .f32) (w : Vec Ideal S1x128 .f32) (r : Fin 512) (q : Fin 128) :
    (k0_pay50 v46 w : FVec Ideal S512x128 .bf16) (ix2 r q) = norm (fun l => v46 (ix2 r (at4 2 (by decide) l))) (fun l => w (ix2 0 l)) q := by
  pointwise [k0_pay50, SguMath.norm, at4]

/-- Group 3, normalised. -/
theorem norm3_at (v46 : FVec Ideal S512x512 .f32) (w : Vec Ideal S1x128 .f32) (r : Fin 512) (q : Fin 128) :
    (k0_pay67 (k0_pay64 v46) (k0_pay65 w) (k0_pay66 v46) : FVec Ideal S512x128 .bf16) (ix2 r q) = norm (fun l => v46 (ix2 r (at4 3 (by decide) l))) (fun l => w (ix2 0 l)) q := by
  pointwise [k0_pay67, k0_pay66, k0_pay65, k0_pay64, SguMath.norm, at4]

/-- Group 0's gating weights. -/
theorem tri0_at (w : Vec Ideal S1x128x128 .f32) (t s : Fin 128) :
    (k0_pay19 k0_pay15 (k0_pay17 w) k0_pay18 : FVec Ideal S128x128 .bf16) (ix2 t s) = if s.val ≤ t.val then w (ix3 0 t s) else 0 := by
  pointwise [k0_pay19, k0_pay17, k0_pay18, k0_pay15]
  exact tril t s _ _

/-- Group 1's gating weights. -/
theorem tri1_at (w : Vec Ideal S1x128x128 .f32) (t s : Fin 128) :
    (k0_pay33 k0_pay15 w : FVec Ideal S128x128 .bf16) (ix2 t s) = if s.val ≤ t.val then w (ix3 0 t s) else 0 := by
  pointwise [k0_pay33, k0_pay15]
  exact tril t s _ _

/-- Group 2's gating weights. -/
theorem tri2_at (w : Vec Ideal S1x128x128 .f32) (t s : Fin 128) :
    (k0_pay51 k0_pay15 w : FVec Ideal S128x128 .bf16) (ix2 t s) = if s.val ≤ t.val then w (ix3 0 t s) else 0 := by
  pointwise [k0_pay51, k0_pay15]
  exact tril t s _ _

/-- Group 3's gating weights. -/
theorem tri3_at (w : Vec Ideal S1x128x128 .f32) (t s : Fin 128) :
    (k0_pay68 k0_pay15 w : FVec Ideal S128x128 .bf16) (ix2 t s) = if s.val ≤ t.val then w (ix3 0 t s) else 0 := by
  pointwise [k0_pay68, k0_pay15]
  exact tril t s _ _

/-- Group 0's window, -/
theorem band0_at (w : Vec Ideal S1x128x256 .bf16) (t : Fin 128) (s : Fin 256) : k0_pay20 w (ix2 t s) = w (ix3 0 t s) := by
  pointwise [k0_pay20]

/-- and its mixing weights. -/
theorem mix0_at (w : Vec Ideal S1x128x128 .bf16) (t s : Fin 128) : k0_pay21 w (ix2 t s) = w (ix3 0 t s) := by
  pointwise [k0_pay21]

/-- Group 1's window, -/
theorem band1_at (w : Vec Ideal S1x128x256 .bf16) (t : Fin 128) (s : Fin 256) : k0_pay34 w (ix2 t s) = w (ix3 0 t s) := by
  pointwise [k0_pay34]

/-- and its mixing weights. -/
theorem mix1_at (w : Vec Ideal S1x128x128 .bf16) (t s : Fin 128) : k0_pay35 w (ix2 t s) = w (ix3 0 t s) := by
  pointwise [k0_pay35]

/-- Group 2's window, -/
theorem band2_at (w : Vec Ideal S1x128x256 .bf16) (t : Fin 128) (s : Fin 256) : k0_pay52 w (ix2 t s) = w (ix3 0 t s) := by
  pointwise [k0_pay52]

/-- and its mixing weights. -/
theorem mix2_at (w : Vec Ideal S1x128x128 .bf16) (t s : Fin 128) : k0_pay53 w (ix2 t s) = w (ix3 0 t s) := by
  pointwise [k0_pay53]

/-- Group 3's window, -/
theorem band3_at (w : Vec Ideal S1x128x256 .bf16) (t : Fin 128) (s : Fin 256) : k0_pay69 w (ix2 t s) = w (ix3 0 t s) := by
  pointwise [k0_pay69]

/-- and its mixing weights. -/
theorem mix3_at (w : Vec Ideal S1x128x128 .bf16) (t s : Fin 128) : k0_pay70 w (ix2 t s) = w (ix3 0 t s) := by
  pointwise [k0_pay70]

/-- The gating unit's tile 0 of group 0. -/
theorem gate00_at (v32 : FVec Ideal S512x512 .f32) (b : Vec Ideal S128x128 .f32) (v63 : IVec S128x128 1) (n : FVec Ideal S512x128 .bf16) (v81 v82 : FVec Ideal S128x128 .f32) (r q : Fin 128) :
    k0_pay22 v32 v63 n v81 v82 b (ix2 r q) = (v32 (ix2 (at4 0 (by decide) r) (at4 0 (by decide) q)) * ((∑ s : Fin 128, (k0_pay19 v63 v81 v82) (ix2 r s) * (n) (ix2 (at4 0 (by decide) s) q)) + b (ix2 r q)) : EReal) := by
  pointwise [k0_pay22, at4]

/-- The gating unit's tile 1 of group 0. -/
theorem gate01_at (v32 : FVec Ideal S512x512 .f32) (b : Vec Ideal S128x128 .f32) (n : FVec Ideal S512x128 .bf16) (t : FVec Ideal S128x128 .bf16) (r q : Fin 128) :
    k0_pay25 v32 n t b (ix2 r q) = (v32 (ix2 (at4 1 (by decide) r) (at4 0 (by decide) q)) * ((∑ s : Fin 128, (t) (ix2 r s) * (n) (ix2 (at4 1 (by decide) s) q)) + b (ix2 r q)) : EReal) := by
  pointwise [k0_pay25, at4]

/-- The gating unit's tile 2 of group 0. -/
theorem gate02_at (v32 : FVec Ideal S512x512 .f32) (b : Vec Ideal S128x128 .f32) (n : FVec Ideal S512x128 .bf16) (t : FVec Ideal S128x128 .bf16) (r q : Fin 128) :
    k0_pay27 v32 n t b (ix2 r q) = (v32 (ix2 (at4 2 (by decide) r) (at4 0 (by decide) q)) * ((∑ s : Fin 128, (t) (ix2 r s) * (n) (ix2 (at4 2 (by decide) s) q)) + b (ix2 r q)) : EReal) := by
  pointwise [k0_pay27, at4]

/-- The gating unit's tile 3 of group 0. -/
theorem gate03_at (v32 : FVec Ideal S512x512 .f32) (b : Vec Ideal S128x128 .f32) (n : FVec Ideal S512x128 .bf16) (t : FVec Ideal S128x128 .bf16) (r q : Fin 128) :
    k0_pay29 v32 n t b (ix2 r q) = (v32 (ix2 (at4 3 (by decide) r) (at4 0 (by decide) q)) * ((∑ s : Fin 128, (t) (ix2 r s) * (n) (ix2 (at4 3 (by decide) s) q)) + b (ix2 r q)) : EReal) := by
  pointwise [k0_pay29, at4]

/-- The gating unit's tile 0 of group 1. -/
theorem gate10_at (v32 : FVec Ideal S512x512 .f32) (b : Vec Ideal S128x128 .f32) (v63 : IVec S128x128 1) (v225 : FVec Ideal S512x128 .f32) (w1 : Vec Ideal S1x128 .f32) (w3 : Vec Ideal S1x128x128 .f32) (r q : Fin 128) :
    k0_pay36 v32 v63 v225 w1 w3 b (ix2 r q) = (v32 (ix2 (at4 0 (by decide) r) (at4 1 (by decide) q)) * ((∑ s : Fin 128, (k0_pay33 v63 w3) (ix2 r s) * (k0_pay32 v225 w1) (ix2 (at4 0 (by decide) s) q)) + b (ix2 r q)) : EReal) := by
  pointwise [k0_pay36, at4]

/-- The gating unit's tile 1 of group 1. -/
theorem gate11_at (v32 : FVec Ideal S512x512 .f32) (b : Vec Ideal S128x128 .f32) (n : FVec Ideal S512x128 .bf16) (t : FVec Ideal S128x128 .bf16) (r q : Fin 128) :
    k0_pay39 v32 n t b (ix2 r q) = (v32 (ix2 (at4 1 (by decide) r) (at4 1 (by decide) q)) * ((∑ s : Fin 128, (t) (ix2 r s) * (n) (ix2 (at4 1 (by decide) s) q)) + b (ix2 r q)) : EReal) := by
  pointwise [k0_pay39, at4]

/-- The gating unit's tile 2 of group 1. -/
theorem gate12_at (v32 : FVec Ideal S512x512 .f32) (b : Vec Ideal S128x128 .f32) (n : FVec Ideal S512x128 .bf16) (t : FVec Ideal S128x128 .bf16) (r q : Fin 128) :
    k0_pay42 v32 n t b (ix2 r q) = (v32 (ix2 (at4 2 (by decide) r) (at4 1 (by decide) q)) * ((∑ s : Fin 128, (t) (ix2 r s) * (n) (ix2 (at4 2 (by decide) s) q)) + b (ix2 r q)) : EReal) := by
  pointwise [k0_pay42, at4]

/-- The gating unit's tile 3 of group 1. -/
theorem gate13_at (v32 : FVec Ideal S512x512 .f32) (b : Vec Ideal S128x128 .f32) (n : FVec Ideal S512x128 .bf16) (t : FVec Ideal S128x128 .bf16) (r q : Fin 128) :
    k0_pay46 v32 n t b (ix2 r q) = (v32 (ix2 (at4 3 (by decide) r) (at4 1 (by decide) q)) * ((∑ s : Fin 128, (t) (ix2 r s) * (n) (ix2 (at4 3 (by decide) s) q)) + b (ix2 r q)) : EReal) := by
  pointwise [k0_pay46, at4]

/-- The gating unit's tile 0 of group 2. -/
theorem gate20_at (v32 : FVec Ideal S512x512 .f32) (b : Vec Ideal S128x128 .f32) (n : FVec Ideal S512x128 .bf16) (t : FVec Ideal S128x128 .bf16) (r q : Fin 128) :
    k0_pay54 v32 n t b (ix2 r q) = (v32 (ix2 (at4 0 (by decide) r) (at4 2 (by decide) q)) * ((∑ s : Fin 128, (t) (ix2 r s) * (n) (ix2 (at4 0 (by decide) s) q)) + b (ix2 r q)) : EReal) := by
  pointwise [k0_pay54, at4]

/-- The gating unit's tile 1 of group 2. -/
theorem gate21_at (v32 : FVec Ideal S512x512 .f32) (b : Vec Ideal S128x128 .f32) (n : FVec Ideal S512x128 .bf16) (t : FVec Ideal S128x128 .bf16) (r q : Fin 128) :
    k0_pay57 v32 (k0_pay56 n t) b (ix2 r q) = (v32 (ix2 (at4 1 (by decide) r) (at4 2 (by decide) q)) * ((∑ s : Fin 128, (t) (ix2 r s) * (n) (ix2 (at4 1 (by decide) s) q)) + b (ix2 r q)) : EReal) := by
  pointwise [k0_pay57, k0_pay56, at4]

/-- The gating unit's tile 2 of group 2. -/
theorem gate22_at (v32 : FVec Ideal S512x512 .f32) (b : Vec Ideal S128x128 .f32) (n : FVec Ideal S512x128 .bf16) (t : FVec Ideal S128x128 .bf16) (r q : Fin 128) :
    k0_pay60 v32 (k0_pay59 n t b) (ix2 r q) = (v32 (ix2 (at4 2 (by decide) r) (at4 2 (by decide) q)) * ((∑ s : Fin 128, (t) (ix2 r s) * (n) (ix2 (at4 2 (by decide) s) q)) + b (ix2 r q)) : EReal) := by
  pointwise [k0_pay60, k0_pay59, at4]

/-- The gating unit's tile 3 of group 2. -/
theorem gate23_at (v32 : FVec Ideal S512x512 .f32) (b : Vec Ideal S128x128 .f32) (n : FVec Ideal S512x128 .bf16) (t : FVec Ideal S128x128 .bf16) (r q : Fin 128) :
    k0_pay62 v32 n t b (ix2 r q) = (v32 (ix2 (at4 3 (by decide) r) (at4 2 (by decide) q)) * ((∑ s : Fin 128, (t) (ix2 r s) * (n) (ix2 (at4 3 (by decide) s) q)) + b (ix2 r q)) : EReal) := by
  pointwise [k0_pay62, at4]

/-- The gating unit's tile 0 of group 3. -/
theorem gate30_at (v32 : FVec Ideal S512x512 .f32) (b : Vec Ideal S128x128 .f32) (v63 : IVec S128x128 1) (v225 : FVec Ideal S512x128 .f32) (w1 : FVec Ideal S1x128 .f32) (v557 : FVec Ideal S512x1 .f32) (w3 : Vec Ideal S1x128x128 .f32) (r q : Fin 128) :
    k0_pay71 v32 v63 v225 w1 v557 w3 b (ix2 r q) = (v32 (ix2 (at4 0 (by decide) r) (at4 3 (by decide) q)) * ((∑ s : Fin 128, (k0_pay68 v63 w3) (ix2 r s) * (k0_pay67 v225 w1 v557) (ix2 (at4 0 (by decide) s) q)) + b (ix2 r q)) : EReal) := by
  pointwise [k0_pay71, at4]

/-- The gating unit's tile 1 of group 3. -/
theorem gate31_at (v32 : FVec Ideal S512x512 .f32) (b : Vec Ideal S128x128 .f32) (n : FVec Ideal S512x128 .bf16) (t : FVec Ideal S128x128 .bf16) (r q : Fin 128) :
    k0_pay75 v32 n t b (ix2 r q) = (v32 (ix2 (at4 1 (by decide) r) (at4 3 (by decide) q)) * ((∑ s : Fin 128, (t) (ix2 r s) * (n) (ix2 (at4 1 (by decide) s) q)) + b (ix2 r q)) : EReal) := by
  pointwise [k0_pay75, at4]

/-- The gating unit's tile 2 of group 3. -/
theorem gate32_at (v32 : FVec Ideal S512x512 .f32) (b : Vec Ideal S128x128 .f32) (n : FVec Ideal S512x128 .bf16) (t : FVec Ideal S128x128 .bf16) (r q : Fin 128) :
    k0_pay78 v32 n t b (ix2 r q) = (v32 (ix2 (at4 2 (by decide) r) (at4 3 (by decide) q)) * ((∑ s : Fin 128, (t) (ix2 r s) * (n) (ix2 (at4 2 (by decide) s) q)) + b (ix2 r q)) : EReal) := by
  pointwise [k0_pay78, at4]

/-- The gating unit's tile 3 of group 3. -/
theorem gate33_at (v32 : FVec Ideal S512x512 .f32) (b : Vec Ideal S128x128 .f32) (n : FVec Ideal S512x128 .bf16) (t : FVec Ideal S128x128 .bf16) (r q : Fin 128) :
    k0_pay81 v32 n t b (ix2 r q) = (v32 (ix2 (at4 3 (by decide) r) (at4 3 (by decide) q)) * ((∑ s : Fin 128, (t) (ix2 r s) * (n) (ix2 (at4 3 (by decide) s) q)) + b (ix2 r q)) : EReal) := by
  pointwise [k0_pay81, at4]

/-- The pooling mixer's tile 0 of group 0. -/
theorem pool00_at (a : BitVec 32) (v47 : FVec Ideal S512x512 .f32) (h l : Vec Ideal S256x128 .bf16) (d : Vec Ideal S1x128 .f32) (wb : Vec Ideal S1x128x256 .bf16) (wq : Vec Ideal S1x128x128 .bf16) (r q : Fin 128) :
    k0_pay24 (k0_pay23 a v47 io wb wq h l) d (ix2 r q) = ((∑ k : Fin 128, (Ideal.div ((∑ j : Fin 256, (k0_pay20 wb) (ix2 r j) * h (ix2 j k)) + (∑ j : Fin 256, (k0_pay20 wb) (ix2 r j) * l (ix2 j k))) (kcnt 2#32 a 0#32 r.val)
      - v47 (ix2 (at4 0 (by decide) r) (at4 0 (by decide) k))) * (k0_pay21 wq) (ix2 k q)) * d (ix2 0 q) : EReal) := by
  pointwise [k0_pay24, k0_pay23, at4, io]
  try rfl

/-- The pooling mixer's tile 1 of group 0. -/
theorem pool01_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay26 a v47 io m q' h l d (ix2 r q) = ((∑ k : Fin 128, (Ideal.div ((∑ j : Fin 256, (m) (ix2 r j) * h (ix2 j k)) + (∑ j : Fin 256, (m) (ix2 r j) * l (ix2 j k))) (kcnt 2#32 a 128#32 r.val)
      - v47 (ix2 (at4 1 (by decide) r) (at4 0 (by decide) k))) * (q') (ix2 k q)) * d (ix2 0 q) : EReal) := by
  pointwise [k0_pay26, at4, io]
  try rfl

/-- The pooling mixer's tile 2 of group 0. -/
theorem pool02_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay28 a v47 io m q' h l d (ix2 r q) = ((∑ k : Fin 128, (Ideal.div ((∑ j : Fin 256, (m) (ix2 r j) * h (ix2 j k)) + (∑ j : Fin 256, (m) (ix2 r j) * l (ix2 j k))) (kcnt 2#32 a 256#32 r.val)
      - v47 (ix2 (at4 2 (by decide) r) (at4 0 (by decide) k))) * (q') (ix2 k q)) * d (ix2 0 q) : EReal) := by
  pointwise [k0_pay28, at4, io]
  try rfl

/-- The pooling mixer's tile 3 of group 0. -/
theorem pool03_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay30 a v47 io m q' h l d (ix2 r q) = ((∑ k : Fin 128, (Ideal.div ((∑ j : Fin 256, (m) (ix2 r j) * h (ix2 j k)) + (∑ j : Fin 256, (m) (ix2 r j) * l (ix2 j k))) (kcnt 2#32 a 384#32 r.val)
      - v47 (ix2 (at4 3 (by decide) r) (at4 0 (by decide) k))) * (q') (ix2 k q)) * d (ix2 0 q) : EReal) := by
  pointwise [k0_pay30, at4, io]
  try rfl

/-- The pooling mixer's tile 0 of group 1. -/
theorem pool10_at (a : BitVec 32) (v47 : FVec Ideal S512x512 .f32) (h l : Vec Ideal S256x128 .bf16) (d : Vec Ideal S1x128 .f32) (wb : Vec Ideal S1x128x256 .bf16) (q' : FVec Ideal S128x128 .bf16) (r q : Fin 128) :
    k0_pay38 a v47 io (k0_pay34 wb) q' (k0_pay37 wb h) l (constant S128x128 .f32 0x00000000#32) d (ix2 r q) = ((∑ k : Fin 128, (Ideal.div ((∑ j : Fin 256, (k0_pay34 wb) (ix2 r j) * h (ix2 j k)) + (∑ j : Fin 256, (k0_pay34 wb) (ix2 r j) * l (ix2 j k))) (kcnt 4#32 a 0#32 r.val)
      - v47 (ix2 (at4 0 (by decide) r) (at4 1 (by decide) k))) * (q') (ix2 k q)) * d (ix2 0 q) : EReal) := by
  pointwise [k0_pay38, k0_pay37, at4, io]
  try rfl

/-- The pooling mixer's tile 1 of group 1. -/
theorem pool11_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay41 v47 io q' (k0_pay40 m h l) (Scalar.muli a 512#32) d (ix2 r q) = ((∑ k : Fin 128, (Ideal.div ((∑ j : Fin 256, (m) (ix2 r j) * h (ix2 j k)) + (∑ j : Fin 256, (m) (ix2 r j) * l (ix2 j k))) (kcnt 4#32 a 128#32 r.val)
      - v47 (ix2 (at4 1 (by decide) r) (at4 1 (by decide) k))) * (q') (ix2 k q)) * d (ix2 0 q) : EReal) := by
  pointwise [k0_pay41, k0_pay40, at4, io]
  try rfl

/-- The pooling mixer's tile 2 of group 1. -/
theorem pool12_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay45 v47 q' (k0_pay43 m h l) (k0_pay44 a io) d (ix2 r q) = ((∑ k : Fin 128, (Ideal.div ((∑ j : Fin 256, (m) (ix2 r j) * h (ix2 j k)) + (∑ j : Fin 256, (m) (ix2 r j) * l (ix2 j k))) (kcnt 4#32 a 256#32 r.val)
      - v47 (ix2 (at4 2 (by decide) r) (at4 1 (by decide) k))) * (q') (ix2 k q)) * d (ix2 0 q) : EReal) := by
  pointwise [k0_pay45, k0_pay44, k0_pay43, at4, io]
  try rfl

/-- The pooling mixer's tile 3 of group 1. -/
theorem pool13_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay49 v47 q' (k0_pay47 m h l) (k0_pay48 a io) 4#32 d (ix2 r q) = ((∑ k : Fin 128, (Ideal.div ((∑ j : Fin 256, (m) (ix2 r j) * h (ix2 j k)) + (∑ j : Fin 256, (m) (ix2 r j) * l (ix2 j k))) (kcnt 4#32 a 384#32 r.val)
      - v47 (ix2 (at4 3 (by decide) r) (at4 1 (by decide) k))) * (q') (ix2 k q)) * d (ix2 0 q) : EReal) := by
  pointwise [k0_pay49, k0_pay48, k0_pay47, at4, io]
  try rfl

/-- The pooling mixer's tile 0 of group 2. -/
theorem pool20_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay55 a v47 io m q' h l d (ix2 r q) = ((∑ k : Fin 128, (Ideal.div ((∑ j : Fin 256, (m) (ix2 r j) * h (ix2 j k)) + (∑ j : Fin 256, (m) (ix2 r j) * l (ix2 j k))) (kcnt 8#32 a 0#32 r.val)
      - v47 (ix2 (at4 0 (by decide) r) (at4 2 (by decide) k))) * (q') (ix2 k q)) * d (ix2 0 q) : EReal) := by
  pointwise [k0_pay55, at4, io]
  try rfl

/-- The pooling mixer's tile 1 of group 2. -/
theorem pool21_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay58 a v47 io m q' h l d (ix2 r q) = ((∑ k : Fin 128, (Ideal.div ((∑ j : Fin 256, (m) (ix2 r j) * h (ix2 j k)) + (∑ j : Fin 256, (m) (ix2 r j) * l (ix2 j k))) (kcnt 8#32 a 128#32 r.val)
      - v47 (ix2 (at4 1 (by decide) r) (at4 2 (by decide) k))) * (q') (ix2 k q)) * d (ix2 0 q) : EReal) := by
  pointwise [k0_pay58, at4, io]
  try rfl

/-- The pooling mixer's tile 2 of group 2. -/
theorem pool22_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay61 a v47 io m q' h l d (ix2 r q) = ((∑ k : Fin 128, (Ideal.div ((∑ j : Fin 256, (m) (ix2 r j) * h (ix2 j k)) + (∑ j : Fin 256, (m) (ix2 r j) * l (ix2 j k))) (kcnt 8#32 a 256#32 r.val)
      - v47 (ix2 (at4 2 (by decide) r) (at4 2 (by decide) k))) * (q') (ix2 k q)) * d (ix2 0 q) : EReal) := by
  pointwise [k0_pay61, at4, io]
  try rfl

/-- The pooling mixer's tile 3 of group 2. -/
theorem pool23_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay63 a v47 io m q' h l d (ix2 r q) = ((∑ k : Fin 128, (Ideal.div ((∑ j : Fin 256, (m) (ix2 r j) * h (ix2 j k)) + (∑ j : Fin 256, (m) (ix2 r j) * l (ix2 j k))) (kcnt 8#32 a 384#32 r.val)
      - v47 (ix2 (at4 3 (by decide) r) (at4 2 (by decide) k))) * (q') (ix2 k q)) * d (ix2 0 q) : EReal) := by
  pointwise [k0_pay63, at4, io]
  try rfl

/-- The pooling mixer's tile 0 of group 3. -/
theorem pool30_at (a : BitVec 32) (v47 : FVec Ideal S512x512 .f32) (h l : Vec Ideal S256x128 .bf16) (d : Vec Ideal S1x128 .f32) (wb : Vec Ideal S1x128x256 .bf16) (q' : FVec Ideal S128x128 .bf16) (r q : Fin 128) :
    k0_pay74 v47 q' (k0_pay72 wb h l) (k0_pay73 a io) 16#32 d (ix2 r q) = ((∑ k : Fin 128, (Ideal.div ((∑ j : Fin 256, (k0_pay69 wb) (ix2 r j) * h (ix2 j k)) + (∑ j : Fin 256, (k0_pay69 wb) (ix2 r j) * l (ix2 j k))) (kcnt 16#32 a 0#32 r.val)
      - v47 (ix2 (at4 0 (by decide) r) (at4 3 (by decide) k))) * (q') (ix2 k q)) * d (ix2 0 q) : EReal) := by
  pointwise [k0_pay74, k0_pay73, k0_pay72, at4, io]
  try rfl

/-- The pooling mixer's tile 1 of group 3. -/
theorem pool31_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay77 v47 q' (k0_pay76 a io m h l) d (ix2 r q) = ((∑ k : Fin 128, (Ideal.div ((∑ j : Fin 256, (m) (ix2 r j) * h (ix2 j k)) + (∑ j : Fin 256, (m) (ix2 r j) * l (ix2 j k))) (kcnt 16#32 a 128#32 r.val)
      - v47 (ix2 (at4 1 (by decide) r) (at4 3 (by decide) k))) * (q') (ix2 k q)) * d (ix2 0 q) : EReal) := by
  pointwise [k0_pay77, k0_pay76, at4, io]
  try rfl

/-- The pooling mixer's tile 2 of group 3. -/
theorem pool32_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay80 q' (k0_pay79 a v47 io m h l) (constant S128x128 .f32 0x00000000#32) d (ix2 r q) = ((∑ k : Fin 128, (Ideal.div ((∑ j : Fin 256, (m) (ix2 r j) * h (ix2 j k)) + (∑ j : Fin 256, (m) (ix2 r j) * l (ix2 j k))) (kcnt 16#32 a 256#32 r.val)
      - v47 (ix2 (at4 2 (by decide) r) (at4 3 (by decide) k))) * (q') (ix2 k q)) * d (ix2 0 q) : EReal) := by
  pointwise [k0_pay80, k0_pay79, at4, io]
  try rfl

/-- The pooling mixer's tile 3 of group 3. -/
theorem pool33_at (a : BitVec 32) (v47 : FVec Ideal S512x512 .f32) (h l : Vec Ideal S256x128 .bf16) (d : Vec Ideal S1x128 .f32) (m : FVec Ideal S128x256 .bf16) (q' : FVec Ideal S128x128 .bf16) (r q : Fin 128) :
    k0_pay1 (k0_pay82 a v47 io m q' h l) d (ix2 r q) = ((∑ k : Fin 128, (Ideal.div ((∑ j : Fin 256, (m) (ix2 r j) * h (ix2 j k)) + (∑ j : Fin 256, (m) (ix2 r j) * l (ix2 j k))) (kcnt 16#32 a 384#32 r.val)
      - v47 (ix2 (at4 3 (by decide) r) (at4 3 (by decide) k))) * (q') (ix2 k q)) * d (ix2 0 q) : EReal) := by
  pointwise [k0_pay1, k0_pay82, at4, io]
  try rfl

end Cert.SguPoolIdeal.Pure

end
-- ==== Proof.SguPool.Ref.lean ====
/- The reference of the gating unit and the pooling mixer, entry by entry. -/
module

public import proofs.«01_k».proof.Proof.SguPool.Math
public import proofs.«01_k».proof.Proof.Gen.SguPoolRefIdeal.Run
public import proofs.«01_k».proof.Proof.AttnIdeal.Ref
public import Idealize.ShloMosaic.Lib.WordCmp

@[expose] public section

set_option maxRecDepth 16384

noncomputable section

open Idealize.ShloMosaic Idealize.ShloMosaic.TcCoe Idealize.SL.Sem

namespace Cert.SguPoolRefIdeal.Pure

open Cert.SguPoolRefIdeal Cert.SguPoolRefIdeal.Gen Cert.FfnMath Cert.SguMath

/-- The products of the normalised rows. -/
def PR (X : FVec Ideal S16384x2048 .f32) (G : FVec Ideal S2048 .f32) (W : FVec Ideal S2048x4608 .f32) : FVec Ideal S16384x4608 .f32 := Host.dotGeneral dot_S16384x2048_S2048x4608_S16384x4608_1_0_0_1_n_n none (mulf (mulf X (broadcastInDim S16384x2048 ![0, 1] bcast_S16384x1_S16384x2048_0_1 (Host.rsqrt (addf (Host.divf (broadcastInDim S16384x1 ![0] bcast_S16384_S16384x1_0 (Host.reduceAdd (mulf X X) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 G))) W

/-- The gating unit's first columns, -/
def U (X : FVec Ideal S16384x2048 .f32) (G : FVec Ideal S2048 .f32) (W : FVec Ideal S2048x4608 .f32) : FVec Ideal S16384x512 .f32 := extractStridedSlice S16384x512 ![0, 3072] (PR X G W) slices_S16384x4608_S16384x512_0_3072

/-- and its second. -/
def VV (X : FVec Ideal S16384x2048 .f32) (G : FVec Ideal S2048 .f32) (W : FVec Ideal S2048x4608 .f32) : FVec Ideal S16384x512 .f32 := extractStridedSlice S16384x512 ![0, 3584] (PR X G W) slices_S16384x4608_S16384x512_0_3584

/-- The smooth gate of the second columns, by group. -/
def GV (X : FVec Ideal S16384x2048 .f32) (G : FVec Ideal S2048 .f32) (W : FVec Ideal S2048x4608 .f32) : FVec Ideal S16384x4x128 .f32 := shapeCast _ (mulf (VV X G W) (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf (VV X G W) (mulf (broadcastInDim S16384x512 ![] bcast_S_S16384x512 (constant S_ .f32 0x3D372713#32)) (mulf (mulf (VV X G W) (VV X G W)) (VV X G W))))))))) shapeCasts_S16384x512_S16384x4x128

/-- The pooling columns, by group. -/
def P (X : FVec Ideal S16384x2048 .f32) (G : FVec Ideal S2048 .f32) (W : FVec Ideal S2048x4608 .f32) : FVec Ideal S16384x4x128 .f32 := shapeCast _ (extractStridedSlice S16384x512 ![0, 4096] (PR X G W) slices_S16384x4608_S16384x512_0_4096) shapeCasts_S16384x512_S16384x4x128

/-- Their running sums. -/
def C (X : FVec Ideal S16384x2048 .f32) (G : FVec Ideal S2048 .f32) (W : FVec Ideal S2048x4608 .f32) : FVec Ideal S16384x4x128 .f32 := Host.reduceWindowAdd ![16384, 1, 1] ![1, 1, 1] ![16383, 0, 0] ![0, 0, 0] (P X G W) (broadcastInDim S_ ![] bcast_S_S_ (constant S_ .f32 0x00000000#32)) reduceWindows_S16384x4x128_S16384x4x128_w16384s1p16383_0_w1s1p0_0_w1s1p0_0 h_S_

/-- The running sums of the first group, -/
def C0 (X : FVec Ideal S16384x2048 .f32) (G : FVec Ideal S2048 .f32) (W : FVec Ideal S2048x4608 .f32) : FVec Ideal S16384x128 .f32 := shapeCast _ (extractStridedSlice S16384x1x128 ![0, 0, 0] (C X G W) slices_S16384x4x128_S16384x1x128_0_0_0) shapeCasts_S16384x1x128_S16384x128

/-- of the second, -/
def C1 (X : FVec Ideal S16384x2048 .f32) (G : FVec Ideal S2048 .f32) (W : FVec Ideal S2048x4608 .f32) : FVec Ideal S16384x128 .f32 := shapeCast _ (extractStridedSlice S16384x1x128 ![0, 1, 0] (C X G W) slices_S16384x4x128_S16384x1x128_0_1_0) shapeCasts_S16384x1x128_S16384x128

/-- of the third -/
def C2 (X : FVec Ideal S16384x2048 .f32) (G : FVec Ideal S2048 .f32) (W : FVec Ideal S2048x4608 .f32) : FVec Ideal S16384x128 .f32 := shapeCast _ (extractStridedSlice S16384x1x128 ![0, 2, 0] (C X G W) slices_S16384x4x128_S16384x1x128_0_2_0) shapeCasts_S16384x1x128_S16384x128

/-- and of the fourth. -/
def C3 (X : FVec Ideal S16384x2048 .f32) (G : FVec Ideal S2048 .f32) (W : FVec Ideal S2048x4608 .f32) : FVec Ideal S16384x128 .f32 := shapeCast _ (extractStridedSlice S16384x1x128 ![0, 3, 0] (C X G W) slices_S16384x4x128_S16384x1x128_0_3_0) shapeCasts_S16384x1x128_S16384x128

/-- The second columns, normalised by group. -/
def VN (X : FVec Ideal S16384x2048 .f32) (G : FVec Ideal S2048 .f32) (W : FVec Ideal S2048x4608 .f32) (N : FVec Ideal S512 .f32) : FVec Ideal S16384x4x128 .f32 := (mulf (mulf (GV X G W) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (GV X G W) (GV X G W)) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x4x128_S16384x4x128_0_1_2 (broadcastInDim S1x4x128 ![1, 2] bcast_S4x128_S1x4x128_1_2 (shapeCast _ N shapeCasts_S512_S4x128))))

/-- The gating weights on earlier positions. -/
def TM (M : FVec Ideal S4x128x128 .f32) : FVec Ideal S4x128x128 .f32 := (mulf M (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))

/-- The gating unit's result. -/
def YB (X : FVec Ideal S16384x2048 .f32) (G : FVec Ideal S2048 .f32) (W : FVec Ideal S2048x4608 .f32) (N : FVec Ideal S512 .f32) (M : FVec Ideal S4x128x128 .f32) (B : FVec Ideal S4x128 .f32) : FVec Ideal S16384x512 .f32 := (mulf (mulf (U X G W) (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf (U X G W) (mulf (broadcastInDim S16384x512 ![] bcast_S_S16384x512 (constant S_ .f32 0x3D372713#32)) (mulf (mulf (U X G W) (U X G W)) (U X G W))))))))) (shapeCast _ (addf (transpose S128x128x4x128 [1, 3, 0, 2] (Host.dotGeneral dot_S128x128x4x128_S4x128x128_S4x128x128x128_1_2_03_1_2_0 none (shapeCast _ (VN X G W N) shapeCasts_S16384x4x128_S128x128x4x128) (TM M)) transposes_S4x128x128x128_S128x128x4x128_1_3_0_2) (broadcastInDim S128x128x4x128 ![0, 1, 2, 3] bcast_S1x128x4x1_S128x128x4x128_0_1_2_3 (broadcastInDim S1x128x4x1 ![1, 2, 3] bcast_S128x4x1_S1x128x4x1_1_2_3 (broadcastInDim S128x4x1 ![0, 1] bcast_S128x4_S128x4x1_0_1 (transpose S128x4 [1, 0] B transposes_S4x128_S128x4_1_0))))) shapeCasts_S128x128x4x128_S16384x512))

/-- The mean over window 0 less the entry. -/
def D0 (X : FVec Ideal S16384x2048 .f32) (G : FVec Ideal S2048 .f32) (W : FVec Ideal S2048x4608 .f32) : FVec Ideal S16384x128 .f32 := (subf (Host.divf (subf (C0 X G W) (extractStridedSlice S16384x128 ![0, 0] (pad S16386x128 ![2, 0] ![0, 0] ![0, 0] (C0 X G W) (sitofp .f32 (constantI S_ 32 0#32)) pads_S16384x128_S16386x128_200_000 h_S_) slices_S16386x128_S16384x128_0_0)) (broadcastInDim S16384x128 ![0, 1] bcast_S16384x1_S16384x128_0_1 (broadcastInDim S16384x1 ![0] bcast_S16384_S16384x1_0 (sitofp .f32 (minsi (addi (iotaInDim S16384 32 0) (broadcastInDim S16384 ![] bcast_S_S16384 (constantI S_ 32 1#32))) (broadcastInDim S16384 ![] bcast_S_S16384 (constantI S_ 32 2#32))))))) (shapeCast _ (extractStridedSlice S16384x1x128 ![0, 0, 0] (P X G W) slices_S16384x4x128_S16384x1x128_0_0_0) shapeCasts_S16384x1x128_S16384x128))

/-- The mean over window 1 less the entry. -/
def D1 (X : FVec Ideal S16384x2048 .f32) (G : FVec Ideal S2048 .f32) (W : FVec Ideal S2048x4608 .f32) : FVec Ideal S16384x128 .f32 := (subf (Host.divf (subf (C1 X G W) (extractStridedSlice S16384x128 ![0, 0] (pad S16388x128 ![4, 0] ![0, 0] ![0, 0] (C1 X G W) (sitofp .f32 (constantI S_ 32 0#32)) pads_S16384x128_S16388x128_400_000 h_S_) slices_S16388x128_S16384x128_0_0)) (broadcastInDim S16384x128 ![0, 1] bcast_S16384x1_S16384x128_0_1 (broadcastInDim S16384x1 ![0] bcast_S16384_S16384x1_0 (sitofp .f32 (minsi (addi (iotaInDim S16384 32 0) (broadcastInDim S16384 ![] bcast_S_S16384 (constantI S_ 32 1#32))) (broadcastInDim S16384 ![] bcast_S_S16384 (constantI S_ 32 4#32))))))) (shapeCast _ (extractStridedSlice S16384x1x128 ![0, 1, 0] (P X G W) slices_S16384x4x128_S16384x1x128_0_1_0) shapeCasts_S16384x1x128_S16384x128))

/-- The mean over window 2 less the entry. -/
def D2 (X : FVec Ideal S16384x2048 .f32) (G : FVec Ideal S2048 .f32) (W : FVec Ideal S2048x4608 .f32) : FVec Ideal S16384x128 .f32 := (subf (Host.divf (subf (C2 X G W) (extractStridedSlice S16384x128 ![0, 0] (pad S16392x128 ![8, 0] ![0, 0] ![0, 0] (C2 X G W) (sitofp .f32 (constantI S_ 32 0#32)) pads_S16384x128_S16392x128_800_000 h_S_) slices_S16392x128_S16384x128_0_0)) (broadcastInDim S16384x128 ![0, 1] bcast_S16384x1_S16384x128_0_1 (broadcastInDim S16384x1 ![0] bcast_S16384_S16384x1_0 (sitofp .f32 (minsi (addi (iotaInDim S16384 32 0) (broadcastInDim S16384 ![] bcast_S_S16384 (constantI S_ 32 1#32))) (broadcastInDim S16384 ![] bcast_S_S16384 (constantI S_ 32 8#32))))))) (shapeCast _ (extractStridedSlice S16384x1x128 ![0, 2, 0] (P X G W) slices_S16384x4x128_S16384x1x128_0_2_0) shapeCasts_S16384x1x128_S16384x128))

/-- The mean over window 3 less the entry. -/
def D3 (X : FVec Ideal S16384x2048 .f32) (G : FVec Ideal S2048 .f32) (W : FVec Ideal S2048x4608 .f32) : FVec Ideal S16384x128 .f32 := (subf (Host.divf (subf (C3 X G W) (extractStridedSlice S16384x128 ![0, 0] (pad S16400x128 ![16, 0] ![0, 0] ![0, 0] (C3 X G W) (sitofp .f32 (constantI S_ 32 0#32)) pads_S16384x128_S16400x128_1600_000 h_S_) slices_S16400x128_S16384x128_0_0)) (broadcastInDim S16384x128 ![0, 1] bcast_S16384x1_S16384x128_0_1 (broadcastInDim S16384x1 ![0] bcast_S16384_S16384x1_0 (sitofp .f32 (minsi (addi (iotaInDim S16384 32 0) (broadcastInDim S16384 ![] bcast_S_S16384 (constantI S_ 32 1#32))) (broadcastInDim S16384 ![] bcast_S_S16384 (constantI S_ 32 16#32))))))) (shapeCast _ (extractStridedSlice S16384x1x128 ![0, 3, 0] (P X G W) slices_S16384x4x128_S16384x1x128_0_3_0) shapeCasts_S16384x1x128_S16384x128))

/-- The differences, by group. -/
def DD (X : FVec Ideal S16384x2048 .f32) (G : FVec Ideal S2048 .f32) (W : FVec Ideal S2048x4608 .f32) : FVec Ideal S16384x4x128 .f32 := ((concatenate S16384x4x128 1 [⟨S16384x1x128, ((broadcastInDim S16384x1x128 ![0, 2] bcast_S16384x128_S16384x1x128_0_2 (D0 X G W)) : (⟨S16384x1x128, .f32⟩ : BufTy).Contents (Elt Ideal))⟩, ⟨S16384x1x128, ((broadcastInDim S16384x1x128 ![0, 2] bcast_S16384x128_S16384x1x128_0_2 (D1 X G W)) : (⟨S16384x1x128, .f32⟩ : BufTy).Contents (Elt Ideal))⟩, ⟨S16384x1x128, ((broadcastInDim S16384x1x128 ![0, 2] bcast_S16384x128_S16384x1x128_0_2 (D2 X G W)) : (⟨S16384x1x128, .f32⟩ : BufTy).Contents (Elt Ideal))⟩, ⟨S16384x1x128, ((broadcastInDim S16384x1x128 ![0, 2] bcast_S16384x128_S16384x1x128_0_2 (D3 X G W)) : (⟨S16384x1x128, .f32⟩ : BufTy).Contents (Elt Ideal))⟩] concatenates_S16384x1x128_S16384x1x128_S16384x1x128_S16384x1x128_S16384x4x128_d1 : (⟨S16384x4x128, .f32⟩ : BufTy).Contents (Elt Ideal)))

/-- The pooling mixer's result. -/
def YC (X : FVec Ideal S16384x2048 .f32) (G : FVec Ideal S2048 .f32) (W : FVec Ideal S2048x4608 .f32) (Q : FVec Ideal S4x128x128 .f32) (D : FVec Ideal S512 .f32) : FVec Ideal S16384x512 .f32 := (mulf (shapeCast _ (transpose S16384x4x128 [2, 0, 1] (Host.dotGeneral dot_S4x128x128_S16384x4x128_S4x128x16384_1_2_2_0_0_1 none Q (DD X G W)) transposes_S4x128x16384_S16384x4x128_2_0_1) shapeCasts_S16384x4x128_S16384x512) (broadcastInDim S16384x512 ![0, 1] bcast_S1x512_S16384x512_0_1 (broadcastInDim S1x512 ![1] bcast_S512_S1x512_1 D)))

/-- The reference's result over its arguments. -/
def REF (X : FVec Ideal S16384x2048 .f32) (G : FVec Ideal S2048 .f32) (W : FVec Ideal S2048x4608 .f32) (N : FVec Ideal S512 .f32) (M : FVec Ideal S4x128x128 .f32) (B : FVec Ideal S4x128 .f32) (Q : FVec Ideal S4x128x128 .f32) (D : FVec Ideal S512 .f32) : FVec Ideal S16384x1024 .bf16 := truncf .bf16 (concatenate S16384x1024 1 [⟨S16384x512, (YB X G W N M B)⟩, ⟨S16384x512, (YC X G W Q D)⟩] concatenates_S16384x512_S16384x512_S16384x1024_d1) bitsLt_bf16_f32

/-- The products at an entry. -/
theorem PR_at (X : FVec Ideal S16384x2048 .f32) (G : FVec Ideal S2048 .f32) (W : FVec Ideal S2048x4608 .f32) (r : Fin 16384) (l : Fin 4608) :
    PR X G W (ix2 r l) = ∑ k : Fin 2048, rowNorm (fun k => X (ix2 r k)) (fun k => G (ix1 k)) k * W (ix2 k l) := by
  pointwise [PR, rowNorm]

/-- The gate of the second columns at an entry. -/
theorem GV_at (X : FVec Ideal S16384x2048 .f32) (G : FVec Ideal S2048 .f32) (W : FVec Ideal S2048x4608 .f32) (r : Fin 16384) (g : Fin 4) (q : Fin 128) :
    GV X G W (ix3 r g q) = gelu (PR X G W (ix2 r ⟨3584 + (g.val * 128 + q.val), by omega⟩)) := by
  pointwise [GV, VV, gelu]

/-- The pooling columns at an entry. -/
theorem P_at (X : FVec Ideal S16384x2048 .f32) (G : FVec Ideal S2048 .f32) (W : FVec Ideal S2048x4608 .f32) (r : Fin 16384) (g : Fin 4) (q : Fin 128) :
    P X G W (ix3 r g q) = PR X G W (ix2 r ⟨4096 + (g.val * 128 + q.val), by omega⟩) := by
  pointwise [P]

/-- The second columns, normalised, at an entry. -/
theorem VN_at (X : FVec Ideal S16384x2048 .f32) (G : FVec Ideal S2048 .f32) (W : FVec Ideal S2048x4608 .f32) (N : FVec Ideal S512 .f32) (r : Fin 16384) (g : Fin 4) (q : Fin 128) :
    VN X G W N (ix3 r g q) = norm (fun l => GV X G W (ix3 r g l)) (fun l => N (ix1 ⟨g.val * 128 + l.val, by omega⟩)) q := by
  pointwise [VN, SguMath.norm]

/-- A choice between earlier and later positions. -/
theorem tril {α : Type} (t s : Fin 128) (a b : α) :
    Scalar.select (IntOp.cmpi .sge (IntOp.addi (BitVec.ofNat 32 t.val) 0#32) (BitVec.ofNat 32 s.val)) a b = if s.val ≤ t.val then a else b := by
  have hc : IntOp.cmpi .sge (IntOp.addi (BitVec.ofNat 32 t.val) 0#32) (BitVec.ofNat 32 s.val) = 1#1 ↔ s.val ≤ t.val := by
    revert t s
    decide +kernel
  rw [Scalar.select]
  by_cases h : s.val ≤ t.val
  · rw [if_pos h]; exact if_pos (hc.mpr h)
  · rw [if_neg h]; exact if_neg fun e => h (hc.mp e)

/-- The gating weights at an entry. -/
theorem TM_at (M : FVec Ideal S4x128x128 .f32) (g : Fin 4) (t s : Fin 128) :
    TM M (ix3 g t s) = if s.val ≤ t.val then M (ix3 g t s) else 0 := by
  pointwise [TM]
  rw [tril]

/-- The gating unit at an entry. -/
theorem YB_at (X : FVec Ideal S16384x2048 .f32) (G : FVec Ideal S2048 .f32) (W : FVec Ideal S2048x4608 .f32) (N : FVec Ideal S512 .f32) (M : FVec Ideal S4x128x128 .f32) (B : FVec Ideal S4x128 .f32)
    (n t : Fin 128) (g : Fin 4) (q : Fin 128) :
    YB X G W N M B (ix2 ⟨n.val * 128 + t.val, by omega⟩ ⟨g.val * 128 + q.val, by omega⟩)
      = gelu (PR X G W (ix2 ⟨n.val * 128 + t.val, by omega⟩ ⟨3072 + (g.val * 128 + q.val), by omega⟩))
        * ((∑ s : Fin 128, VN X G W N (ix3 ⟨n.val * 128 + s.val, by omega⟩ g q) * TM M (ix3 g t s)) + B (ix2 g t)) := by
  pointwise [YB, U, gelu]

/-- The zero word is zero. -/
theorem sitofp_zero : FloatOps.sitofp (F := Ideal) FTy.f32 0#32 = (0 : EReal) := by
  show (((0#32 : BitVec 32).toInt : ℝ) : EReal) = 0
  rw [show (0#32 : BitVec 32).toInt = 0 from rfl]
  norm_num

/-- The sum over the window positions that lie inside. -/
theorem sum_upto (f : ℕ → EReal) (R : ℕ) (hR : R < 16384) :
    (∑ k : Fin 16384, if 16383 ≤ R + k.val then f (R + k.val - 16383) else 0) = ∑ j ∈ Finset.range (R + 1), f j := by
  have h1 : ∑ j ∈ Finset.range (R + 1), f j = ∑ k ∈ Finset.Ico (16383 - R) 16384, f (R + k - 16383) := by
    rw [Finset.sum_Ico_eq_sum_range, show 16384 - (16383 - R) = R + 1 by omega]
    exact Finset.sum_congr rfl fun k _ => congrArg f (by omega)
  rw [h1, Fin.sum_univ_eq_sum_range (fun k => if 16383 ≤ R + k then f (R + k - 16383) else 0) 16384]
  symm
  refine (Finset.sum_congr rfl fun k hk => ?_).trans (Finset.sum_subset ?_ fun k hk0 hk => ?_)
  · have := Finset.mem_Ico.mp hk
    exact (if_pos (by omega)).symm
  · intro k hk
    exact Finset.mem_range.mpr (Finset.mem_Ico.mp hk).2
  · exact if_neg fun h => hk (Finset.mem_Ico.mpr ⟨by omega, Finset.mem_range.mp hk0⟩)

/-- The positions of a window. -/
def pos : Fin 16384 ≃ (⟨3, ![16384, 1, 1]⟩ : Shape).Idx where
  toFun k := ix3 k 0 0
  invFun w := w 0
  left_inv _ := rfl
  right_inv w := by
    funext a
    fin_cases a
    · rfl
    · exact (Subsingleton.elim (α := Fin 1) _ _)
    · exact (Subsingleton.elim (α := Fin 1) _ _)

/-- The running sums at an entry. -/
theorem C_at (X : FVec Ideal S16384x2048 .f32) (G : FVec Ideal S2048 .f32) (W : FVec Ideal S2048x4608 .f32) (f : ℕ → EReal)
    (R : Fin 16384) (g : Fin 4) (q : Fin 128) (hx : ∀ r, P X G W (ix3 r g q) = f r.val) :
    C X G W (ix3 R g q) = ∑ j ∈ Finset.range (R.val + 1), f j := by
  have h0 : (broadcastInDim S_ ![] bcast_S_S_ (constant (F := Ideal) S_ .f32 0x00000000#32)) (Shape.Idx.first h_S_) = (0 : EReal) := by
    pointwise []
  rw [← sum_upto f R.val R.isLt]
  unfold C Host.reduceWindowAdd
  rw [h0, Ideal.hostReduceWindowAdd_def]
  unfold Ideal.hostReduceWindowAdd Host.reduceWindow
  refine (Cert.AttnRefIdeal.Pure.foldl_sum _ _ _).trans ?_
  rw [zero_add, ← Fin.sum_univ_def]
  refine ((Equiv.sum_comp (pos.trans (Shape.rowMajor _)) _).symm.trans ?_)
  refine Finset.sum_congr rfl fun k _ => ?_
  have hk : (⟨3, ![16384, 1, 1]⟩ : Shape).rowMajor.symm ((pos.trans (Shape.rowMajor _)) k) = ix3 k 0 0 := Equiv.symm_apply_apply _ _
  have hp : ∀ a : Fin 3, ((ix3 R g q : S16384x4x128.Idx) a).val * (![1, 1, 1] : Fin 3 → ℕ) a
      + ((⟨3, ![16384, 1, 1]⟩ : Shape).rowMajor.symm ((pos.trans (Shape.rowMajor _)) k) a).val
      = (![R.val + k.val, g.val, q.val] : Fin 3 → ℕ) a := by
    intro a
    rw [hk]
    fin_cases a
    · exact congrArg (· + k.val) (Nat.mul_one R.val)
    · exact Nat.mul_one _
    · exact Nat.mul_one _
  by_cases hin : 16383 ≤ R.val + k.val
  · rw [if_pos hin]
    refine (dif_pos ?_).trans ?_
    · have hw : ∀ a : Fin 3, (![16383, 0, 0] : Fin 3 → ℕ) a ≤ (![R.val + k.val, g.val, q.val] : Fin 3 → ℕ) a
          ∧ (![R.val + k.val, g.val, q.val] : Fin 3 → ℕ) a - (![16383, 0, 0] : Fin 3 → ℕ) a < S16384x4x128.size a := by
        intro a
        fin_cases a
        · exact ⟨hin, show R.val + k.val - 16383 < 16384 by omega⟩
        · exact ⟨Nat.zero_le _, g.isLt⟩
        · exact ⟨Nat.zero_le _, q.isLt⟩
      intro a
      exact ⟨(hw a).1.trans_eq (hp a).symm, (congrArg (fun u => u - (![16383, 0, 0] : Fin 3 → ℕ) a) (hp a)).trans_lt (hw a).2⟩
    · rw [← hx ⟨R.val + k.val - 16383, by omega⟩]
      refine congrArg (P X G W) (funext fun a => Fin.ext ?_)
      refine (congrArg (fun u => u - (![16383, 0, 0] : Fin 3 → ℕ) a) (hp a)).trans ?_
      fin_cases a <;> rfl
  · rw [if_neg hin]
    refine dif_neg fun hall => hin ?_
    have h2 := (hall 0).1
    exact le_of_le_of_eq h2 (hp 0)

/-- The mean over window 2 less the entry, at an entry. -/
theorem D0_at (X : FVec Ideal S16384x2048 .f32) (G : FVec Ideal S2048 .f32) (W : FVec Ideal S2048x4608 .f32) (R : Fin 16384) (q : Fin 128) : D0 X G W (ix2 R q)
    = Ideal.div (C X G W (ix3 R 0 q) - (if h : R.val < 2 then 0 else C X G W (ix3 ⟨R.val - 2, by omega⟩ 0 q))) (cnt 2 R.val) - P X G W (ix3 R 0 q) := by
  pointwise [D0, C0]
  refine congrArg (fun u => u - P X G W (ix3 R 0 q)) (congrArg₂ Ideal.div (congrArg (fun u => C X G W (ix3 R 0 q) - u) ?_) rfl)
  by_cases h : R.val < 2
  · rw [dif_pos h, dif_neg (by omega)]
    exact sitofp_zero
  · rw [dif_neg h, dif_pos (by omega)]

/-- The mean over window 4 less the entry, at an entry. -/
theorem D1_at (X : FVec Ideal S16384x2048 .f32) (G : FVec Ideal S2048 .f32) (W : FVec Ideal S2048x4608 .f32) (R : Fin 16384) (q : Fin 128) : D1 X G W (ix2 R q)
    = Ideal.div (C X G W (ix3 R 1 q) - (if h : R.val < 4 then 0 else C X G W (ix3 ⟨R.val - 4, by omega⟩ 1 q))) (cnt 4 R.val) - P X G W (ix3 R 1 q) := by
  pointwise [D1, C1]
  refine congrArg (fun u => u - P X G W (ix3 R 1 q)) (congrArg₂ Ideal.div (congrArg (fun u => C X G W (ix3 R 1 q) - u) ?_) rfl)
  by_cases h : R.val < 4
  · rw [dif_pos h, dif_neg (by omega)]
    exact sitofp_zero
  · rw [dif_neg h, dif_pos (by omega)]

/-- The mean over window 8 less the entry, at an entry. -/
theorem D2_at (X : FVec Ideal S16384x2048 .f32) (G : FVec Ideal S2048 .f32) (W : FVec Ideal S2048x4608 .f32) (R : Fin 16384) (q : Fin 128) : D2 X G W (ix2 R q)
    = Ideal.div (C X G W (ix3 R 2 q) - (if h : R.val < 8 then 0 else C X G W (ix3 ⟨R.val - 8, by omega⟩ 2 q))) (cnt 8 R.val) - P X G W (ix3 R 2 q) := by
  pointwise [D2, C2]
  refine congrArg (fun u => u - P X G W (ix3 R 2 q)) (congrArg₂ Ideal.div (congrArg (fun u => C X G W (ix3 R 2 q) - u) ?_) rfl)
  by_cases h : R.val < 8
  · rw [dif_pos h, dif_neg (by omega)]
    exact sitofp_zero
  · rw [dif_neg h, dif_pos (by omega)]

/-- The mean over window 16 less the entry, at an entry. -/
theorem D3_at (X : FVec Ideal S16384x2048 .f32) (G : FVec Ideal S2048 .f32) (W : FVec Ideal S2048x4608 .f32) (R : Fin 16384) (q : Fin 128) : D3 X G W (ix2 R q)
    = Ideal.div (C X G W (ix3 R 3 q) - (if h : R.val < 16 then 0 else C X G W (ix3 ⟨R.val - 16, by omega⟩ 3 q))) (cnt 16 R.val) - P X G W (ix3 R 3 q) := by
  pointwise [D3, C3]
  refine congrArg (fun u => u - P X G W (ix3 R 3 q)) (congrArg₂ Ideal.div (congrArg (fun u => C X G W (ix3 R 3 q) - u) ?_) rfl)
  by_cases h : R.val < 16
  · rw [dif_pos h, dif_neg (by omega)]
    exact sitofp_zero
  · rw [dif_neg h, dif_pos (by omega)]

/-- The pooling mixer at an entry. -/
theorem YC_at (X : FVec Ideal S16384x2048 .f32) (G : FVec Ideal S2048 .f32) (W : FVec Ideal S2048x4608 .f32) (Q : FVec Ideal S4x128x128 .f32) (D : FVec Ideal S512 .f32) (r : Fin 16384) (g : Fin 4) (q : Fin 128) :
    YC X G W Q D (ix2 r ⟨g.val * 128 + q.val, by omega⟩)
      = (∑ d : Fin 128, Q (ix3 g d q) * DD X G W (ix3 r g d)) * D (ix1 ⟨g.val * 128 + q.val, by omega⟩) := by
  pointwise [YC]

/-- The differences at an entry, by group. -/
theorem DD_at (X : FVec Ideal S16384x2048 .f32) (G : FVec Ideal S2048 .f32) (W : FVec Ideal S2048x4608 .f32) (r : Fin 16384) (g : Fin 4) (q : Fin 128) :
    DD X G W (ix3 r g q) = ![D0 X G W (ix2 r q), D1 X G W (ix2 r q), D2 X G W (ix2 r q), D3 X G W (ix2 r q)] g := by
  fin_cases g <;> pointwise [DD]

/-- The first half of the reference's columns is the gating unit's, -/
theorem REF_left (X : FVec Ideal S16384x2048 .f32) (G : FVec Ideal S2048 .f32) (W : FVec Ideal S2048x4608 .f32) (N : FVec Ideal S512 .f32) (M : FVec Ideal S4x128x128 .f32) (B : FVec Ideal S4x128 .f32) (Q : FVec Ideal S4x128x128 .f32) (D : FVec Ideal S512 .f32)
    (r : Fin 16384) (l : Fin 512) : REF X G W N M B Q D (ix2 r ⟨l.val, by omega⟩) = YB X G W N M B (ix2 r l) := by
  pointwise [REF]

/-- and the second half the pooling mixer's. -/
theorem REF_right (X : FVec Ideal S16384x2048 .f32) (G : FVec Ideal S2048 .f32) (W : FVec Ideal S2048x4608 .f32) (N : FVec Ideal S512 .f32) (M : FVec Ideal S4x128x128 .f32) (B : FVec Ideal S4x128 .f32) (Q : FVec Ideal S4x128x128 .f32) (D : FVec Ideal S512 .f32)
    (r : Fin 16384) (l : Fin 512) : REF X G W N M B Q D (ix2 r ⟨512 + l.val, by omega⟩) = YC X G W Q D (ix2 r l) := by
  pointwise [REF]

end Cert.SguPoolRefIdeal.Pure

end
-- ==== Proof.SguPool.Blocks.lean ====
/- The gating and pooling call's blocks, at an entry. -/
module

public import proofs.«01_k».proof.Proof.Gen.SguPoolIdeal.Frame
public import proofs.«01_k».proof.Proof.SguPool.Pure
public import proofs.«01_k».proof.Proof.SguPool.Ref
public import Idealize.ShloMosaic.Lib.Pipeline.ValueKit
public import Idealize.ShloMosaic.Lib.Pipeline.ReadBack
public import Idealize.ShloMosaic.Lib.WordCmp
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguPoolIdeal Cert.SguPoolIdeal.Gen Cert.SguPoolIdeal.Pure Cert.SguMath

variable (m : (ℓ : Loc nD τ sig) → Buf (Elt Ideal) ℓ)

/-- The windows' block indices at every point, -/
theorem idx : ∀ t : Fin cfg0.N, win0_0.index t = ![t.val, 0] ∧ win0_1.index t = ![0, 0] ∧ win0_2.index t = ![0, 2]
    ∧ win0_3.index t = ![0, 0] ∧ win0_4.index t = ![0, 0, 0] ∧ win0_5.index t = ![0, 0] ∧ win0_6.index t = ![0, 0, 0]
    ∧ win0_7.index t = ![0, 0, 0] ∧ win0_8.index t = ![0, 0] ∧ win0_9.index t = ![t.val, 0] :=
  (by decide +kernel : ∀ t : Fin grid0.N, _)

/-- and the point's coordinate. -/
theorem row : ∀ t : Fin cfg0.N, (grid0.coords t 0).val = t.val :=
  (by decide +kernel : ∀ t : Fin grid0.N, _)

theorem row_lt (t : Fin cfg0.N) (r : Fin 512) : t.val * 512 + r.val < 16384 := by
  have : t.val < 32 := lt_of_lt_of_eq t.isLt N_0
  omega

/-- The arguments. -/
abbrev aX (c : Dev nD) : FVec Ideal S16384x2048 .f32 := m ((c : Thread nD τ).loc main_arg0)
abbrev aG (c : Dev nD) : FVec Ideal S2048 .f32 := m ((c : Thread nD τ).loc main_arg1)
abbrev aW (c : Dev nD) : FVec Ideal S2048x4608 .f32 := m ((c : Thread nD τ).loc main_arg2)
abbrev aN (c : Dev nD) : FVec Ideal S512 .f32 := m ((c : Thread nD τ).loc main_arg3)
abbrev aM (c : Dev nD) : FVec Ideal S4x128x128 .f32 := m ((c : Thread nD τ).loc main_arg4)
abbrev aB (c : Dev nD) : FVec Ideal S4x128 .f32 := m ((c : Thread nD τ).loc main_arg5)
abbrev aQ (c : Dev nD) : FVec Ideal S4x128x128 .f32 := m ((c : Thread nD τ).loc main_arg6)
abbrev aD (c : Dev nD) : FVec Ideal S512 .f32 := m ((c : Thread nD τ).loc main_arg7)

/-- A load of some columns of a row, -/
theorem ld_row (X : Vec Ideal S1x512 .f32) (b : ℕ) (hb : b + 128 ≤ 512) (inb) (l : Fin 128) :
    View.ld (Val := Elt Ideal) (e' := .f32) X (Rect.unit ![0, b] ![1, 128] inb) (ix2 0 l) = X (ix2 0 ⟨b + l.val, by omega⟩) :=
  View.ld_unit_apply_of (Val := Elt Ideal) (e := .f32) X _ _ _ _ _ fun a => by
    fin_cases a
    · rfl
    · rfl

/-- of some columns of the positions' weights, -/
theorem ld_cols (X : Vec Ideal S128x512 .f32) (b : ℕ) (hb : b + 128 ≤ 512) (inb) (r l : Fin 128) :
    View.ld (Val := Elt Ideal) (e' := .f32) X (Rect.unit ![0, b] ![128, 128] inb) (ix2 r l) = X (ix2 r ⟨b + l.val, by omega⟩) :=
  View.ld_unit_apply_of (Val := Elt Ideal) (e := .f32) X _ _ _ _ _ fun a => by
    fin_cases a
    · exact (Nat.zero_add _).symm
    · rfl

/-- of a group of the gating weights, -/
theorem ld_grpM (X : Vec Ideal S4x128x128 .f32) (g : ℕ) (hg : g < 4) (inb) (r l : Fin 128) :
    View.ld (Val := Elt Ideal) (e' := .f32) X (Rect.unit ![g, 0, 0] ![1, 128, 128] inb) (ix3 0 r l) = X (ix3 ⟨g, hg⟩ r l) :=
  View.ld_unit_apply_of (Val := Elt Ideal) (e := .f32) X _ _ _ _ _ fun a => by
    fin_cases a
    · rfl
    · exact (Nat.zero_add _).symm
    · exact (Nat.zero_add _).symm

/-- of the mixing weights -/
theorem ld_grpQ (X : Vec Ideal S4x128x128 .bf16) (g : ℕ) (hg : g < 4) (inb) (r l : Fin 128) :
    View.ld (Val := Elt Ideal) (e' := .bf16) X (Rect.unit ![g, 0, 0] ![1, 128, 128] inb) (ix3 0 r l) = X (ix3 ⟨g, hg⟩ r l) :=
  View.ld_unit_apply_of (Val := Elt Ideal) (e := .bf16) X _ _ _ _ _ fun a => by
    fin_cases a
    · rfl
    · exact (Nat.zero_add _).symm
    · exact (Nat.zero_add _).symm

/-- and of the windows. -/
theorem ld_grpW (X : Vec Ideal S4x128x256 .bf16) (g : ℕ) (hg : g < 4) (inb) (r : Fin 128) (l : Fin 256) :
    View.ld (Val := Elt Ideal) (e' := .bf16) X (Rect.unit ![g, 0, 0] ![1, 128, 256] inb) (ix3 0 r l) = X (ix3 ⟨g, hg⟩ r l) :=
  View.ld_unit_apply_of (Val := Elt Ideal) (e := .bf16) X _ _ _ _ _ fun a => by
    fin_cases a
    · rfl
    · exact (Nat.zero_add _).symm
    · exact (Nat.zero_add _).symm

/-- A window's two comparisons, as a number. -/
theorem inside (r : Fin 128) (j : Fin 256) (w : BitVec 32) (n : ℕ) (hn : n < 256) (hw : w = BitVec.ofNat 32 n) :
    (((IntOp.andi (IntOp.cmpi .sge (IntOp.subi (IntOp.addi (BitVec.ofNat 32 r.val) 128#32) (BitVec.ofNat 32 j.val)) 0#32)
      (IntOp.cmpi .slt (IntOp.subi (IntOp.addi (BitVec.ofNat 32 r.val) 128#32) (BitVec.ofNat 32 j.val)) w)).toNat : ℝ) : EReal)
      = if j.val ≤ r.val + 128 ∧ r.val + 128 < j.val + n then 1 else 0 := by
  subst hw
  have e : (IntOp.subi (IntOp.addi (BitVec.ofNat 32 r.val) 128#32) (BitVec.ofNat 32 j.val)).toInt = (r.val : ℤ) + 128 - j.val := by
    have h1 : IntOp.addi (BitVec.ofNat 32 r.val) 128#32 = BitVec.ofNat 32 (r.val + 128) := WordCmp.addi_ofNat _ _
    have := r.isLt; have := j.isLt
    rw [h1]
    show (BitVec.ofNat 32 (r.val + 128) - BitVec.ofNat 32 j.val).toInt = _
    rw [BitVec.toInt_sub, WordCmp.toInt_ofNat_of_lt (w := 32) (a := r.val + 128) (by omega), WordCmp.toInt_ofNat_of_lt (w := 32) (a := j.val) (by omega)]
    simp only [Int.bmod_def]
    omega
  rw [WordCmp.cmpi_sge_eq, WordCmp.cmpi_slt_eq, e, WordCmp.toInt_ofNat_of_lt (w := 32) (a := n) (by omega), WordCmp.andi_ofBool]
  rw [show (0#32 : BitVec 32).toInt = 0 from rfl]
  by_cases h : j.val ≤ r.val + 128 ∧ r.val + 128 < j.val + n
  · rw [if_pos h, decide_eq_true (by omega), decide_eq_true (by omega)]; simp
  · rw [if_neg h]
    have hc : ¬ ((0 : ℤ) ≤ (r.val : ℤ) + 128 - j.val) ∨ ¬ ((r.val : ℤ) + 128 - j.val < n) := by omega
    rcases hc with hc | hc <;> rw [decide_eq_false hc] <;> simp

/-- The windows the host computes: the first, -/
theorem w0_at (c : Dev nD) (r : Fin 128) (j : Fin 256) : (V m c main_v67 : FVec Ideal S4x128x256 .bf16) (ix3 0 r j)
    = if j.val ≤ r.val + 128 ∧ r.val + 128 < j.val + 2 then (1 : EReal) else (0 : EReal) := by
  unfold V
  after_reads_simp
  pointwise
  after_reads_simp
  pointwise
  exact inside r j _ 2 (by decide) rfl

/-- the second, -/
theorem w1_at (c : Dev nD) (r : Fin 128) (j : Fin 256) : (V m c main_v67 : FVec Ideal S4x128x256 .bf16) (ix3 1 r j)
    = if j.val ≤ r.val + 128 ∧ r.val + 128 < j.val + 4 then (1 : EReal) else (0 : EReal) := by
  unfold V
  after_reads_simp
  pointwise
  after_reads_simp
  pointwise
  exact inside r j _ 4 (by decide) rfl

/-- the third -/
theorem w2_at (c : Dev nD) (r : Fin 128) (j : Fin 256) : (V m c main_v67 : FVec Ideal S4x128x256 .bf16) (ix3 2 r j)
    = if j.val ≤ r.val + 128 ∧ r.val + 128 < j.val + 8 then (1 : EReal) else (0 : EReal) := by
  unfold V
  after_reads_simp
  pointwise
  after_reads_simp
  pointwise
  exact inside r j _ 8 (by decide) rfl

/-- and the fourth. -/
theorem w3_at (c : Dev nD) (r : Fin 128) (j : Fin 256) : (V m c main_v67 : FVec Ideal S4x128x256 .bf16) (ix3 3 r j)
    = if j.val ≤ r.val + 128 ∧ r.val + 128 < j.val + 16 then (1 : EReal) else (0 : EReal) := by
  unfold V
  after_reads_simp
  pointwise
  after_reads_simp
  pointwise
  exact inside r j _ 16 (by decide) rfl

/-- The windows by group. -/
theorem w_at (c : Dev nD) (g : Fin 4) (r : Fin 128) (j : Fin 256) :
    (V m c main_v67 : FVec Ideal S4x128x256 .bf16) (ix3 g r j) = if j.val ≤ r.val + 128 ∧ r.val + 128 < j.val + win g then (1 : EReal) else (0 : EReal) := by
  fin_cases g
  · exact w0_at m c r j
  · exact w1_at m c r j
  · exact w2_at m c r j
  · exact w3_at m c r j

/-- The positions' weights as the kernel reads them, -/
theorem b_at (c : Dev nD) (r : Fin 128) (g : Fin 4) (q : Fin 128) :
    (V m c main_v2 : FVec Ideal S128x512 .f32) (ix2 r ⟨g.val * 128 + q.val, by omega⟩) = aB m c (ix2 g r) := by
  unfold aB; entry_read; pointwise

/-- the gain's row, -/
theorem g_at (c : Dev nD) (k : Fin 2048) : (V m c main_v3 : FVec Ideal S1x2048 .f32) (ix2 0 k) = aG m c (ix1 k) := by
  unfold aG; entry_read; pointwise

/-- the weights, -/
theorem v4_at (c : Dev nD) (k : Fin 2048) (l : Fin 4608) : (V m c main_v4 : FVec Ideal S2048x4608 .bf16) (ix2 k l) = aW m c (ix2 k l) := by
  unfold aW; entry_read; pointwise

/-- the gating unit's gain, -/
theorem n_at (c : Dev nD) (k : Fin 512) : (V m c main_v5 : FVec Ideal S1x512 .f32) (ix2 0 k) = aN m c (ix1 k) := by
  unfold aN; entry_read; pointwise

/-- the mixing weights -/
theorem q_at (c : Dev nD) (g : Fin 4) (k l : Fin 128) : (V m c main_v6 : FVec Ideal S4x128x128 .bf16) (ix3 g k l) = aQ m c (ix3 g k l) := by
  unfold aQ; entry_read; pointwise

/-- and the scale. -/
theorem d_at (c : Dev nD) (k : Fin 512) : (V m c main_v7 : FVec Ideal S1x512 .f32) (ix2 0 k) = aD m c (ix1 k) := by
  unfold aD; entry_read; pointwise

/-- The blocks the windows hold at a point, at an entry. -/
theorem blk0 (c : Dev nD) (t : Fin cfg0.N) (r : Fin 512) (k : Fin 2048) :
    (iblk m c 0 t : FVec Ideal S512x2048 .f32) (ix2 r k) = aX m c (ix2 ⟨t.val * 512 + r.val, row_lt t r⟩ k) := by
  unfold aX; rw [← V_main_arg0 m c]; blk_ext [iblk, idx t]

theorem blk1 (c : Dev nD) (t : Fin cfg0.N) (k : Fin 2048) :
    (iblk m c 1 t : FVec Ideal S1x2048 .f32) (ix2 0 k) = aG m c (ix1 k) := by
  rw [← g_at m c]; blk_ext [iblk, idx t]

theorem blk2 (c : Dev nD) (t : Fin cfg0.N) (k : Fin 2048) (l : Fin 1536) :
    (iblk m c 2 t : FVec Ideal S2048x1536 .bf16) (ix2 k l) = aW m c (ix2 k ⟨3072 + l.val, by omega⟩) := by
  rw [← v4_at m c]; blk_ext [iblk, idx t]

theorem blk3 (c : Dev nD) (t : Fin cfg0.N) (k : Fin 512) :
    (iblk m c 3 t : FVec Ideal S1x512 .f32) (ix2 0 k) = aN m c (ix1 k) := by
  rw [← n_at m c]; blk_ext [iblk, idx t]

theorem blk4 (c : Dev nD) (t : Fin cfg0.N) (g : Fin 4) (r s : Fin 128) :
    (iblk m c 4 t : FVec Ideal S4x128x128 .f32) (ix3 g r s) = aM m c (ix3 g r s) := by
  unfold aM; rw [← V_main_arg4 m c]; blk_ext [iblk, idx t]

theorem blk5 (c : Dev nD) (t : Fin cfg0.N) (r : Fin 128) (g : Fin 4) (q : Fin 128) :
    (iblk m c 5 t : FVec Ideal S128x512 .f32) (ix2 r ⟨g.val * 128 + q.val, by omega⟩) = aB m c (ix2 g r) := by
  rw [← b_at m c r g q]; blk_ext [iblk, idx t]

theorem blk6 (c : Dev nD) (t : Fin cfg0.N) (g : Fin 4) (r : Fin 128) (j : Fin 256) :
    (iblk m c 6 t : FVec Ideal S4x128x256 .bf16) (ix3 g r j) = if j.val ≤ r.val + 128 ∧ r.val + 128 < j.val + win g then (1 : EReal) else (0 : EReal) := by
  rw [← w_at m c g r j]; blk_ext [iblk, idx t]

theorem blk7 (c : Dev nD) (t : Fin cfg0.N) (g : Fin 4) (k l : Fin 128) :
    (iblk m c 7 t : FVec Ideal S4x128x128 .bf16) (ix3 g k l) = aQ m c (ix3 g k l) := by
  rw [← q_at m c]; blk_ext [iblk, idx t]

theorem blk8 (c : Dev nD) (t : Fin cfg0.N) (k : Fin 512) :
    (iblk m c 8 t : FVec Ideal S1x512 .f32) (ix2 0 k) = aD m c (ix1 k) := by
  rw [← d_at m c]; blk_ext [iblk, idx t]

end Cert.SguPoolIdeal.Value

end
-- ==== Proof.SguPool.Tile.lean ====
/- One tile of the gating unit and one of the pooling mixer, as the reference has them. -/
module

public import proofs.«01_k».proof.Proof.SguPool.Ref

@[expose] public section

set_option maxRecDepth 16384

noncomputable section

open Idealize.ShloMosaic

namespace Cert.SguPoolRefIdeal.Pure

open Cert.SguPoolRefIdeal Cert.SguMath

variable (X : FVec Ideal S16384x2048 .f32) (G : FVec Ideal S2048 .f32) (W : FVec Ideal S2048x4608 .f32) (N : FVec Ideal S512 .f32)
  (M : FVec Ideal S4x128x128 .f32) (B : FVec Ideal S4x128 .f32) (Q : FVec Ideal S4x128x128 .f32) (D : FVec Ideal S512 .f32)

/-- Row `r` of tile `c` of block `T`. -/
abbrev tr (T : Fin 32) (c : Fin 4) (r : Fin 128) : Fin 16384 := ⟨T.val * 512 + (c.val * 128 + r.val), by omega⟩

/-- The gating unit's entry: the gate of the first columns times the weights' sum over earlier rows and the position's weight. -/
theorem gate_eq (T : Fin 32) (c g : Fin 4) (r q : Fin 128) (u b : EReal) (w n : Fin 128 → EReal)
    (hu : u = gelu (PR X G W (ix2 (tr T c r) ⟨3072 + (g.val * 128 + q.val), by omega⟩)))
    (hw : ∀ s, w s = if s.val ≤ r.val then M (ix3 g r s) else (0 : EReal))
    (hn : ∀ s, n s = VN X G W N (ix3 (tr T c s) g q)) (hb : b = B (ix2 g r)) :
    u * ((∑ s, w s * n s) + b) = REF X G W N M B Q D (ix2 (tr T c r) ⟨g.val * 128 + q.val, by omega⟩) := by
  have e : ∀ s : Fin 128, tr T c s = ⟨(⟨T.val * 4 + c.val, by omega⟩ : Fin 128).val * 128 + s.val, by simp only; omega⟩ :=
    fun s => Fin.ext (by simp only [tr]; omega)
  refine Eq.trans ?_ (REF_left X G W N M B Q D (tr T c r) ⟨g.val * 128 + q.val, by omega⟩).symm
  rw [hu, hb]
  refine Eq.trans ?_ ((congrArg (fun R => YB X G W N M B (ix2 R ⟨g.val * 128 + q.val, by omega⟩)) (e r)).trans
    (YB_at X G W N M B ⟨T.val * 4 + c.val, by omega⟩ r g q)).symm
  refine congrArg₂ (· * ·) (congrArg (fun R => gelu (PR X G W (ix2 R ⟨3072 + (g.val * 128 + q.val), by omega⟩))) (e r)) (congrArg (· + _) ?_)
  refine Finset.sum_congr rfl fun s _ => ?_
  rw [hw s, hn s, TM_at, mul_comm, e s]

/-- The mean over a window less the entry, with the running sums summed. -/
theorem win_of (g : Fin 4) (R : Fin 16384) (k : Fin 128) (p : ℕ → EReal) (hp : ∀ R, P X G W (ix3 R g k) = p R.val) (w : ℕ) (hw : w = win g) (E : EReal)
    (hE : E = Ideal.div (C X G W (ix3 R g k) - (if h : R.val < w then 0 else C X G W (ix3 ⟨R.val - w, by omega⟩ g k))) (cnt w R.val) - P X G W (ix3 R g k)) :
    E = Ideal.div ((∑ j ∈ Finset.range (R.val + 1), p j) - (if R.val < win g then 0 else ∑ j ∈ Finset.range (R.val - win g + 1), p j))
      (cnt (win g) R.val) - P X G W (ix3 R g k) := by
  have h : (if h : R.val < w then (0 : EReal) else C X G W (ix3 ⟨R.val - w, by omega⟩ g k))
      = if R.val < w then 0 else ∑ j ∈ Finset.range (R.val - w + 1), p j := by
    by_cases h : R.val < w
    · rw [dif_pos h, if_pos h]
    · rw [dif_neg h, if_neg h]
      exact C_at X G W p ⟨R.val - w, by omega⟩ g k hp
  rw [hE, h, C_at X G W p R g k hp, hw]

/-- The mean over a group's window less the entry. -/
theorem DD_win (g : Fin 4) (R : Fin 16384) (k : Fin 128) (p : ℕ → EReal) (hp : ∀ R, P X G W (ix3 R g k) = p R.val) :
    DD X G W (ix3 R g k) = Ideal.div ((∑ j ∈ Finset.range (R.val + 1), p j) - (if R.val < win g then 0 else ∑ j ∈ Finset.range (R.val - win g + 1), p j))
      (cnt (win g) R.val) - P X G W (ix3 R g k) := by
  rw [DD_at]
  have hg : g = 0 ∨ g = 1 ∨ g = 2 ∨ g = 3 := by omega
  rcases hg with rfl | rfl | rfl | rfl
  · exact win_of X G W 0 R k p hp 2 (by decide) (D0 X G W (ix2 R k)) (D0_at X G W R k)
  · exact win_of X G W 1 R k p hp 4 (by decide) (D1 X G W (ix2 R k)) (D1_at X G W R k)
  · exact win_of X G W 2 R k p hp 8 (by decide) (D2 X G W (ix2 R k)) (D2_at X G W R k)
  · exact win_of X G W 3 R k p hp 16 (by decide) (D3 X G W (ix2 R k)) (D3_at X G W R k)

/-- The pooling mixer's entry: the window's sums over the tile and the one before it, over the count, less the entry, mixed and scaled. -/
theorem pool_eq (p : Fin 4 → Fin 128 → ℕ → EReal) (hp : ∀ g k R, P X G W (ix3 R g k) = p g k R.val) (hr : ∀ g k n, IsReal (p g k n))
    (T : Fin 32) (c g : Fin 4) (r q : Fin 128) (b : Fin 256 → EReal) (h l : Fin 256 → Fin 128 → EReal) (n d : EReal) (v m : Fin 128 → EReal)
    (hb : ∀ j, b j = if j.val ≤ r.val + 128 ∧ r.val + 128 < j.val + win g then (1 : EReal) else (0 : EReal))
    (hh : ∀ j k, h j k = late (p g k) (T.val * 512 + (c.val * 128 + j.val))) (hl : ∀ j k, l j k = 0)
    (hn : n = cnt (win g) (tr T c r).val) (hv : ∀ k, v k = P X G W (ix3 (tr T c r) g k))
    (hm : ∀ k, m k = Q (ix3 g k q)) (hd : d = D (ix1 ⟨g.val * 128 + q.val, by omega⟩)) :
    (∑ k, (Ideal.div ((∑ j, b j * h j k) + (∑ j, b j * l j k)) n - v k) * m k) * d
      = REF X G W N M B Q D (ix2 (tr T c r) ⟨512 + (g.val * 128 + q.val), by omega⟩) := by
  refine Eq.trans ?_ (REF_right X G W N M B Q D (tr T c r) ⟨g.val * 128 + q.val, by omega⟩).symm
  refine Eq.trans ?_ (YC_at X G W Q D (tr T c r) g q).symm
  rw [hd]
  refine congrArg (· * _) (Finset.sum_congr rfl fun k _ => ?_)
  rw [hm k, mul_comm, DD_win X G W g (tr T c r) k (p g k) (hp g k), hv k, hn, window (p g k) (hr g k) (win g) _ (win_le g)]
  refine congrArg (fun u => Q (ix3 g k q) * (Ideal.div u _ - _)) ?_
  have h0 : ∑ j, b j * l j k = 0 := Finset.sum_eq_zero fun j _ => by rw [hl j k, mul_zero]
  rw [h0, add_zero]
  refine Eq.trans ?_ ((sum_band (late (p g k)) (win g) r.val (T.val * 512 + c.val * 128) (win_le g) r.isLt).trans ?_)
  · refine Finset.sum_congr rfl fun j _ => ?_
    rw [hb j, hh j k, ← add_assoc]
  · refine Finset.sum_congr rfl fun j _ => congrArg (late (p g k)) ?_
    simp only [tr]
    omega

end Cert.SguPoolRefIdeal.Pure

end
-- ==== Proof.SguPool.Finite.lean ====
/- What the precondition says: every pooling column of the products is a real. -/
module

public import proofs.«01_k».proof.Pre_finite_pool
public import proofs.«01_k».proof.Proof.SguPool.Ref

@[expose] public section

set_option maxRecDepth 16384

noncomputable section

open Idealize.ShloMosaic Idealize.ShloMosaic.TcCoe Idealize.SL.Sem

namespace Cert.SguFinite

open Cert.SguMath Cert.SguPoolRefIdeal Cert.SguPoolRefIdeal.Pure

/-- The side conditions of the precondition's operations. -/
instance facts : Cert.Pre_finite_pool.Facts where
  bcast_S2048_S2048x1_0 := by decide
  bcast_S_S2048x1 := by decide
  slices_S2048x4608_S2048x512_0_4096 := by decide
  bcast_S_S2048x512 := by decide
  bcast_S2048x1_S2048x512_0_1 := by decide

variable (X : FVec Ideal S16384x2048 .f32) (G : FVec Ideal S2048 .f32) (W : FVec Ideal S2048x4608 .f32) (N : FVec Ideal S512 .f32)
  (M : FVec Ideal S4x128x128 .f32) (B : FVec Ideal S4x128 .f32) (Q : FVec Ideal S4x128x128 .f32) (D : FVec Ideal S512 .f32)

/-- The precondition as it is read here. -/
abbrev Finite : Prop := Cert.Pre_finite_pool.fn (F := Ideal) X G W N M B Q D = fun _ => 1#1

/-- An extended real of which the magnitude is below infinity is a real. -/
theorem real_of_cmp (x : EReal) (h : Ideal.cmp .olt (max x (-x)) (Ideal.ofBits .f32 2139095040#32) = 1#1) : IsReal x := by
  have ht : Ideal.ofBits .f32 2139095040#32 = (⊤ : EReal) := by simp [Ideal.ofBits, Ideal.ieee]
  rw [ht] at h
  induction x using EReal.rec with
  | bot => simp [Ideal.cmp] at h
  | top => simp [Ideal.cmp] at h
  | coe y => exact ⟨y, rfl⟩

/-- Both bits of a conjunction that is one are one. -/
theorem both : ∀ a b : BitVec 1, IntOp.andi a b = 1#1 → a = 1#1 ∧ b = 1#1 := by decide

/-- The gain and the pooling weights are reals. -/
theorem real_at (h : Finite X G W N M B Q D) (k : Fin 2048) (l : Fin 512) : IsReal (G (ix1 k)) ∧ IsReal (W (ix2 k ⟨4096 + l.val, by omega⟩)) := by
  have e : IntOp.andi (Ideal.cmp .olt (max (G (ix1 k)) (-G (ix1 k) : EReal)) (Ideal.ofBits .f32 2139095040#32))
      (Ideal.cmp .olt (max (W (ix2 k ⟨4096 + l.val, by omega⟩)) (-W (ix2 k ⟨4096 + l.val, by omega⟩) : EReal)) (Ideal.ofBits .f32 2139095040#32)) = 1#1 := by
    refine Eq.trans ?_ (congrFun h (ix2 k l))
    symm
    pointwise [Cert.Pre_finite_pool.fn]
    rfl
  exact ⟨real_of_cmp _ (both _ _ e).1, real_of_cmp _ (both _ _ e).2⟩

/-- A pooling column as a sequence of rows. -/
def col (g : Fin 4) (k : Fin 128) (n : ℕ) : EReal := if h : n < 16384 then P X G W (ix3 ⟨n, h⟩ g k) else 0

theorem col_at (g : Fin 4) (k : Fin 128) (R : Fin 16384) : P X G W (ix3 R g k) = col X G W g k R.val := by
  rw [col, dif_pos R.isLt]

/-- Its rows are reals. -/
theorem col_real (h : Finite X G W N M B Q D) (g : Fin 4) (k : Fin 128) (n : ℕ) : IsReal (col X G W g k n) := by
  unfold col
  split
  · rw [P_at, PR_at]
    refine isReal_proj _ _ _ (fun j => (real_at X G W N M B Q D h j 0).1) fun j => ?_
    exact (real_at X G W N M B Q D h j ⟨g.val * 128 + k.val, by omega⟩).2
  · exact isReal_zero

end Cert.SguFinite

end
-- ==== Proof.SguPool.Leaf.lean ====
/- The blocks' values in the terms of the reference. -/
module

public import proofs.«01_k».proof.Proof.SguPool.Blocks
public import proofs.«01_k».proof.Proof.SguPool.Tile
public import proofs.«01_k».proof.Proof.SguPool.Finite

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguPoolIdeal Cert.SguPoolIdeal.Gen Cert.SguPoolIdeal.Pure Cert.FfnMath Cert.SguMath

variable (m : (ℓ : Loc nD τ sig) → Buf (Elt Ideal) ℓ)

/-- The products at an entry. -/
theorem prod_at (c : Dev nD) (t : Fin cfg0.N) (r : Fin 512) (l : Fin 1536) : k0_pay4 (iblk m c 0 t) (iblk m c 1 t) (iblk m c 2 t) (ix2 r l)
    = Cert.SguPoolRefIdeal.Pure.PR (aX m c) (aG m c) (aW m c) (ix2 ⟨t.val * 512 + r.val, row_lt t r⟩ ⟨3072 + l.val, by omega⟩) := by
  refine (pay4_at _ _ _ r l).trans ?_
  rw [Cert.SguPoolRefIdeal.Pure.PR_at]
  have hx : (fun k => (iblk m c 0 t : FVec Ideal S512x2048 .f32) (ix2 r k)) = fun k => aX m c (ix2 ⟨t.val * 512 + r.val, row_lt t r⟩ k) :=
    funext fun k => blk0 m c t r k
  have hg : (fun k => (iblk m c 1 t : FVec Ideal S1x2048 .f32) (ix2 0 k)) = fun k => aG m c (ix1 k) := funext fun k => blk1 m c t k
  refine Finset.sum_congr rfl fun k _ => ?_
  exact congrArg₂ (· * ·) (congrArg₂ (fun a b => rowNorm a b k) hx hg) (blk2 m c t k l)

/-- The gate of the first columns, -/
theorem u_at (c : Dev nD) (t : Fin cfg0.N) (r : Fin 512) (l : Fin 512) : k0_pay5 (iblk m c 0 t) (iblk m c 1 t) (iblk m c 2 t) (ix2 r l)
    = gelu (Cert.SguPoolRefIdeal.Pure.PR (aX m c) (aG m c) (aW m c) (ix2 ⟨t.val * 512 + r.val, row_lt t r⟩ ⟨3072 + l.val, by omega⟩)) :=
  (pay5_at _ _ _ r l).trans (congrArg gelu (prod_at m c t r _))

/-- of the second columns -/
theorem v_at (c : Dev nD) (t : Fin cfg0.N) (r : Fin 512) (g : Fin 4) (q : Fin 128) : (k0_pay8 (k0_pay6 (iblk m c 0 t) (iblk m c 1 t) (iblk m c 2 t)) (k0_pay7 (iblk m c 0 t) (iblk m c 1 t) (iblk m c 2 t)) one) (ix2 r ⟨g.val * 128 + q.val, by omega⟩)
    = Cert.SguPoolRefIdeal.Pure.GV (aX m c) (aG m c) (aW m c) (ix3 ⟨t.val * 512 + r.val, row_lt t r⟩ g q) := by
  refine (pay8_at _ _ _ r _).trans ?_
  rw [Cert.SguPoolRefIdeal.Pure.GV_at]
  refine congrArg gelu ((prod_at m c t r _).trans (congrArg _ ?_))
  exact congrArg (ix2 _) (Fin.ext (by simp only; omega))

/-- and the pooling columns. -/
theorem p_at (c : Dev nD) (t : Fin cfg0.N) (r : Fin 512) (g : Fin 4) (q : Fin 128) : k0_pay9 (k0_pay4 (iblk m c 0 t) (iblk m c 1 t) (iblk m c 2 t)) (ix2 r ⟨g.val * 128 + q.val, by omega⟩)
    = Cert.SguPoolRefIdeal.Pure.P (aX m c) (aG m c) (aW m c) (ix3 ⟨t.val * 512 + r.val, row_lt t r⟩ g q) := by
  refine (pay9_at _ r _).trans ?_
  rw [Cert.SguPoolRefIdeal.Pure.P_at]
  refine (prod_at m c t r _).trans (congrArg _ ?_)
  exact congrArg (ix2 _) (Fin.ext (by simp only; omega))

/-- A group of the second columns, normalised. -/
theorem n_of (c : Dev nD) (t : Fin cfg0.N) (r : Fin 512) (g : Fin 4) (q : Fin 128) (v w : Fin 128 → EReal)
    (hv : ∀ l, v l = (k0_pay8 (k0_pay6 (iblk m c 0 t) (iblk m c 1 t) (iblk m c 2 t)) (k0_pay7 (iblk m c 0 t) (iblk m c 1 t) (iblk m c 2 t)) one) (ix2 r ⟨g.val * 128 + l.val, by omega⟩)) (hw : ∀ l, w l = aN m c (ix1 ⟨g.val * 128 + l.val, by omega⟩)) :
    norm v w q = Cert.SguPoolRefIdeal.Pure.VN (aX m c) (aG m c) (aW m c) (aN m c) (ix3 ⟨t.val * 512 + r.val, row_lt t r⟩ g q) := by
  rw [Cert.SguPoolRefIdeal.Pure.VN_at]
  exact congrArg₂ (fun a b => norm a b q) (funext fun l => (hv l).trans (v_at m c t r g l)) (funext hw)

/-- Group 0's second columns, normalised, -/
theorem n0 (c : Dev nD) (t : Fin cfg0.N) (r : Fin 512) (q : Fin 128) : (k0_pay16 (k0_pay6 (iblk m c 0 t) (iblk m c 1 t) (iblk m c 2 t)) (k0_pay7 (iblk m c 0 t) (iblk m c 1 t) (iblk m c 2 t)) one (View.ld (Val := Elt Ideal) (e' := .f32) (iblk m c 3 t) (Rect.unit ![0, 0] ![1, 128] inb_S1x512_S1x128_0_0)) : FVec Ideal S512x128 .bf16) (ix2 r q)
    = Cert.SguPoolRefIdeal.Pure.VN (aX m c) (aG m c) (aW m c) (aN m c) (ix3 ⟨t.val * 512 + r.val, row_lt t r⟩ 0 q) :=
  (norm0_at _ _ _ r q).trans (n_of m c t r 0 q _ _ (fun _ => rfl) fun l => (ld_row _ 0 (by decide) _ l).trans (blk3 m c t _))

/-- its gating weights, -/
theorem m0 (c : Dev nD) (t : Fin cfg0.N) (r s : Fin 128) : (k0_pay19 k0_pay15 (k0_pay17 (View.ld (Val := Elt Ideal) (e' := .f32) (iblk m c 4 t) (Rect.unit ![0, 0, 0] ![1, 128, 128] inb_S4x128x128_S1x128x128_0_0_0))) k0_pay18 : FVec Ideal S128x128 .bf16) (ix2 r s)
    = if s.val ≤ r.val then aM m c (ix3 0 r s) else (0 : EReal) := by
  refine (tri0_at _ r s).trans ?_
  split
  · exact (ld_grpM _ 0 (by decide) _ r s).trans (blk4 m c t 0 r s)
  · rfl

/-- its positions' weights, -/
theorem b0 (c : Dev nD) (t : Fin cfg0.N) (r q : Fin 128) : (View.ld (Val := Elt Ideal) (e' := .f32) (iblk m c 5 t) (Rect.unit ![0, 0] ![128, 128] inb_S128x512_S128x128_0_0)) (ix2 r q) = aB m c (ix2 0 r) :=
  (ld_cols _ 0 (by decide) _ r q).trans (blk5 m c t r 0 q)

/-- its window, -/
theorem w0 (c : Dev nD) (t : Fin cfg0.N) (r : Fin 128) (j : Fin 256) : (k0_pay20 (View.ld (Val := Elt Ideal) (e' := .bf16) (iblk m c 6 t) (Rect.unit ![0, 0, 0] ![1, 128, 256] inb_S4x128x256_S1x128x256_0_0_0)) : FVec Ideal S128x256 .bf16) (ix2 r j)
    = if j.val ≤ r.val + 128 ∧ r.val + 128 < j.val + win 0 then (1 : EReal) else (0 : EReal) :=
  (band0_at _ r j).trans ((ld_grpW _ 0 (by decide) _ r j).trans (blk6 m c t 0 r j))

/-- its mixing weights -/
theorem q0 (c : Dev nD) (t : Fin cfg0.N) (k q : Fin 128) : (k0_pay21 (View.ld (Val := Elt Ideal) (e' := .bf16) (iblk m c 7 t) (Rect.unit ![0, 0, 0] ![1, 128, 128] inb_S4x128x128_S1x128x128_0_0_0)) : FVec Ideal S128x128 .bf16) (ix2 k q) = aQ m c (ix3 0 k q) :=
  (mix0_at _ k q).trans ((ld_grpQ _ 0 (by decide) _ k q).trans (blk7 m c t 0 k q))

/-- and its scale. -/
theorem d0 (c : Dev nD) (t : Fin cfg0.N) (q : Fin 128) : (View.ld (Val := Elt Ideal) (e' := .f32) (iblk m c 8 t) (Rect.unit ![0, 0] ![1, 128] inb_S1x512_S1x128_0_0)) (ix2 0 q) = aD m c (ix1 ⟨0 * 128 + q.val, by omega⟩) :=
  (ld_row _ 0 (by decide) _ q).trans (blk8 m c t _)

/-- Group 1's second columns, normalised, -/
theorem n1 (c : Dev nD) (t : Fin cfg0.N) (r : Fin 512) (q : Fin 128) : (k0_pay32 (k0_pay31 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 3 t) (Rect.unit ![0, 128] ![1, 128] inb_S1x512_S1x128_0_128)) : FVec Ideal S512x128 .bf16) (ix2 r q)
    = Cert.SguPoolRefIdeal.Pure.VN (aX m c) (aG m c) (aW m c) (aN m c) (ix3 ⟨t.val * 512 + r.val, row_lt t r⟩ 1 q) :=
  (norm1_at _ _ r q).trans (n_of m c t r 1 q _ _ (fun _ => rfl) fun l => (ld_row _ 128 (by decide) _ l).trans (blk3 m c t _))

/-- its gating weights, -/
theorem m1 (c : Dev nD) (t : Fin cfg0.N) (r s : Fin 128) : (k0_pay33 k0_pay15 (View.ld (Val := Elt Ideal) (e' := .f32) (iblk m c 4 t) (Rect.unit ![1, 0, 0] ![1, 128, 128] inb_S4x128x128_S1x128x128_1_0_0)) : FVec Ideal S128x128 .bf16) (ix2 r s)
    = if s.val ≤ r.val then aM m c (ix3 1 r s) else (0 : EReal) := by
  refine (tri1_at _ r s).trans ?_
  split
  · exact (ld_grpM _ 1 (by decide) _ r s).trans (blk4 m c t 1 r s)
  · rfl

/-- its positions' weights, -/
theorem b1 (c : Dev nD) (t : Fin cfg0.N) (r q : Fin 128) : (View.ld (Val := Elt Ideal) (e' := .f32) (iblk m c 5 t) (Rect.unit ![0, 128] ![128, 128] inb_S128x512_S128x128_0_128)) (ix2 r q) = aB m c (ix2 1 r) :=
  (ld_cols _ 128 (by decide) _ r q).trans (blk5 m c t r 1 q)

/-- its window, -/
theorem w1 (c : Dev nD) (t : Fin cfg0.N) (r : Fin 128) (j : Fin 256) : (k0_pay34 (View.ld (Val := Elt Ideal) (e' := .bf16) (iblk m c 6 t) (Rect.unit ![1, 0, 0] ![1, 128, 256] inb_S4x128x256_S1x128x256_1_0_0)) : FVec Ideal S128x256 .bf16) (ix2 r j)
    = if j.val ≤ r.val + 128 ∧ r.val + 128 < j.val + win 1 then (1 : EReal) else (0 : EReal) :=
  (band1_at _ r j).trans ((ld_grpW _ 1 (by decide) _ r j).trans (blk6 m c t 1 r j))

/-- its mixing weights -/
theorem q1 (c : Dev nD) (t : Fin cfg0.N) (k q : Fin 128) : (k0_pay35 (View.ld (Val := Elt Ideal) (e' := .bf16) (iblk m c 7 t) (Rect.unit ![1, 0, 0] ![1, 128, 128] inb_S4x128x128_S1x128x128_1_0_0)) : FVec Ideal S128x128 .bf16) (ix2 k q) = aQ m c (ix3 1 k q) :=
  (mix1_at _ k q).trans ((ld_grpQ _ 1 (by decide) _ k q).trans (blk7 m c t 1 k q))

/-- and its scale. -/
theorem d1 (c : Dev nD) (t : Fin cfg0.N) (q : Fin 128) : (View.ld (Val := Elt Ideal) (e' := .f32) (iblk m c 8 t) (Rect.unit ![0, 128] ![1, 128] inb_S1x512_S1x128_0_128)) (ix2 0 q) = aD m c (ix1 ⟨1 * 128 + q.val, by omega⟩) :=
  (ld_row _ 128 (by decide) _ q).trans (blk8 m c t _)

/-- Group 2's second columns, normalised, -/
theorem n2 (c : Dev nD) (t : Fin cfg0.N) (r : Fin 512) (q : Fin 128) : (k0_pay50 (k0_pay8 (k0_pay6 (iblk m c 0 t) (iblk m c 1 t) (iblk m c 2 t)) (k0_pay7 (iblk m c 0 t) (iblk m c 1 t) (iblk m c 2 t)) one) (View.ld (Val := Elt Ideal) (e' := .f32) (iblk m c 3 t) (Rect.unit ![0, 256] ![1, 128] inb_S1x512_S1x128_0_256)) : FVec Ideal S512x128 .bf16) (ix2 r q)
    = Cert.SguPoolRefIdeal.Pure.VN (aX m c) (aG m c) (aW m c) (aN m c) (ix3 ⟨t.val * 512 + r.val, row_lt t r⟩ 2 q) :=
  (norm2_at _ _ r q).trans (n_of m c t r 2 q _ _ (fun _ => rfl) fun l => (ld_row _ 256 (by decide) _ l).trans (blk3 m c t _))

/-- its gating weights, -/
theorem m2 (c : Dev nD) (t : Fin cfg0.N) (r s : Fin 128) : (k0_pay51 k0_pay15 (View.ld (Val := Elt Ideal) (e' := .f32) (iblk m c 4 t) (Rect.unit ![2, 0, 0] ![1, 128, 128] inb_S4x128x128_S1x128x128_2_0_0)) : FVec Ideal S128x128 .bf16) (ix2 r s)
    = if s.val ≤ r.val then aM m c (ix3 2 r s) else (0 : EReal) := by
  refine (tri2_at _ r s).trans ?_
  split
  · exact (ld_grpM _ 2 (by decide) _ r s).trans (blk4 m c t 2 r s)
  · rfl

/-- its positions' weights, -/
theorem b2 (c : Dev nD) (t : Fin cfg0.N) (r q : Fin 128) : (View.ld (Val := Elt Ideal) (e' := .f32) (iblk m c 5 t) (Rect.unit ![0, 256] ![128, 128] inb_S128x512_S128x128_0_256)) (ix2 r q) = aB m c (ix2 2 r) :=
  (ld_cols _ 256 (by decide) _ r q).trans (blk5 m c t r 2 q)

/-- its window, -/
theorem w2 (c : Dev nD) (t : Fin cfg0.N) (r : Fin 128) (j : Fin 256) : (k0_pay52 (View.ld (Val := Elt Ideal) (e' := .bf16) (iblk m c 6 t) (Rect.unit ![2, 0, 0] ![1, 128, 256] inb_S4x128x256_S1x128x256_2_0_0)) : FVec Ideal S128x256 .bf16) (ix2 r j)
    = if j.val ≤ r.val + 128 ∧ r.val + 128 < j.val + win 2 then (1 : EReal) else (0 : EReal) :=
  (band2_at _ r j).trans ((ld_grpW _ 2 (by decide) _ r j).trans (blk6 m c t 2 r j))

/-- its mixing weights -/
theorem q2 (c : Dev nD) (t : Fin cfg0.N) (k q : Fin 128) : (k0_pay53 (View.ld (Val := Elt Ideal) (e' := .bf16) (iblk m c 7 t) (Rect.unit ![2, 0, 0] ![1, 128, 128] inb_S4x128x128_S1x128x128_2_0_0)) : FVec Ideal S128x128 .bf16) (ix2 k q) = aQ m c (ix3 2 k q) :=
  (mix2_at _ k q).trans ((ld_grpQ _ 2 (by decide) _ k q).trans (blk7 m c t 2 k q))

/-- and its scale. -/
theorem d2 (c : Dev nD) (t : Fin cfg0.N) (q : Fin 128) : (View.ld (Val := Elt Ideal) (e' := .f32) (iblk m c 8 t) (Rect.unit ![0, 256] ![1, 128] inb_S1x512_S1x128_0_256)) (ix2 0 q) = aD m c (ix1 ⟨2 * 128 + q.val, by omega⟩) :=
  (ld_row _ 256 (by decide) _ q).trans (blk8 m c t _)

/-- Group 3's second columns, normalised, -/
theorem n3 (c : Dev nD) (t : Fin cfg0.N) (r : Fin 512) (q : Fin 128) : (k0_pay67 (k0_pay64 (k0_pay8 (k0_pay6 (iblk m c 0 t) (iblk m c 1 t) (iblk m c 2 t)) (k0_pay7 (iblk m c 0 t) (iblk m c 1 t) (iblk m c 2 t)) one)) (k0_pay65 (View.ld (Val := Elt Ideal) (e' := .f32) (iblk m c 3 t) (Rect.unit ![0, 384] ![1, 128] inb_S1x512_S1x128_0_384))) (k0_pay66 (k0_pay8 (k0_pay6 (iblk m c 0 t) (iblk m c 1 t) (iblk m c 2 t)) (k0_pay7 (iblk m c 0 t) (iblk m c 1 t) (iblk m c 2 t)) one)) : FVec Ideal S512x128 .bf16) (ix2 r q)
    = Cert.SguPoolRefIdeal.Pure.VN (aX m c) (aG m c) (aW m c) (aN m c) (ix3 ⟨t.val * 512 + r.val, row_lt t r⟩ 3 q) :=
  (norm3_at _ _ r q).trans (n_of m c t r 3 q _ _ (fun _ => rfl) fun l => (ld_row _ 384 (by decide) _ l).trans (blk3 m c t _))

/-- its gating weights, -/
theorem m3 (c : Dev nD) (t : Fin cfg0.N) (r s : Fin 128) : (k0_pay68 k0_pay15 (View.ld (Val := Elt Ideal) (e' := .f32) (iblk m c 4 t) (Rect.unit ![3, 0, 0] ![1, 128, 128] inb_S4x128x128_S1x128x128_3_0_0)) : FVec Ideal S128x128 .bf16) (ix2 r s)
    = if s.val ≤ r.val then aM m c (ix3 3 r s) else (0 : EReal) := by
  refine (tri3_at _ r s).trans ?_
  split
  · exact (ld_grpM _ 3 (by decide) _ r s).trans (blk4 m c t 3 r s)
  · rfl

/-- its positions' weights, -/
theorem b3 (c : Dev nD) (t : Fin cfg0.N) (r q : Fin 128) : (View.ld (Val := Elt Ideal) (e' := .f32) (iblk m c 5 t) (Rect.unit ![0, 384] ![128, 128] inb_S128x512_S128x128_0_384)) (ix2 r q) = aB m c (ix2 3 r) :=
  (ld_cols _ 384 (by decide) _ r q).trans (blk5 m c t r 3 q)

/-- its window, -/
theorem w3 (c : Dev nD) (t : Fin cfg0.N) (r : Fin 128) (j : Fin 256) : (k0_pay69 (View.ld (Val := Elt Ideal) (e' := .bf16) (iblk m c 6 t) (Rect.unit ![3, 0, 0] ![1, 128, 256] inb_S4x128x256_S1x128x256_3_0_0)) : FVec Ideal S128x256 .bf16) (ix2 r j)
    = if j.val ≤ r.val + 128 ∧ r.val + 128 < j.val + win 3 then (1 : EReal) else (0 : EReal) :=
  (band3_at _ r j).trans ((ld_grpW _ 3 (by decide) _ r j).trans (blk6 m c t 3 r j))

/-- its mixing weights -/
theorem q3 (c : Dev nD) (t : Fin cfg0.N) (k q : Fin 128) : (k0_pay70 (View.ld (Val := Elt Ideal) (e' := .bf16) (iblk m c 7 t) (Rect.unit ![3, 0, 0] ![1, 128, 128] inb_S4x128x128_S1x128x128_3_0_0)) : FVec Ideal S128x128 .bf16) (ix2 k q) = aQ m c (ix3 3 k q) :=
  (mix3_at _ k q).trans ((ld_grpQ _ 3 (by decide) _ k q).trans (blk7 m c t 3 k q))

/-- and its scale. -/
theorem d3 (c : Dev nD) (t : Fin cfg0.N) (q : Fin 128) : (View.ld (Val := Elt Ideal) (e' := .f32) (iblk m c 8 t) (Rect.unit ![0, 384] ![1, 128] inb_S1x512_S1x128_0_384)) (ix2 0 q) = aD m c (ix1 ⟨3 * 128 + q.val, by omega⟩) :=
  (ld_row _ 384 (by decide) _ q).trans (blk8 m c t _)

/-- The count a row divides by is the reference's. -/
theorem kcnt_eq (w T b r : ℕ) : kcnt (BitVec.ofNat 32 w) (BitVec.ofNat 32 T) (BitVec.ofNat 32 b) r = cnt w (T * 512 + (b + r)) := by
  have e : Scalar.addi (Scalar.muli (BitVec.ofNat 32 T) 512#32) (BitVec.ofNat 32 b) = BitVec.ofNat 32 (T * 512 + b) := by
    show BitVec.ofNat 32 T * BitVec.ofNat 32 512 + BitVec.ofNat 32 b = _
    rw [BitVec.ofNat_add, BitVec.ofNat_mul]
  unfold kcnt cnt
  rw [e, WordCmp.addi_ofNat, Nat.add_assoc]
  rfl

end Cert.SguPoolIdeal.Value

end
-- ==== Proof.SguPool.Scratch.lean ====
/- What the scratches hold. -/
module

public import proofs.«01_k».proof.Proof.SguPool.Leaf
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguFinite Cert.SguPoolIdeal Cert.SguPoolIdeal.Gen Cert.SguPoolIdeal.Pure Cert.FfnMath Cert.SguMath

variable (m : (ℓ : Loc nD τ sig) → Buf (Elt Ideal) ℓ)

/-- The extended reals' entries of the scratch. -/
abbrev V16 := Elt Ideal

/-- A cell of the last 512 rows, -/
theorem canon_hi (inb) (w : Vec Ideal S512x512 .bf16) (L : List (View.Piece V16 S640x512 .bf16)) (n : Fin 640) (l x : Fin 512) (h : n.val = 128 + x.val) :
    View.canon (Val := Elt Ideal) ((⟨Rect.unit (s := S640x512) ![128, 0] ![512, 512] inb, w⟩ : View.Piece V16 S640x512 .bf16) :: L) (ix2 n l) = w (ix2 x l) := by
  have e : (Rect.unit (s := S640x512) ![128, 0] ![512, 512] inb).emb (ix2 x l) = ix2 n l := funext fun a => Fin.ext (by
    fin_cases a
    · show 128 + 1 * x.val = n.val
      omega
    · show 0 + 1 * l.val = l.val
      omega)
  exact (congrArg _ e.symm).trans (View.canon_cons_emb (Val := Elt Ideal) _ _ _ _)

/-- a cell before them, -/
theorem canon_lo (inb) (w : Vec Ideal S512x512 .bf16) (L : List (View.Piece V16 S640x512 .bf16)) (n : Fin 640) (l : Fin 512) (h : n.val < 128) :
    View.canon (Val := Elt Ideal) ((⟨Rect.unit (s := S640x512) ![128, 0] ![512, 512] inb, w⟩ : View.Piece V16 S640x512 .bf16) :: L) (ix2 n l) = View.canon L (ix2 n l) := by
  refine View.canon_cons_of_not_mem (Val := Elt Ideal) _ _ fun hm => ?_
  have := ((Rect.mem_set_unit (inb := inb)).mp hm 0).1
  have h' : 128 ≤ n.val := this
  omega

/-- and a cell of the first 128 rows. -/
theorem canon_top (inb) (w : Vec Ideal S128x512 .bf16) (L : List (View.Piece V16 S640x512 .bf16)) (n : Fin 640) (l : Fin 512) (x : Fin 128) (h : n.val = x.val) :
    View.canon (Val := Elt Ideal) ((⟨Rect.unit (s := S640x512) ![0, 0] ![128, 512] inb, w⟩ : View.Piece V16 S640x512 .bf16) :: L) (ix2 n l) = w (ix2 x l) := by
  have e : (Rect.unit (s := S640x512) ![0, 0] ![128, 512] inb).emb (ix2 x l) = ix2 n l := funext fun a => Fin.ext (by
    fin_cases a
    · show 0 + 1 * x.val = n.val
      omega
    · show 0 + 1 * l.val = l.val
      omega)
  exact (congrArg _ e.symm).trans (View.canon_cons_emb (Val := Elt Ideal) _ _ _ _)

/-- A load of what was just stored. -/
theorem cov_at {κ : Kind} {sp : Space} (v : View sig κ sp S640x512 .bf16) (L : List (View.Piece V16 S640x512 .bf16)) (off size : Fin 2 → ℕ) (inb)
    (x : (Rect.unit (s := S640x512) off size inb).shape.Idx) (i : S640x512.Idx) (hi : ∀ a, (i a : ℕ) = off a + x a) :
    v.readCov L (Rect.unit (s := S640x512) off size inb).toLoadRect x = View.canon (Val := Elt Ideal) L i :=
  (congrFun (View.readCov_eq_canon' (Val := Elt Ideal) v L _) x).trans
    (congrArg (View.canon (Val := Elt Ideal) L) (funext fun a => Fin.ext ((Rect.idx_unit_val off size inb x a).trans (hi a).symm)))

/-- A tile's load has one value when the last 512 rows and the first 128 have it. -/
theorem cov_tile {κ : Kind} {sp : Space} (v : View sig κ sp S640x512 .bf16) (inb) (w : Vec Ideal S512x512 .bf16) (L : List (View.Piece V16 S640x512 .bf16))
    (a b : ℕ) (ha : a ≤ 384) (hb : b ≤ 384) (inb') (j : Fin 256) (k : Fin 128) (z : EReal)
    (h1 : ∀ x : Fin 512, a + j.val = 128 + x.val → w (ix2 x ⟨b + k.val, by omega⟩) = z)
    (h0 : a + j.val < 128 → View.canon (Val := Elt Ideal) L (ix2 ⟨a + j.val, by omega⟩ ⟨b + k.val, by omega⟩) = z) :
    (v.readCov ((⟨Rect.unit (s := S640x512) ![128, 0] ![512, 512] inb, w⟩ : View.Piece V16 S640x512 .bf16) :: L)
      (Rect.unit (s := S640x512) ![a, b] ![256, 128] inb').toLoadRect : Vec Ideal S256x128 .bf16) (ix2 j k) = z := by
  refine (cov_at v _ _ _ _ _ (ix2 ⟨a + j.val, by omega⟩ ⟨b + k.val, by omega⟩) fun i => ?_).trans ?_
  · fin_cases i <;> rfl
  · by_cases h : a + j.val < 128
    · exact (canon_lo _ _ _ _ _ h).trans (h0 h)
    · exact (canon_hi _ _ _ _ _ ⟨a + j.val - 128, by omega⟩ (by simp only; omega)).trans (h1 _ (by simp only; omega))

/-- The same of a load over what the scratch already held. -/
theorem ld_tile {κ : Kind} {sp : Space} (v : View sig κ sp S640x512 .bf16) (f) (inb) (w : Vec Ideal S512x512 .bf16)
    (a b : ℕ) (ha : a ≤ 384) (hb : b ≤ 384) (inb') (j : Fin 256) (k : Fin 128) (z : EReal)
    (h1 : ∀ x : Fin 512, a + j.val = 128 + x.val → w (ix2 x ⟨b + k.val, by omega⟩) = z)
    (h0 : a + j.val < 128 → v.read (Elt Ideal) f (ix2 ⟨a + j.val, by omega⟩ ⟨b + k.val, by omega⟩) = z) :
    (View.ld (Val := Elt Ideal) (e' := .bf16) (View.read (Elt Ideal) v (v.writes (Elt Ideal) f [(⟨Rect.unit (s := S640x512) ![128, 0] ![512, 512] inb, w⟩ : View.Piece V16 S640x512 .bf16)]))
      (Rect.unit (s := S640x512) ![a, b] ![256, 128] inb') : Vec Ideal S256x128 .bf16) (ix2 j k) = z := by
  refine (View.ld_unit_apply_of (Val := Elt Ideal) (e := .bf16) _ _ _ _ _ (ix2 ⟨a + j.val, by omega⟩ ⟨b + k.val, by omega⟩) fun i => ?_).trans ?_
  · fin_cases i <;> rfl
  · by_cases h : a + j.val < 128
    · exact (View.read_writes_cons_unit_of_not_mem (Val := Elt Ideal) v f _ _ _ _ rfl 0 (Or.inl h)).trans (h0 h)
    · refine (View.read_writes_cons_unit_of_mem (Val := Elt Ideal) v f _ _ _ _ (ix2 ⟨a + j.val - 128, by omega⟩ ⟨b + k.val, by omega⟩) rfl fun i => ?_).trans (h1 _ (by simp only; omega))
      fin_cases i
      · show a + j.val = 128 + (a + j.val - 128)
        omega
      · exact (Nat.zero_add _).symm

/-- What is stored of the pooling columns, -/
theorem hi_at (c : Dev nD) (t : Fin cfg0.N) (x : Fin 512) (g : Fin 4) (k : Fin 128) :
    k0_pay13 (k0_pay4 (iblk m c 0 t) (iblk m c 1 t) (iblk m c 2 t)) (ix2 x ⟨g.val * 128 + k.val, by omega⟩) = col (aX m c) (aG m c) (aW m c) g k (t.val * 512 + x.val) :=
  (pay13_at _ x _).trans ((p_at m c t x g k).trans (col_at _ _ _ _ _ _))

/-- and of what is left of them. -/
theorem lo_at (c : Dev nD) (hX : Finite (aX m c) (aG m c) (aW m c) (aN m c) (aM m c) (aB m c) (aQ m c) (aD m c)) (t : Fin cfg0.N) (x : Fin 512) (g : Fin 4) (k : Fin 128) :
    k0_pay14 (k0_pay4 (iblk m c 0 t) (iblk m c 1 t) (iblk m c 2 t)) (ix2 x ⟨g.val * 128 + k.val, by omega⟩) = (0 : EReal) := by
  refine (pay14_at _ x _).trans ?_
  rw [p_at m c t x g k, col_at]
  exact (col_real _ _ _ _ _ _ _ _ hX g k _).sub_self

theorem late_ge (p : ℕ → EReal) (n k : ℕ) (h : n = k + 128) : late p n = p k := by
  subst h
  unfold late
  rw [if_neg (by omega), Nat.add_sub_cancel]

/-- The first rows of the scratch after a point. -/
theorem hi_after (c : Dev nD) (t : Fin cfg0.N) (g : Fin 4) (k s : Fin 128) :
    (outsAt0 m c t.val t.isLt).2.1 (ix2 ⟨s.val, by omega⟩ ⟨g.val * 128 + k.val, by omega⟩) = late (col (aX m c) (aG m c) (aW m c) g k) ((t.val + 1) * 512 + s.val) := by
  by_cases h : t.val % 32 = 0
  · rw [outsAt0_A m c t h]; frame_out
    refine (canon_top _ _ _ _ _ s rfl).trans (((pay2_at _ s _).trans (cov_at _ _ _ _ _ _ (ix2 ⟨512 + s.val, by omega⟩ ⟨g.val * 128 + k.val, by omega⟩) fun i => ?_)).trans ?_)
    · fin_cases i
      · rfl
      · exact (Nat.zero_add _).symm
    · exact (canon_hi _ _ _ _ _ ⟨384 + s.val, by omega⟩ (by simp only; omega)).trans ((hi_at m c t _ g k).trans (late_ge _ _ _ (by simp only; omega)).symm)
  · rw [outsAt0_B m c t h]; frame_out
    refine (canon_top _ _ _ _ _ s rfl).trans (((pay2_at _ s _).trans (cov_at _ _ _ _ _ _ (ix2 ⟨512 + s.val, by omega⟩ ⟨g.val * 128 + k.val, by omega⟩) fun i => ?_)).trans ?_)
    · fin_cases i
      · rfl
      · exact (Nat.zero_add _).symm
    · exact (canon_hi _ _ _ _ _ ⟨384 + s.val, by omega⟩ (by simp only; omega)).trans ((hi_at m c t _ g k).trans (late_ge _ _ _ (by simp only; omega)).symm)

/-- The first rows of the scratch after a point. -/
theorem lo_after (c : Dev nD) (hX : Finite (aX m c) (aG m c) (aW m c) (aN m c) (aM m c) (aB m c) (aQ m c) (aD m c)) (t : Fin cfg0.N) (g : Fin 4) (k s : Fin 128) :
    (outsAt0 m c t.val t.isLt).2.2 (ix2 ⟨s.val, by omega⟩ ⟨g.val * 128 + k.val, by omega⟩) = (0 : EReal) := by
  by_cases h : t.val % 32 = 0
  · rw [outsAt0_A m c t h]; frame_out
    refine (canon_top _ _ _ _ _ s rfl).trans (((pay3_at _ s _).trans (cov_at _ _ _ _ _ _ (ix2 ⟨512 + s.val, by omega⟩ ⟨g.val * 128 + k.val, by omega⟩) fun i => ?_)).trans ?_)
    · fin_cases i
      · rfl
      · exact (Nat.zero_add _).symm
    · exact (canon_hi _ _ _ _ _ ⟨384 + s.val, by omega⟩ (by simp only; omega)).trans (lo_at m c hX t _ g k)
  · rw [outsAt0_B m c t h]; frame_out
    refine (canon_top _ _ _ _ _ s rfl).trans (((pay3_at _ s _).trans (cov_at _ _ _ _ _ _ (ix2 ⟨512 + s.val, by omega⟩ ⟨g.val * 128 + k.val, by omega⟩) fun i => ?_)).trans ?_)
    · fin_cases i
      · rfl
      · exact (Nat.zero_add _).symm
    · exact (canon_hi _ _ _ _ _ ⟨384 + s.val, by omega⟩ (by simp only; omega)).trans (lo_at m c hX t _ g k)

end Cert.SguPoolIdeal.Value

end
-- ==== Proof.SguPool.Tiles.lean ====
/- The kernel's tiles are the reference's. -/
module

public import proofs.«01_k».proof.Proof.SguPool.Scratch

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguFinite Cert.SguPoolIdeal Cert.SguPoolIdeal.Gen Cert.SguPoolIdeal.Pure Cert.FfnMath Cert.SguMath

variable (m : (ℓ : Loc nD τ sig) → Buf (Elt Ideal) ℓ)

/-- A grid point as a block of 512 rows. -/
def pt (t : Fin cfg0.N) : Fin 32 := ⟨t.val, lt_of_lt_of_eq t.isLt N_0⟩

/-- An entry's place in the whole array. -/
def plc (t : Fin cfg0.N) (y : S512x1024.Idx) : S16384x1024.Idx := ix2 ⟨t.val * 512 + (y 0).val, row_lt t (y 0)⟩ (y 1)

theorem plc_eq (t : Fin cfg0.N) (y : S512x1024.Idx) (k : Fin 4) (r : Fin 128) (l : Fin 1024) (h0 : (y 0).val = k.val * 128 + r.val) (h1 : (y 1).val = l.val) :
    plc t y = ix2 (Cert.SguPoolRefIdeal.Pure.tr (pt t) k r) l :=
  congrArg₂ ix2 (Fin.ext (congrArg (t.val * 512 + ·) h0)) (Fin.ext h1)

/-- What the last rows stored give a tile, -/
theorem hi_cov {κ : Kind} {sp : Space} (v : View sig κ sp S640x512 .bf16) (inb) (L : List (View.Piece V16 S640x512 .bf16)) (c : Dev nD) (t : Fin cfg0.N)
    (a b : ℕ) (ha : a ≤ 384) (g : Fin 4) (hb : b = g.val * 128) (inb') (j : Fin 256) (k : Fin 128)
    (h0 : a + j.val < 128 → View.canon (Val := Elt Ideal) L (ix2 ⟨a + j.val, by omega⟩ ⟨b + k.val, by omega⟩) = late (col (aX m c) (aG m c) (aW m c) g k) (t.val * 512 + (a + j.val))) :
    (v.readCov ((⟨Rect.unit (s := S640x512) ![128, 0] ![512, 512] inb, k0_pay13 (k0_pay4 (iblk m c 0 t) (iblk m c 1 t) (iblk m c 2 t))⟩ : View.Piece V16 S640x512 .bf16) :: L)
      (Rect.unit (s := S640x512) ![a, b] ![256, 128] inb').toLoadRect : Vec Ideal S256x128 .bf16) (ix2 j k) = late (col (aX m c) (aG m c) (aW m c) g k) (t.val * 512 + (a + j.val)) := by
  subst hb
  exact cov_tile v inb _ L a _ ha (by omega) inb' j k _ (fun x hx => (hi_at m c t x g k).trans (late_ge _ _ _ (by omega)).symm) h0

/-- and of what is left of them. -/
theorem lo_cov {κ : Kind} {sp : Space} (v : View sig κ sp S640x512 .bf16) (inb) (L : List (View.Piece V16 S640x512 .bf16)) (c : Dev nD) (hX : Finite (aX m c) (aG m c) (aW m c) (aN m c) (aM m c) (aB m c) (aQ m c) (aD m c)) (t : Fin cfg0.N)
    (a b : ℕ) (ha : a ≤ 384) (g : Fin 4) (hb : b = g.val * 128) (inb') (j : Fin 256) (k : Fin 128)
    (h0 : a + j.val < 128 → View.canon (Val := Elt Ideal) L (ix2 ⟨a + j.val, by omega⟩ ⟨b + k.val, by omega⟩) = (0 : EReal)) :
    (v.readCov ((⟨Rect.unit (s := S640x512) ![128, 0] ![512, 512] inb, k0_pay14 (k0_pay4 (iblk m c 0 t) (iblk m c 1 t) (iblk m c 2 t))⟩ : View.Piece V16 S640x512 .bf16) :: L)
      (Rect.unit (s := S640x512) ![a, b] ![256, 128] inb').toLoadRect : Vec Ideal S256x128 .bf16) (ix2 j k) = (0 : EReal) := by
  subst hb
  exact cov_tile v inb _ L a _ ha (by omega) inb' j k _ (fun x _ => lo_at m c hX t x g k) h0

/-- The same of a load over what the scratch held, -/
theorem hi_ld {κ : Kind} {sp : Space} (v : View sig κ sp S640x512 .bf16) (f) (inb) (c : Dev nD) (t : Fin cfg0.N)
    (a b : ℕ) (ha : a ≤ 384) (g : Fin 4) (hb : b = g.val * 128) (inb') (j : Fin 256) (k : Fin 128)
    (h0 : a + j.val < 128 → v.read (Elt Ideal) f (ix2 ⟨a + j.val, by omega⟩ ⟨b + k.val, by omega⟩) = late (col (aX m c) (aG m c) (aW m c) g k) (t.val * 512 + (a + j.val))) :
    (View.ld (Val := Elt Ideal) (e' := .bf16) (View.read (Elt Ideal) v (v.writes (Elt Ideal) f [(⟨Rect.unit (s := S640x512) ![128, 0] ![512, 512] inb, k0_pay13 (k0_pay4 (iblk m c 0 t) (iblk m c 1 t) (iblk m c 2 t))⟩ : View.Piece V16 S640x512 .bf16)]))
      (Rect.unit (s := S640x512) ![a, b] ![256, 128] inb') : Vec Ideal S256x128 .bf16) (ix2 j k) = late (col (aX m c) (aG m c) (aW m c) g k) (t.val * 512 + (a + j.val)) := by
  subst hb
  exact ld_tile v f inb _ a _ ha (by omega) inb' j k _ (fun x hx => (hi_at m c t x g k).trans (late_ge _ _ _ (by omega)).symm) h0

/-- both times. -/
theorem lo_ld {κ : Kind} {sp : Space} (v : View sig κ sp S640x512 .bf16) (f) (inb) (c : Dev nD) (hX : Finite (aX m c) (aG m c) (aW m c) (aN m c) (aM m c) (aB m c) (aQ m c) (aD m c)) (t : Fin cfg0.N)
    (a b : ℕ) (ha : a ≤ 384) (g : Fin 4) (hb : b = g.val * 128) (inb') (j : Fin 256) (k : Fin 128)
    (h0 : a + j.val < 128 → v.read (Elt Ideal) f (ix2 ⟨a + j.val, by omega⟩ ⟨b + k.val, by omega⟩) = (0 : EReal)) :
    (View.ld (Val := Elt Ideal) (e' := .bf16) (View.read (Elt Ideal) v (v.writes (Elt Ideal) f [(⟨Rect.unit (s := S640x512) ![128, 0] ![512, 512] inb, k0_pay14 (k0_pay4 (iblk m c 0 t) (iblk m c 1 t) (iblk m c 2 t))⟩ : View.Piece V16 S640x512 .bf16)]))
      (Rect.unit (s := S640x512) ![a, b] ![256, 128] inb') : Vec Ideal S256x128 .bf16) (ix2 j k) = (0 : EReal) := by
  subst hb
  exact ld_tile v f inb _ a _ ha (by omega) inb' j k _ (fun x _ => lo_at m c hX t x g k) h0

/-- At the first point the rows before are zero, -/
theorem hi_first (c : Dev nD) (t : Fin cfg0.N) (h : t.val % 32 = 0) (inb) (b : ℕ) (g : Fin 4) (hb : b = g.val * 128) (j : Fin 256) (k : Fin 128) (hj : 0 + j.val < 128) :
    View.canon (Val := Elt Ideal) [(⟨Rect.unit (s := S640x512) ![0, 0] ![128, 512] inb, k0_pay10 (F := Ideal)⟩ : View.Piece V16 S640x512 .bf16)] (ix2 ⟨0 + j.val, by omega⟩ ⟨b + k.val, by omega⟩)
      = late (col (aX m c) (aG m c) (aW m c) g k) (t.val * 512 + (0 + j.val)) := by
  have ht : t.val = 0 := by
    have : t.val < 32 := lt_of_lt_of_eq t.isLt N_0
    omega
  refine (canon_top _ _ _ _ _ ⟨j.val, by omega⟩ (Nat.zero_add _)).trans ((pay10_at _ _).trans ?_)
  unfold late
  rw [if_pos (by omega)]

/-- both times; -/
theorem lo_first (inb) (b : ℕ) (hb : b ≤ 384) (j : Fin 256) (k : Fin 128) (hj : 0 + j.val < 128) :
    View.canon (Val := Elt Ideal) [(⟨Rect.unit (s := S640x512) ![0, 0] ![128, 512] inb, k0_pay11 (F := Ideal)⟩ : View.Piece V16 S640x512 .bf16)] (ix2 ⟨0 + j.val, by omega⟩ ⟨b + k.val, by omega⟩)
      = (0 : EReal) :=
  (canon_top _ _ _ _ _ ⟨j.val, by omega⟩ (Nat.zero_add _)).trans (pay11_at _ _)

/-- at a later point they are what the point before left, -/
theorem hi_later (c : Dev nD) (t : Fin cfg0.N) (h : ¬ t.val % 32 = 0) (hl : t.val - 1 < cfg0.N) (b : ℕ) (g : Fin 4) (hb : b = g.val * 128) (j : Fin 256) (k : Fin 128) (hj : 0 + j.val < 128) :
    (outsAt0 m c (t.val - 1) hl).2.1 (ix2 ⟨0 + j.val, by omega⟩ ⟨b + k.val, by omega⟩)
      = late (col (aX m c) (aG m c) (aW m c) g k) (t.val * 512 + (0 + j.val)) := by
  subst hb
  refine Eq.trans (congrArg _ (congrArg₂ ix2 (Fin.ext (Nat.zero_add _)) rfl)) ((hi_after m c ⟨t.val - 1, hl⟩ g k ⟨j.val, by omega⟩).trans (congrArg _ ?_))
  simp only
  have : 0 < t.val := by omega
  omega

/-- both times. -/
theorem lo_later (c : Dev nD) (hX : Finite (aX m c) (aG m c) (aW m c) (aN m c) (aM m c) (aB m c) (aQ m c) (aD m c)) (t : Fin cfg0.N) (hl : t.val - 1 < cfg0.N) (b : ℕ) (g : Fin 4) (hb : b = g.val * 128) (j : Fin 256) (k : Fin 128) (hj : 0 + j.val < 128) :
    (outsAt0 m c (t.val - 1) hl).2.2 (ix2 ⟨0 + j.val, by omega⟩ ⟨b + k.val, by omega⟩) = (0 : EReal) := by
  subst hb
  exact Eq.trans (congrArg _ (congrArg₂ ix2 (Fin.ext (Nat.zero_add _)) rfl)) (lo_after m c hX ⟨t.val - 1, hl⟩ g k ⟨j.val, by omega⟩)

/-- The gating unit's tile 0 of group 0. -/
theorem gate00 (c : Dev nD) (t : Fin cfg0.N) (x : S128x128.Idx) (y : S512x1024.Idx) (h0 : (y 0).val = 0 + (x 0).val) (h1 : (y 1).val = 0 + (x 1).val) :
    k0_pay22 (k0_pay5 (iblk m c 0 t) (iblk m c 1 t) (iblk m c 2 t)) k0_pay15 (k0_pay16 (k0_pay6 (iblk m c 0 t) (iblk m c 1 t) (iblk m c 2 t)) (k0_pay7 (iblk m c 0 t) (iblk m c 1 t) (iblk m c 2 t)) one (View.ld (Val := Elt Ideal) (e' := .f32) (iblk m c 3 t) (Rect.unit ![0, 0] ![1, 128] inb_S1x512_S1x128_0_0))) (k0_pay17 (View.ld (Val := Elt Ideal) (e' := .f32) (iblk m c 4 t) (Rect.unit ![0, 0, 0] ![1, 128, 128] inb_S4x128x128_S1x128x128_0_0_0))) k0_pay18 (View.ld (Val := Elt Ideal) (e' := .f32) (iblk m c 5 t) (Rect.unit ![0, 0] ![128, 128] inb_S128x512_S128x128_0_0)) x = Cert.SguPoolRefIdeal.Pure.REF (aX m c) (aG m c) (aW m c) (aN m c) (aM m c) (aB m c) (aQ m c) (aD m c) (plc t y) := by
  rw [plc_eq t y 0 (x 0) ⟨0 * 128 + (x 1).val, by have := (x 1).isLt; change (x 1).val < 128 at this; omega⟩ h0 h1]
  refine (congrArg _ (eq_ix2 x)).trans ((gate00_at _ _ _ _ _ _ (x 0) (x 1)).trans ?_)
  exact Cert.SguPoolRefIdeal.Pure.gate_eq (aX m c) (aG m c) (aW m c) (aN m c) (aM m c) (aB m c) (aQ m c) (aD m c) (pt t) 0 0 (x 0) (x 1) _ _ _ _ (u_at m c t (at4 0 (by decide) (x 0)) (at4 0 (by decide) (x 1)))
    (fun s => m0 m c t (x 0) s) (fun s => n0 m c t (at4 0 (by decide) s) (x 1)) (b0 m c t (x 0) (x 1))

/-- The pooling mixer's tile 0 of group 0. -/
theorem pool00 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 0 k) (t.val * 512 + (0 + j.val))) (hl : ∀ j k, l (ix2 j k) = (0 : EReal))
    (x : S128x128.Idx) (y : S512x1024.Idx) (h0 : (y 0).val = 0 + (x 0).val) (h1 : (y 1).val = 512 + (x 1).val) :
    k0_pay24 (k0_pay23 (BitVec.ofNat 32 (grid0.coords t 0).val) (k0_pay9 (k0_pay4 (iblk m c 0 t) (iblk m c 1 t) (iblk m c 2 t))) io (View.ld (Val := Elt Ideal) (e' := .bf16) (iblk m c 6 t) (Rect.unit ![0, 0, 0] ![1, 128, 256] inb_S4x128x256_S1x128x256_0_0_0)) (View.ld (Val := Elt Ideal) (e' := .bf16) (iblk m c 7 t) (Rect.unit ![0, 0, 0] ![1, 128, 128] inb_S4x128x128_S1x128x128_0_0_0)) h l) (View.ld (Val := Elt Ideal) (e' := .f32) (iblk m c 8 t) (Rect.unit ![0, 0] ![1, 128] inb_S1x512_S1x128_0_0)) x = Cert.SguPoolRefIdeal.Pure.REF (aX m c) (aG m c) (aW m c) (aN m c) (aM m c) (aB m c) (aQ m c) (aD m c) (plc t y) := by
  rw [plc_eq t y 0 (x 0) ⟨512 + (0 * 128 + (x 1).val), by have := (x 1).isLt; change (x 1).val < 128 at this; omega⟩ h0 (by simp only; omega)]
  refine (congrArg _ (eq_ix2 x)).trans ((pool00_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 0 0 (x 0) (x 1)
    _ _ _ _ _ _ _ (fun j => w0 m c t (x 0) j) hh hl
    ((congrArg (fun z => kcnt 2#32 (BitVec.ofNat 32 z) 0#32 (x 0).val) (row t)).trans (kcnt_eq 2 t.val 0 (x 0).val))
    (fun k => p_at m c t (at4 0 (by decide) (x 0)) 0 k) (fun k => q0 m c t k (x 1)) (d0 m c t (x 1))

/-- The gating unit's tile 1 of group 0. -/
theorem gate01 (c : Dev nD) (t : Fin cfg0.N) (x : S128x128.Idx) (y : S512x1024.Idx) (h0 : (y 0).val = 128 + (x 0).val) (h1 : (y 1).val = 0 + (x 1).val) :
    k0_pay25 (k0_pay5 (iblk m c 0 t) (iblk m c 1 t) (iblk m c 2 t)) (k0_pay16 (k0_pay6 (iblk m c 0 t) (iblk m c 1 t) (iblk m c 2 t)) (k0_pay7 (iblk m c 0 t) (iblk m c 1 t) (iblk m c 2 t)) one (View.ld (Val := Elt Ideal) (e' := .f32) (iblk m c 3 t) (Rect.unit ![0, 0] ![1, 128] inb_S1x512_S1x128_0_0))) (k0_pay19 k0_pay15 (k0_pay17 (View.ld (Val := Elt Ideal) (e' := .f32) (iblk m c 4 t) (Rect.unit ![0, 0, 0] ![1, 128, 128] inb_S4x128x128_S1x128x128_0_0_0))) k0_pay18) (View.ld (Val := Elt Ideal) (e' := .f32) (iblk m c 5 t) (Rect.unit ![0, 0] ![128, 128] inb_S128x512_S128x128_0_0)) x = Cert.SguPoolRefIdeal.Pure.REF (aX m c) (aG m c) (aW m c) (aN m c) (aM m c) (aB m c) (aQ m c) (aD m c) (plc t y) := by
  rw [plc_eq t y 1 (x 0) ⟨0 * 128 + (x 1).val, by have := (x 1).isLt; change (x 1).val < 128 at this; omega⟩ h0 h1]
  refine (congrArg _ (eq_ix2 x)).trans ((gate01_at _ _ _ _ (x 0) (x 1)).trans ?_)
  exact Cert.SguPoolRefIdeal.Pure.gate_eq (aX m c) (aG m c) (aW m c) (aN m c) (aM m c) (aB m c) (aQ m c) (aD m c) (pt t) 1 0 (x 0) (x 1) _ _ _ _ (u_at m c t (at4 1 (by decide) (x 0)) (at4 0 (by decide) (x 1)))
    (fun s => m0 m c t (x 0) s) (fun s => n0 m c t (at4 1 (by decide) s) (x 1)) (b0 m c t (x 0) (x 1))

/-- The pooling mixer's tile 1 of group 0. -/
theorem pool01 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 0 k) (t.val * 512 + (128 + j.val))) (hl : ∀ j k, l (ix2 j k) = (0 : EReal))
    (x : S128x128.Idx) (y : S512x1024.Idx) (h0 : (y 0).val = 128 + (x 0).val) (h1 : (y 1).val = 512 + (x 1).val) :
    k0_pay26 (BitVec.ofNat 32 (grid0.coords t 0).val) (k0_pay9 (k0_pay4 (iblk m c 0 t) (iblk m c 1 t) (iblk m c 2 t))) io (k0_pay20 (View.ld (Val := Elt Ideal) (e' := .bf16) (iblk m c 6 t) (Rect.unit ![0, 0, 0] ![1, 128, 256] inb_S4x128x256_S1x128x256_0_0_0))) (k0_pay21 (View.ld (Val := Elt Ideal) (e' := .bf16) (iblk m c 7 t) (Rect.unit ![0, 0, 0] ![1, 128, 128] inb_S4x128x128_S1x128x128_0_0_0))) h l (View.ld (Val := Elt Ideal) (e' := .f32) (iblk m c 8 t) (Rect.unit ![0, 0] ![1, 128] inb_S1x512_S1x128_0_0)) x = Cert.SguPoolRefIdeal.Pure.REF (aX m c) (aG m c) (aW m c) (aN m c) (aM m c) (aB m c) (aQ m c) (aD m c) (plc t y) := by
  rw [plc_eq t y 1 (x 0) ⟨512 + (0 * 128 + (x 1).val), by have := (x 1).isLt; change (x 1).val < 128 at this; omega⟩ h0 (by simp only; omega)]
  refine (congrArg _ (eq_ix2 x)).trans ((pool01_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 1 0 (x 0) (x 1)
    _ _ _ _ _ _ _ (fun j => w0 m c t (x 0) j) hh hl
    ((congrArg (fun z => kcnt 2#32 (BitVec.ofNat 32 z) 128#32 (x 0).val) (row t)).trans (kcnt_eq 2 t.val 128 (x 0).val))
    (fun k => p_at m c t (at4 1 (by decide) (x 0)) 0 k) (fun k => q0 m c t k (x 1)) (d0 m c t (x 1))

/-- The gating unit's tile 2 of group 0. -/
theorem gate02 (c : Dev nD) (t : Fin cfg0.N) (x : S128x128.Idx) (y : S512x1024.Idx) (h0 : (y 0).val = 256 + (x 0).val) (h1 : (y 1).val = 0 + (x 1).val) :
    k0_pay27 (k0_pay5 (iblk m c 0 t) (iblk m c 1 t) (iblk m c 2 t)) (k0_pay16 (k0_pay6 (iblk m c 0 t) (iblk m c 1 t) (iblk m c 2 t)) (k0_pay7 (iblk m c 0 t) (iblk m c 1 t) (iblk m c 2 t)) one (View.ld (Val := Elt Ideal) (e' := .f32) (iblk m c 3 t) (Rect.unit ![0, 0] ![1, 128] inb_S1x512_S1x128_0_0))) (k0_pay19 k0_pay15 (k0_pay17 (View.ld (Val := Elt Ideal) (e' := .f32) (iblk m c 4 t) (Rect.unit ![0, 0, 0] ![1, 128, 128] inb_S4x128x128_S1x128x128_0_0_0))) k0_pay18) (View.ld (Val := Elt Ideal) (e' := .f32) (iblk m c 5 t) (Rect.unit ![0, 0] ![128, 128] inb_S128x512_S128x128_0_0)) x = Cert.SguPoolRefIdeal.Pure.REF (aX m c) (aG m c) (aW m c) (aN m c) (aM m c) (aB m c) (aQ m c) (aD m c) (plc t y) := by
  rw [plc_eq t y 2 (x 0) ⟨0 * 128 + (x 1).val, by have := (x 1).isLt; change (x 1).val < 128 at this; omega⟩ h0 h1]
  refine (congrArg _ (eq_ix2 x)).trans ((gate02_at _ _ _ _ (x 0) (x 1)).trans ?_)
  exact Cert.SguPoolRefIdeal.Pure.gate_eq (aX m c) (aG m c) (aW m c) (aN m c) (aM m c) (aB m c) (aQ m c) (aD m c) (pt t) 2 0 (x 0) (x 1) _ _ _ _ (u_at m c t (at4 2 (by decide) (x 0)) (at4 0 (by decide) (x 1)))
    (fun s => m0 m c t (x 0) s) (fun s => n0 m c t (at4 2 (by decide) s) (x 1)) (b0 m c t (x 0) (x 1))

/-- The pooling mixer's tile 2 of group 0. -/
theorem pool02 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 0 k) (t.val * 512 + (256 + j.val))) (hl : ∀ j k, l (ix2 j k) = (0 : EReal))
    (x : S128x128.Idx) (y : S512x1024.Idx) (h0 : (y 0).val = 256 + (x 0).val) (h1 : (y 1).val = 512 + (x 1).val) :
    k0_pay28 (BitVec.ofNat 32 (grid0.coords t 0).val) (k0_pay9 (k0_pay4 (iblk m c 0 t) (iblk m c 1 t) (iblk m c 2 t))) io (k0_pay20 (View.ld (Val := Elt Ideal) (e' := .bf16) (iblk m c 6 t) (Rect.unit ![0, 0, 0] ![1, 128, 256] inb_S4x128x256_S1x128x256_0_0_0))) (k0_pay21 (View.ld (Val := Elt Ideal) (e' := .bf16) (iblk m c 7 t) (Rect.unit ![0, 0, 0] ![1, 128, 128] inb_S4x128x128_S1x128x128_0_0_0))) h l (View.ld (Val := Elt Ideal) (e' := .f32) (iblk m c 8 t) (Rect.unit ![0, 0] ![1, 128] inb_S1x512_S1x128_0_0)) x = Cert.SguPoolRefIdeal.Pure.REF (aX m c) (aG m c) (aW m c) (aN m c) (aM m c) (aB m c) (aQ m c) (aD m c) (plc t y) := by
  rw [plc_eq t y 2 (x 0) ⟨512 + (0 * 128 + (x 1).val), by have := (x 1).isLt; change (x 1).val < 128 at this; omega⟩ h0 (by simp only; omega)]
  refine (congrArg _ (eq_ix2 x)).trans ((pool02_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 2 0 (x 0) (x 1)
    _ _ _ _ _ _ _ (fun j => w0 m c t (x 0) j) hh hl
    ((congrArg (fun z => kcnt 2#32 (BitVec.ofNat 32 z) 256#32 (x 0).val) (row t)).trans (kcnt_eq 2 t.val 256 (x 0).val))
    (fun k => p_at m c t (at4 2 (by decide) (x 0)) 0 k) (fun k => q0 m c t k (x 1)) (d0 m c t (x 1))

/-- The gating unit's tile 3 of group 0. -/
theorem gate03 (c : Dev nD) (t : Fin cfg0.N) (x : S128x128.Idx) (y : S512x1024.Idx) (h0 : (y 0).val = 384 + (x 0).val) (h1 : (y 1).val = 0 + (x 1).val) :
    k0_pay29 (k0_pay5 (iblk m c 0 t) (iblk m c 1 t) (iblk m c 2 t)) (k0_pay16 (k0_pay6 (iblk m c 0 t) (iblk m c 1 t) (iblk m c 2 t)) (k0_pay7 (iblk m c 0 t) (iblk m c 1 t) (iblk m c 2 t)) one (View.ld (Val := Elt Ideal) (e' := .f32) (iblk m c 3 t) (Rect.unit ![0, 0] ![1, 128] inb_S1x512_S1x128_0_0))) (k0_pay19 k0_pay15 (k0_pay17 (View.ld (Val := Elt Ideal) (e' := .f32) (iblk m c 4 t) (Rect.unit ![0, 0, 0] ![1, 128, 128] inb_S4x128x128_S1x128x128_0_0_0))) k0_pay18) (View.ld (Val := Elt Ideal) (e' := .f32) (iblk m c 5 t) (Rect.unit ![0, 0] ![128, 128] inb_S128x512_S128x128_0_0)) x = Cert.SguPoolRefIdeal.Pure.REF (aX m c) (aG m c) (aW m c) (aN m c) (aM m c) (aB m c) (aQ m c) (aD m c) (plc t y) := by
  rw [plc_eq t y 3 (x 0) ⟨0 * 128 + (x 1).val, by have := (x 1).isLt; change (x 1).val < 128 at this; omega⟩ h0 h1]
  refine (congrArg _ (eq_ix2 x)).trans ((gate03_at _ _ _ _ (x 0) (x 1)).trans ?_)
  exact Cert.SguPoolRefIdeal.Pure.gate_eq (aX m c) (aG m c) (aW m c) (aN m c) (aM m c) (aB m c) (aQ m c) (aD m c) (pt t) 3 0 (x 0) (x 1) _ _ _ _ (u_at m c t (at4 3 (by decide) (x 0)) (at4 0 (by decide) (x 1)))
    (fun s => m0 m c t (x 0) s) (fun s => n0 m c t (at4 3 (by decide) s) (x 1)) (b0 m c t (x 0) (x 1))

/-- The pooling mixer's tile 3 of group 0. -/
theorem pool03 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 0 k) (t.val * 512 + (384 + j.val))) (hl : ∀ j k, l (ix2 j k) = (0 : EReal))
    (x : S128x128.Idx) (y : S512x1024.Idx) (h0 : (y 0).val = 384 + (x 0).val) (h1 : (y 1).val = 512 + (x 1).val) :
    k0_pay30 (BitVec.ofNat 32 (grid0.coords t 0).val) (k0_pay9 (k0_pay4 (iblk m c 0 t) (iblk m c 1 t) (iblk m c 2 t))) io (k0_pay20 (View.ld (Val := Elt Ideal) (e' := .bf16) (iblk m c 6 t) (Rect.unit ![0, 0, 0] ![1, 128, 256] inb_S4x128x256_S1x128x256_0_0_0))) (k0_pay21 (View.ld (Val := Elt Ideal) (e' := .bf16) (iblk m c 7 t) (Rect.unit ![0, 0, 0] ![1, 128, 128] inb_S4x128x128_S1x128x128_0_0_0))) h l (View.ld (Val := Elt Ideal) (e' := .f32) (iblk m c 8 t) (Rect.unit ![0, 0] ![1, 128] inb_S1x512_S1x128_0_0)) x = Cert.SguPoolRefIdeal.Pure.REF (aX m c) (aG m c) (aW m c) (aN m c) (aM m c) (aB m c) (aQ m c) (aD m c) (plc t y) := by
  rw [plc_eq t y 3 (x 0) ⟨512 + (0 * 128 + (x 1).val), by have := (x 1).isLt; change (x 1).val < 128 at this; omega⟩ h0 (by simp only; omega)]
  refine (congrArg _ (eq_ix2 x)).trans ((pool03_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 3 0 (x 0) (x 1)
    _ _ _ _ _ _ _ (fun j => w0 m c t (x 0) j) hh hl
    ((congrArg (fun z => kcnt 2#32 (BitVec.ofNat 32 z) 384#32 (x 0).val) (row t)).trans (kcnt_eq 2 t.val 384 (x 0).val))
    (fun k => p_at m c t (at4 3 (by decide) (x 0)) 0 k) (fun k => q0 m c t k (x 1)) (d0 m c t (x 1))

/-- The gating unit's tile 0 of group 1. -/
theorem gate10 (c : Dev nD) (t : Fin cfg0.N) (x : S128x128.Idx) (y : S512x1024.Idx) (h0 : (y 0).val = 0 + (x 0).val) (h1 : (y 1).val = 128 + (x 1).val) :
    k0_pay36 (k0_pay5 (iblk m c 0 t) (iblk m c 1 t) (iblk m c 2 t)) k0_pay15 (k0_pay31 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 3 t) (Rect.unit ![0, 128] ![1, 128] inb_S1x512_S1x128_0_128)) (View.ld (Val := Elt Ideal) (e' := .f32) (iblk m c 4 t) (Rect.unit ![1, 0, 0] ![1, 128, 128] inb_S4x128x128_S1x128x128_1_0_0)) (View.ld (Val := Elt Ideal) (e' := .f32) (iblk m c 5 t) (Rect.unit ![0, 128] ![128, 128] inb_S128x512_S128x128_0_128)) x = Cert.SguPoolRefIdeal.Pure.REF (aX m c) (aG m c) (aW m c) (aN m c) (aM m c) (aB m c) (aQ m c) (aD m c) (plc t y) := by
  rw [plc_eq t y 0 (x 0) ⟨1 * 128 + (x 1).val, by have := (x 1).isLt; change (x 1).val < 128 at this; omega⟩ h0 h1]
  refine (congrArg _ (eq_ix2 x)).trans ((gate10_at _ _ _ _ _ _ (x 0) (x 1)).trans ?_)
  exact Cert.SguPoolRefIdeal.Pure.gate_eq (aX m c) (aG m c) (aW m c) (aN m c) (aM m c) (aB m c) (aQ m c) (aD m c) (pt t) 0 1 (x 0) (x 1) _ _ _ _ (u_at m c t (at4 0 (by decide) (x 0)) (at4 1 (by decide) (x 1)))
    (fun s => m1 m c t (x 0) s) (fun s => n1 m c t (at4 0 (by decide) s) (x 1)) (b1 m c t (x 0) (x 1))

/-- The pooling mixer's tile 0 of group 1. -/
theorem pool10 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 1 k) (t.val * 512 + (0 + j.val))) (hl : ∀ j k, l (ix2 j k) = (0 : EReal))
    (x : S128x128.Idx) (y : S512x1024.Idx) (h0 : (y 0).val = 0 + (x 0).val) (h1 : (y 1).val = 640 + (x 1).val) :
    k0_pay38 (BitVec.ofNat 32 (grid0.coords t 0).val) (k0_pay9 (k0_pay4 (iblk m c 0 t) (iblk m c 1 t) (iblk m c 2 t))) io (k0_pay34 (View.ld (Val := Elt Ideal) (e' := .bf16) (iblk m c 6 t) (Rect.unit ![1, 0, 0] ![1, 128, 256] inb_S4x128x256_S1x128x256_1_0_0))) (k0_pay35 (View.ld (Val := Elt Ideal) (e' := .bf16) (iblk m c 7 t) (Rect.unit ![1, 0, 0] ![1, 128, 128] inb_S4x128x128_S1x128x128_1_0_0))) (k0_pay37 (View.ld (Val := Elt Ideal) (e' := .bf16) (iblk m c 6 t) (Rect.unit ![1, 0, 0] ![1, 128, 256] inb_S4x128x256_S1x128x256_1_0_0)) h) l (constant S128x128 .f32 0x00000000#32) (View.ld (Val := Elt Ideal) (e' := .f32) (iblk m c 8 t) (Rect.unit ![0, 128] ![1, 128] inb_S1x512_S1x128_0_128)) x = Cert.SguPoolRefIdeal.Pure.REF (aX m c) (aG m c) (aW m c) (aN m c) (aM m c) (aB m c) (aQ m c) (aD m c) (plc t y) := by
  rw [plc_eq t y 0 (x 0) ⟨512 + (1 * 128 + (x 1).val), by have := (x 1).isLt; change (x 1).val < 128 at this; omega⟩ h0 (by simp only; omega)]
  refine (congrArg _ (eq_ix2 x)).trans ((pool10_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 0 1 (x 0) (x 1)
    _ _ _ _ _ _ _ (fun j => w1 m c t (x 0) j) hh hl
    ((congrArg (fun z => kcnt 4#32 (BitVec.ofNat 32 z) 0#32 (x 0).val) (row t)).trans (kcnt_eq 4 t.val 0 (x 0).val))
    (fun k => p_at m c t (at4 0 (by decide) (x 0)) 1 k) (fun k => q1 m c t k (x 1)) (d1 m c t (x 1))

/-- The gating unit's tile 1 of group 1. -/
theorem gate11 (c : Dev nD) (t : Fin cfg0.N) (x : S128x128.Idx) (y : S512x1024.Idx) (h0 : (y 0).val = 128 + (x 0).val) (h1 : (y 1).val = 128 + (x 1).val) :
    k0_pay39 (k0_pay5 (iblk m c 0 t) (iblk m c 1 t) (iblk m c 2 t)) (k0_pay32 (k0_pay31 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 3 t) (Rect.unit ![0, 128] ![1, 128] inb_S1x512_S1x128_0_128))) (k0_pay33 k0_pay15 (View.ld (Val := Elt Ideal) (e' := .f32) (iblk m c 4 t) (Rect.unit ![1, 0, 0] ![1, 128, 128] inb_S4x128x128_S1x128x128_1_0_0))) (View.ld (Val := Elt Ideal) (e' := .f32) (iblk m c 5 t) (Rect.unit ![0, 128] ![128, 128] inb_S128x512_S128x128_0_128)) x = Cert.SguPoolRefIdeal.Pure.REF (aX m c) (aG m c) (aW m c) (aN m c) (aM m c) (aB m c) (aQ m c) (aD m c) (plc t y) := by
  rw [plc_eq t y 1 (x 0) ⟨1 * 128 + (x 1).val, by have := (x 1).isLt; change (x 1).val < 128 at this; omega⟩ h0 h1]
  refine (congrArg _ (eq_ix2 x)).trans ((gate11_at _ _ _ _ (x 0) (x 1)).trans ?_)
  exact Cert.SguPoolRefIdeal.Pure.gate_eq (aX m c) (aG m c) (aW m c) (aN m c) (aM m c) (aB m c) (aQ m c) (aD m c) (pt t) 1 1 (x 0) (x 1) _ _ _ _ (u_at m c t (at4 1 (by decide) (x 0)) (at4 1 (by decide) (x 1)))
    (fun s => m1 m c t (x 0) s) (fun s => n1 m c t (at4 1 (by decide) s) (x 1)) (b1 m c t (x 0) (x 1))

/-- The pooling mixer's tile 1 of group 1. -/
theorem pool11 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 1 k) (t.val * 512 + (128 + j.val))) (hl : ∀ j k, l (ix2 j k) = (0 : EReal))
    (x : S128x128.Idx) (y : S512x1024.Idx) (h0 : (y 0).val = 128 + (x 0).val) (h1 : (y 1).val = 640 + (x 1).val) :
    k0_pay41 (k0_pay9 (k0_pay4 (iblk m c 0 t) (iblk m c 1 t) (iblk m c 2 t))) io (k0_pay35 (View.ld (Val := Elt Ideal) (e' := .bf16) (iblk m c 7 t) (Rect.unit ![1, 0, 0] ![1, 128, 128] inb_S4x128x128_S1x128x128_1_0_0))) (k0_pay40 (k0_pay34 (View.ld (Val := Elt Ideal) (e' := .bf16) (iblk m c 6 t) (Rect.unit ![1, 0, 0] ![1, 128, 256] inb_S4x128x256_S1x128x256_1_0_0))) h l) (Scalar.muli (BitVec.ofNat 32 (grid0.coords t 0).val) 512#32) (View.ld (Val := Elt Ideal) (e' := .f32) (iblk m c 8 t) (Rect.unit ![0, 128] ![1, 128] inb_S1x512_S1x128_0_128)) x = Cert.SguPoolRefIdeal.Pure.REF (aX m c) (aG m c) (aW m c) (aN m c) (aM m c) (aB m c) (aQ m c) (aD m c) (plc t y) := by
  rw [plc_eq t y 1 (x 0) ⟨512 + (1 * 128 + (x 1).val), by have := (x 1).isLt; change (x 1).val < 128 at this; omega⟩ h0 (by simp only; omega)]
  refine (congrArg _ (eq_ix2 x)).trans ((pool11_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 1 1 (x 0) (x 1)
    _ _ _ _ _ _ _ (fun j => w1 m c t (x 0) j) hh hl
    ((congrArg (fun z => kcnt 4#32 (BitVec.ofNat 32 z) 128#32 (x 0).val) (row t)).trans (kcnt_eq 4 t.val 128 (x 0).val))
    (fun k => p_at m c t (at4 1 (by decide) (x 0)) 1 k) (fun k => q1 m c t k (x 1)) (d1 m c t (x 1))

/-- The gating unit's tile 2 of group 1. -/
theorem gate12 (c : Dev nD) (t : Fin cfg0.N) (x : S128x128.Idx) (y : S512x1024.Idx) (h0 : (y 0).val = 256 + (x 0).val) (h1 : (y 1).val = 128 + (x 1).val) :
    k0_pay42 (k0_pay5 (iblk m c 0 t) (iblk m c 1 t) (iblk m c 2 t)) (k0_pay32 (k0_pay31 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 3 t) (Rect.unit ![0, 128] ![1, 128] inb_S1x512_S1x128_0_128))) (k0_pay33 k0_pay15 (View.ld (Val := Elt Ideal) (e' := .f32) (iblk m c 4 t) (Rect.unit ![1, 0, 0] ![1, 128, 128] inb_S4x128x128_S1x128x128_1_0_0))) (View.ld (Val := Elt Ideal) (e' := .f32) (iblk m c 5 t) (Rect.unit ![0, 128] ![128, 128] inb_S128x512_S128x128_0_128)) x = Cert.SguPoolRefIdeal.Pure.REF (aX m c) (aG m c) (aW m c) (aN m c) (aM m c) (aB m c) (aQ m c) (aD m c) (plc t y) := by
  rw [plc_eq t y 2 (x 0) ⟨1 * 128 + (x 1).val, by have := (x 1).isLt; change (x 1).val < 128 at this; omega⟩ h0 h1]
  refine (congrArg _ (eq_ix2 x)).trans ((gate12_at _ _ _ _ (x 0) (x 1)).trans ?_)
  exact Cert.SguPoolRefIdeal.Pure.gate_eq (aX m c) (aG m c) (aW m c) (aN m c) (aM m c) (aB m c) (aQ m c) (aD m c) (pt t) 2 1 (x 0) (x 1) _ _ _ _ (u_at m c t (at4 2 (by decide) (x 0)) (at4 1 (by decide) (x 1)))
    (fun s => m1 m c t (x 0) s) (fun s => n1 m c t (at4 2 (by decide) s) (x 1)) (b1 m c t (x 0) (x 1))

/-- The pooling mixer's tile 2 of group 1. -/
theorem pool12 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 1 k) (t.val * 512 + (256 + j.val))) (hl : ∀ j k, l (ix2 j k) = (0 : EReal))
    (x : S128x128.Idx) (y : S512x1024.Idx) (h0 : (y 0).val = 256 + (x 0).val) (h1 : (y 1).val = 640 + (x 1).val) :
    k0_pay45 (k0_pay9 (k0_pay4 (iblk m c 0 t) (iblk m c 1 t) (iblk m c 2 t))) (k0_pay35 (View.ld (Val := Elt Ideal) (e' := .bf16) (iblk m c 7 t) (Rect.unit ![1, 0, 0] ![1, 128, 128] inb_S4x128x128_S1x128x128_1_0_0))) (k0_pay43 (k0_pay34 (View.ld (Val := Elt Ideal) (e' := .bf16) (iblk m c 6 t) (Rect.unit ![1, 0, 0] ![1, 128, 256] inb_S4x128x256_S1x128x256_1_0_0))) h l) (k0_pay44 (BitVec.ofNat 32 (grid0.coords t 0).val) io) (View.ld (Val := Elt Ideal) (e' := .f32) (iblk m c 8 t) (Rect.unit ![0, 128] ![1, 128] inb_S1x512_S1x128_0_128)) x = Cert.SguPoolRefIdeal.Pure.REF (aX m c) (aG m c) (aW m c) (aN m c) (aM m c) (aB m c) (aQ m c) (aD m c) (plc t y) := by
  rw [plc_eq t y 2 (x 0) ⟨512 + (1 * 128 + (x 1).val), by have := (x 1).isLt; change (x 1).val < 128 at this; omega⟩ h0 (by simp only; omega)]
  refine (congrArg _ (eq_ix2 x)).trans ((pool12_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 2 1 (x 0) (x 1)
    _ _ _ _ _ _ _ (fun j => w1 m c t (x 0) j) hh hl
    ((congrArg (fun z => kcnt 4#32 (BitVec.ofNat 32 z) 256#32 (x 0).val) (row t)).trans (kcnt_eq 4 t.val 256 (x 0).val))
    (fun k => p_at m c t (at4 2 (by decide) (x 0)) 1 k) (fun k => q1 m c t k (x 1)) (d1 m c t (x 1))

/-- The gating unit's tile 3 of group 1. -/
theorem gate13 (c : Dev nD) (t : Fin cfg0.N) (x : S128x128.Idx) (y : S512x1024.Idx) (h0 : (y 0).val = 384 + (x 0).val) (h1 : (y 1).val = 128 + (x 1).val) :
    k0_pay46 (k0_pay5 (iblk m c 0 t) (iblk m c 1 t) (iblk m c 2 t)) (k0_pay32 (k0_pay31 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 3 t) (Rect.unit ![0, 128] ![1, 128] inb_S1x512_S1x128_0_128))) (k0_pay33 k0_pay15 (View.ld (Val := Elt Ideal) (e' := .f32) (iblk m c 4 t) (Rect.unit ![1, 0, 0] ![1, 128, 128] inb_S4x128x128_S1x128x128_1_0_0))) (View.ld (Val := Elt Ideal) (e' := .f32) (iblk m c 5 t) (Rect.unit ![0, 128] ![128, 128] inb_S128x512_S128x128_0_128)) x = Cert.SguPoolRefIdeal.Pure.REF (aX m c) (aG m c) (aW m c) (aN m c) (aM m c) (aB m c) (aQ m c) (aD m c) (plc t y) := by
  rw [plc_eq t y 3 (x 0) ⟨1 * 128 + (x 1).val, by have := (x 1).isLt; change (x 1).val < 128 at this; omega⟩ h0 h1]
  refine (congrArg _ (eq_ix2 x)).trans ((gate13_at _ _ _ _ (x 0) (x 1)).trans ?_)
  exact Cert.SguPoolRefIdeal.Pure.gate_eq (aX m c) (aG m c) (aW m c) (aN m c) (aM m c) (aB m c) (aQ m c) (aD m c) (pt t) 3 1 (x 0) (x 1) _ _ _ _ (u_at m c t (at4 3 (by decide) (x 0)) (at4 1 (by decide) (x 1)))
    (fun s => m1 m c t (x 0) s) (fun s => n1 m c t (at4 3 (by decide) s) (x 1)) (b1 m c t (x 0) (x 1))

/-- The pooling mixer's tile 3 of group 1. -/
theorem pool13 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 1 k) (t.val * 512 + (384 + j.val))) (hl : ∀ j k, l (ix2 j k) = (0 : EReal))
    (x : S128x128.Idx) (y : S512x1024.Idx) (h0 : (y 0).val = 384 + (x 0).val) (h1 : (y 1).val = 640 + (x 1).val) :
    k0_pay49 (k0_pay9 (k0_pay4 (iblk m c 0 t) (iblk m c 1 t) (iblk m c 2 t))) (k0_pay35 (View.ld (Val := Elt Ideal) (e' := .bf16) (iblk m c 7 t) (Rect.unit ![1, 0, 0] ![1, 128, 128] inb_S4x128x128_S1x128x128_1_0_0))) (k0_pay47 (k0_pay34 (View.ld (Val := Elt Ideal) (e' := .bf16) (iblk m c 6 t) (Rect.unit ![1, 0, 0] ![1, 128, 256] inb_S4x128x256_S1x128x256_1_0_0))) h l) (k0_pay48 (BitVec.ofNat 32 (grid0.coords t 0).val) io) 4#32 (View.ld (Val := Elt Ideal) (e' := .f32) (iblk m c 8 t) (Rect.unit ![0, 128] ![1, 128] inb_S1x512_S1x128_0_128)) x = Cert.SguPoolRefIdeal.Pure.REF (aX m c) (aG m c) (aW m c) (aN m c) (aM m c) (aB m c) (aQ m c) (aD m c) (plc t y) := by
  rw [plc_eq t y 3 (x 0) ⟨512 + (1 * 128 + (x 1).val), by have := (x 1).isLt; change (x 1).val < 128 at this; omega⟩ h0 (by simp only; omega)]
  refine (congrArg _ (eq_ix2 x)).trans ((pool13_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 3 1 (x 0) (x 1)
    _ _ _ _ _ _ _ (fun j => w1 m c t (x 0) j) hh hl
    ((congrArg (fun z => kcnt 4#32 (BitVec.ofNat 32 z) 384#32 (x 0).val) (row t)).trans (kcnt_eq 4 t.val 384 (x 0).val))
    (fun k => p_at m c t (at4 3 (by decide) (x 0)) 1 k) (fun k => q1 m c t k (x 1)) (d1 m c t (x 1))

/-- The gating unit's tile 0 of group 2. -/
theorem gate20 (c : Dev nD) (t : Fin cfg0.N) (x : S128x128.Idx) (y : S512x1024.Idx) (h0 : (y 0).val = 0 + (x 0).val) (h1 : (y 1).val = 256 + (x 1).val) :
    k0_pay54 (k0_pay5 (iblk m c 0 t) (iblk m c 1 t) (iblk m c 2 t)) (k0_pay50 (k0_pay8 (k0_pay6 (iblk m c 0 t) (iblk m c 1 t) (iblk m c 2 t)) (k0_pay7 (iblk m c 0 t) (iblk m c 1 t) (iblk m c 2 t)) one) (View.ld (Val := Elt Ideal) (e' := .f32) (iblk m c 3 t) (Rect.unit ![0, 256] ![1, 128] inb_S1x512_S1x128_0_256))) (k0_pay51 k0_pay15 (View.ld (Val := Elt Ideal) (e' := .f32) (iblk m c 4 t) (Rect.unit ![2, 0, 0] ![1, 128, 128] inb_S4x128x128_S1x128x128_2_0_0))) (View.ld (Val := Elt Ideal) (e' := .f32) (iblk m c 5 t) (Rect.unit ![0, 256] ![128, 128] inb_S128x512_S128x128_0_256)) x = Cert.SguPoolRefIdeal.Pure.REF (aX m c) (aG m c) (aW m c) (aN m c) (aM m c) (aB m c) (aQ m c) (aD m c) (plc t y) := by
  rw [plc_eq t y 0 (x 0) ⟨2 * 128 + (x 1).val, by have := (x 1).isLt; change (x 1).val < 128 at this; omega⟩ h0 h1]
  refine (congrArg _ (eq_ix2 x)).trans ((gate20_at _ _ _ _ (x 0) (x 1)).trans ?_)
  exact Cert.SguPoolRefIdeal.Pure.gate_eq (aX m c) (aG m c) (aW m c) (aN m c) (aM m c) (aB m c) (aQ m c) (aD m c) (pt t) 0 2 (x 0) (x 1) _ _ _ _ (u_at m c t (at4 0 (by decide) (x 0)) (at4 2 (by decide) (x 1)))
    (fun s => m2 m c t (x 0) s) (fun s => n2 m c t (at4 0 (by decide) s) (x 1)) (b2 m c t (x 0) (x 1))

/-- The pooling mixer's tile 0 of group 2. -/
theorem pool20 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 2 k) (t.val * 512 + (0 + j.val))) (hl : ∀ j k, l (ix2 j k) = (0 : EReal))
    (x : S128x128.Idx) (y : S512x1024.Idx) (h0 : (y 0).val = 0 + (x 0).val) (h1 : (y 1).val = 768 + (x 1).val) :
    k0_pay55 (BitVec.ofNat 32 (grid0.coords t 0).val) (k0_pay9 (k0_pay4 (iblk m c 0 t) (iblk m c 1 t) (iblk m c 2 t))) io (k0_pay52 (View.ld (Val := Elt Ideal) (e' := .bf16) (iblk m c 6 t) (Rect.unit ![2, 0, 0] ![1, 128, 256] inb_S4x128x256_S1x128x256_2_0_0))) (k0_pay53 (View.ld (Val := Elt Ideal) (e' := .bf16) (iblk m c 7 t) (Rect.unit ![2, 0, 0] ![1, 128, 128] inb_S4x128x128_S1x128x128_2_0_0))) h l (View.ld (Val := Elt Ideal) (e' := .f32) (iblk m c 8 t) (Rect.unit ![0, 256] ![1, 128] inb_S1x512_S1x128_0_256)) x = Cert.SguPoolRefIdeal.Pure.REF (aX m c) (aG m c) (aW m c) (aN m c) (aM m c) (aB m c) (aQ m c) (aD m c) (plc t y) := by
  rw [plc_eq t y 0 (x 0) ⟨512 + (2 * 128 + (x 1).val), by have := (x 1).isLt; change (x 1).val < 128 at this; omega⟩ h0 (by simp only; omega)]
  refine (congrArg _ (eq_ix2 x)).trans ((pool20_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 0 2 (x 0) (x 1)
    _ _ _ _ _ _ _ (fun j => w2 m c t (x 0) j) hh hl
    ((congrArg (fun z => kcnt 8#32 (BitVec.ofNat 32 z) 0#32 (x 0).val) (row t)).trans (kcnt_eq 8 t.val 0 (x 0).val))
    (fun k => p_at m c t (at4 0 (by decide) (x 0)) 2 k) (fun k => q2 m c t k (x 1)) (d2 m c t (x 1))

/-- The gating unit's tile 1 of group 2. -/
theorem gate21 (c : Dev nD) (t : Fin cfg0.N) (x : S128x128.Idx) (y : S512x1024.Idx) (h0 : (y 0).val = 128 + (x 0).val) (h1 : (y 1).val = 256 + (x 1).val) :
    k0_pay57 (k0_pay5 (iblk m c 0 t) (iblk m c 1 t) (iblk m c 2 t)) (k0_pay56 (k0_pay50 (k0_pay8 (k0_pay6 (iblk m c 0 t) (iblk m c 1 t) (iblk m c 2 t)) (k0_pay7 (iblk m c 0 t) (iblk m c 1 t) (iblk m c 2 t)) one) (View.ld (Val := Elt Ideal) (e' := .f32) (iblk m c 3 t) (Rect.unit ![0, 256] ![1, 128] inb_S1x512_S1x128_0_256))) (k0_pay51 k0_pay15 (View.ld (Val := Elt Ideal) (e' := .f32) (iblk m c 4 t) (Rect.unit ![2, 0, 0] ![1, 128, 128] inb_S4x128x128_S1x128x128_2_0_0)))) (View.ld (Val := Elt Ideal) (e' := .f32) (iblk m c 5 t) (Rect.unit ![0, 256] ![128, 128] inb_S128x512_S128x128_0_256)) x = Cert.SguPoolRefIdeal.Pure.REF (aX m c) (aG m c) (aW m c) (aN m c) (aM m c) (aB m c) (aQ m c) (aD m c) (plc t y) := by
  rw [plc_eq t y 1 (x 0) ⟨2 * 128 + (x 1).val, by have := (x 1).isLt; change (x 1).val < 128 at this; omega⟩ h0 h1]
  refine (congrArg _ (eq_ix2 x)).trans ((gate21_at _ _ _ _ (x 0) (x 1)).trans ?_)
  exact Cert.SguPoolRefIdeal.Pure.gate_eq (aX m c) (aG m c) (aW m c) (aN m c) (aM m c) (aB m c) (aQ m c) (aD m c) (pt t) 1 2 (x 0) (x 1) _ _ _ _ (u_at m c t (at4 1 (by decide) (x 0)) (at4 2 (by decide) (x 1)))
    (fun s => m2 m c t (x 0) s) (fun s => n2 m c t (at4 1 (by decide) s) (x 1)) (b2 m c t (x 0) (x 1))

/-- The pooling mixer's tile 1 of group 2. -/
theorem pool21 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 2 k) (t.val * 512 + (128 + j.val))) (hl : ∀ j k, l (ix2 j k) = (0 : EReal))
    (x : S128x128.Idx) (y : S512x1024.Idx) (h0 : (y 0).val = 128 + (x 0).val) (h1 : (y 1).val = 768 + (x 1).val) :
    k0_pay58 (BitVec.ofNat 32 (grid0.coords t 0).val) (k0_pay9 (k0_pay4 (iblk m c 0 t) (iblk m c 1 t) (iblk m c 2 t))) io (k0_pay52 (View.ld (Val := Elt Ideal) (e' := .bf16) (iblk m c 6 t) (Rect.unit ![2, 0, 0] ![1, 128, 256] inb_S4x128x256_S1x128x256_2_0_0))) (k0_pay53 (View.ld (Val := Elt Ideal) (e' := .bf16) (iblk m c 7 t) (Rect.unit ![2, 0, 0] ![1, 128, 128] inb_S4x128x128_S1x128x128_2_0_0))) h l (View.ld (Val := Elt Ideal) (e' := .f32) (iblk m c 8 t) (Rect.unit ![0, 256] ![1, 128] inb_S1x512_S1x128_0_256)) x = Cert.SguPoolRefIdeal.Pure.REF (aX m c) (aG m c) (aW m c) (aN m c) (aM m c) (aB m c) (aQ m c) (aD m c) (plc t y) := by
  rw [plc_eq t y 1 (x 0) ⟨512 + (2 * 128 + (x 1).val), by have := (x 1).isLt; change (x 1).val < 128 at this; omega⟩ h0 (by simp only; omega)]
  refine (congrArg _ (eq_ix2 x)).trans ((pool21_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 1 2 (x 0) (x 1)
    _ _ _ _ _ _ _ (fun j => w2 m c t (x 0) j) hh hl
    ((congrArg (fun z => kcnt 8#32 (BitVec.ofNat 32 z) 128#32 (x 0).val) (row t)).trans (kcnt_eq 8 t.val 128 (x 0).val))
    (fun k => p_at m c t (at4 1 (by decide) (x 0)) 2 k) (fun k => q2 m c t k (x 1)) (d2 m c t (x 1))

/-- The gating unit's tile 2 of group 2. -/
theorem gate22 (c : Dev nD) (t : Fin cfg0.N) (x : S128x128.Idx) (y : S512x1024.Idx) (h0 : (y 0).val = 256 + (x 0).val) (h1 : (y 1).val = 256 + (x 1).val) :
    k0_pay60 (k0_pay5 (iblk m c 0 t) (iblk m c 1 t) (iblk m c 2 t)) (k0_pay59 (k0_pay50 (k0_pay8 (k0_pay6 (iblk m c 0 t) (iblk m c 1 t) (iblk m c 2 t)) (k0_pay7 (iblk m c 0 t) (iblk m c 1 t) (iblk m c 2 t)) one) (View.ld (Val := Elt Ideal) (e' := .f32) (iblk m c 3 t) (Rect.unit ![0, 256] ![1, 128] inb_S1x512_S1x128_0_256))) (k0_pay51 k0_pay15 (View.ld (Val := Elt Ideal) (e' := .f32) (iblk m c 4 t) (Rect.unit ![2, 0, 0] ![1, 128, 128] inb_S4x128x128_S1x128x128_2_0_0))) (View.ld (Val := Elt Ideal) (e' := .f32) (iblk m c 5 t) (Rect.unit ![0, 256] ![128, 128] inb_S128x512_S128x128_0_256))) x = Cert.SguPoolRefIdeal.Pure.REF (aX m c) (aG m c) (aW m c) (aN m c) (aM m c) (aB m c) (aQ m c) (aD m c) (plc t y) := by
  rw [plc_eq t y 2 (x 0) ⟨2 * 128 + (x 1).val, by have := (x 1).isLt; change (x 1).val < 128 at this; omega⟩ h0 h1]
  refine (congrArg _ (eq_ix2 x)).trans ((gate22_at _ _ _ _ (x 0) (x 1)).trans ?_)
  exact Cert.SguPoolRefIdeal.Pure.gate_eq (aX m c) (aG m c) (aW m c) (aN m c) (aM m c) (aB m c) (aQ m c) (aD m c) (pt t) 2 2 (x 0) (x 1) _ _ _ _ (u_at m c t (at4 2 (by decide) (x 0)) (at4 2 (by decide) (x 1)))
    (fun s => m2 m c t (x 0) s) (fun s => n2 m c t (at4 2 (by decide) s) (x 1)) (b2 m c t (x 0) (x 1))

/-- The pooling mixer's tile 2 of group 2. -/
theorem pool22 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 2 k) (t.val * 512 + (256 + j.val))) (hl : ∀ j k, l (ix2 j k) = (0 : EReal))
    (x : S128x128.Idx) (y : S512x1024.Idx) (h0 : (y 0).val = 256 + (x 0).val) (h1 : (y 1).val = 768 + (x 1).val) :
    k0_pay61 (BitVec.ofNat 32 (grid0.coords t 0).val) (k0_pay9 (k0_pay4 (iblk m c 0 t) (iblk m c 1 t) (iblk m c 2 t))) io (k0_pay52 (View.ld (Val := Elt Ideal) (e' := .bf16) (iblk m c 6 t) (Rect.unit ![2, 0, 0] ![1, 128, 256] inb_S4x128x256_S1x128x256_2_0_0))) (k0_pay53 (View.ld (Val := Elt Ideal) (e' := .bf16) (iblk m c 7 t) (Rect.unit ![2, 0, 0] ![1, 128, 128] inb_S4x128x128_S1x128x128_2_0_0))) h l (View.ld (Val := Elt Ideal) (e' := .f32) (iblk m c 8 t) (Rect.unit ![0, 256] ![1, 128] inb_S1x512_S1x128_0_256)) x = Cert.SguPoolRefIdeal.Pure.REF (aX m c) (aG m c) (aW m c) (aN m c) (aM m c) (aB m c) (aQ m c) (aD m c) (plc t y) := by
  rw [plc_eq t y 2 (x 0) ⟨512 + (2 * 128 + (x 1).val), by have := (x 1).isLt; change (x 1).val < 128 at this; omega⟩ h0 (by simp only; omega)]
  refine (congrArg _ (eq_ix2 x)).trans ((pool22_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 2 2 (x 0) (x 1)
    _ _ _ _ _ _ _ (fun j => w2 m c t (x 0) j) hh hl
    ((congrArg (fun z => kcnt 8#32 (BitVec.ofNat 32 z) 256#32 (x 0).val) (row t)).trans (kcnt_eq 8 t.val 256 (x 0).val))
    (fun k => p_at m c t (at4 2 (by decide) (x 0)) 2 k) (fun k => q2 m c t k (x 1)) (d2 m c t (x 1))

/-- The gating unit's tile 3 of group 2. -/
theorem gate23 (c : Dev nD) (t : Fin cfg0.N) (x : S128x128.Idx) (y : S512x1024.Idx) (h0 : (y 0).val = 384 + (x 0).val) (h1 : (y 1).val = 256 + (x 1).val) :
    k0_pay62 (k0_pay5 (iblk m c 0 t) (iblk m c 1 t) (iblk m c 2 t)) (k0_pay50 (k0_pay8 (k0_pay6 (iblk m c 0 t) (iblk m c 1 t) (iblk m c 2 t)) (k0_pay7 (iblk m c 0 t) (iblk m c 1 t) (iblk m c 2 t)) one) (View.ld (Val := Elt Ideal) (e' := .f32) (iblk m c 3 t) (Rect.unit ![0, 256] ![1, 128] inb_S1x512_S1x128_0_256))) (k0_pay51 k0_pay15 (View.ld (Val := Elt Ideal) (e' := .f32) (iblk m c 4 t) (Rect.unit ![2, 0, 0] ![1, 128, 128] inb_S4x128x128_S1x128x128_2_0_0))) (View.ld (Val := Elt Ideal) (e' := .f32) (iblk m c 5 t) (Rect.unit ![0, 256] ![128, 128] inb_S128x512_S128x128_0_256)) x = Cert.SguPoolRefIdeal.Pure.REF (aX m c) (aG m c) (aW m c) (aN m c) (aM m c) (aB m c) (aQ m c) (aD m c) (plc t y) := by
  rw [plc_eq t y 3 (x 0) ⟨2 * 128 + (x 1).val, by have := (x 1).isLt; change (x 1).val < 128 at this; omega⟩ h0 h1]
  refine (congrArg _ (eq_ix2 x)).trans ((gate23_at _ _ _ _ (x 0) (x 1)).trans ?_)
  exact Cert.SguPoolRefIdeal.Pure.gate_eq (aX m c) (aG m c) (aW m c) (aN m c) (aM m c) (aB m c) (aQ m c) (aD m c) (pt t) 3 2 (x 0) (x 1) _ _ _ _ (u_at m c t (at4 3 (by decide) (x 0)) (at4 2 (by decide) (x 1)))
    (fun s => m2 m c t (x 0) s) (fun s => n2 m c t (at4 3 (by decide) s) (x 1)) (b2 m c t (x 0) (x 1))

/-- The pooling mixer's tile 3 of group 2. -/
theorem pool23 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 2 k) (t.val * 512 + (384 + j.val))) (hl : ∀ j k, l (ix2 j k) = (0 : EReal))
    (x : S128x128.Idx) (y : S512x1024.Idx) (h0 : (y 0).val = 384 + (x 0).val) (h1 : (y 1).val = 768 + (x 1).val) :
    k0_pay63 (BitVec.ofNat 32 (grid0.coords t 0).val) (k0_pay9 (k0_pay4 (iblk m c 0 t) (iblk m c 1 t) (iblk m c 2 t))) io (k0_pay52 (View.ld (Val := Elt Ideal) (e' := .bf16) (iblk m c 6 t) (Rect.unit ![2, 0, 0] ![1, 128, 256] inb_S4x128x256_S1x128x256_2_0_0))) (k0_pay53 (View.ld (Val := Elt Ideal) (e' := .bf16) (iblk m c 7 t) (Rect.unit ![2, 0, 0] ![1, 128, 128] inb_S4x128x128_S1x128x128_2_0_0))) h l (View.ld (Val := Elt Ideal) (e' := .f32) (iblk m c 8 t) (Rect.unit ![0, 256] ![1, 128] inb_S1x512_S1x128_0_256)) x = Cert.SguPoolRefIdeal.Pure.REF (aX m c) (aG m c) (aW m c) (aN m c) (aM m c) (aB m c) (aQ m c) (aD m c) (plc t y) := by
  rw [plc_eq t y 3 (x 0) ⟨512 + (2 * 128 + (x 1).val), by have := (x 1).isLt; change (x 1).val < 128 at this; omega⟩ h0 (by simp only; omega)]
  refine (congrArg _ (eq_ix2 x)).trans ((pool23_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 3 2 (x 0) (x 1)
    _ _ _ _ _ _ _ (fun j => w2 m c t (x 0) j) hh hl
    ((congrArg (fun z => kcnt 8#32 (BitVec.ofNat 32 z) 384#32 (x 0).val) (row t)).trans (kcnt_eq 8 t.val 384 (x 0).val))
    (fun k => p_at m c t (at4 3 (by decide) (x 0)) 2 k) (fun k => q2 m c t k (x 1)) (d2 m c t (x 1))

/-- The gating unit's tile 0 of group 3. -/
theorem gate30 (c : Dev nD) (t : Fin cfg0.N) (x : S128x128.Idx) (y : S512x1024.Idx) (h0 : (y 0).val = 0 + (x 0).val) (h1 : (y 1).val = 384 + (x 1).val) :
    k0_pay71 (k0_pay5 (iblk m c 0 t) (iblk m c 1 t) (iblk m c 2 t)) k0_pay15 (k0_pay64 (k0_pay8 (k0_pay6 (iblk m c 0 t) (iblk m c 1 t) (iblk m c 2 t)) (k0_pay7 (iblk m c 0 t) (iblk m c 1 t) (iblk m c 2 t)) one)) (k0_pay65 (View.ld (Val := Elt Ideal) (e' := .f32) (iblk m c 3 t) (Rect.unit ![0, 384] ![1, 128] inb_S1x512_S1x128_0_384))) (k0_pay66 (k0_pay8 (k0_pay6 (iblk m c 0 t) (iblk m c 1 t) (iblk m c 2 t)) (k0_pay7 (iblk m c 0 t) (iblk m c 1 t) (iblk m c 2 t)) one)) (View.ld (Val := Elt Ideal) (e' := .f32) (iblk m c 4 t) (Rect.unit ![3, 0, 0] ![1, 128, 128] inb_S4x128x128_S1x128x128_3_0_0)) (View.ld (Val := Elt Ideal) (e' := .f32) (iblk m c 5 t) (Rect.unit ![0, 384] ![128, 128] inb_S128x512_S128x128_0_384)) x = Cert.SguPoolRefIdeal.Pure.REF (aX m c) (aG m c) (aW m c) (aN m c) (aM m c) (aB m c) (aQ m c) (aD m c) (plc t y) := by
  rw [plc_eq t y 0 (x 0) ⟨3 * 128 + (x 1).val, by have := (x 1).isLt; change (x 1).val < 128 at this; omega⟩ h0 h1]
  refine (congrArg _ (eq_ix2 x)).trans ((gate30_at _ _ _ _ _ _ _ (x 0) (x 1)).trans ?_)
  exact Cert.SguPoolRefIdeal.Pure.gate_eq (aX m c) (aG m c) (aW m c) (aN m c) (aM m c) (aB m c) (aQ m c) (aD m c) (pt t) 0 3 (x 0) (x 1) _ _ _ _ (u_at m c t (at4 0 (by decide) (x 0)) (at4 3 (by decide) (x 1)))
    (fun s => m3 m c t (x 0) s) (fun s => n3 m c t (at4 0 (by decide) s) (x 1)) (b3 m c t (x 0) (x 1))

/-- The pooling mixer's tile 0 of group 3. -/
theorem pool30 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 3 k) (t.val * 512 + (0 + j.val))) (hl : ∀ j k, l (ix2 j k) = (0 : EReal))
    (x : S128x128.Idx) (y : S512x1024.Idx) (h0 : (y 0).val = 0 + (x 0).val) (h1 : (y 1).val = 896 + (x 1).val) :
    k0_pay74 (k0_pay9 (k0_pay4 (iblk m c 0 t) (iblk m c 1 t) (iblk m c 2 t))) (k0_pay70 (View.ld (Val := Elt Ideal) (e' := .bf16) (iblk m c 7 t) (Rect.unit ![3, 0, 0] ![1, 128, 128] inb_S4x128x128_S1x128x128_3_0_0))) (k0_pay72 (View.ld (Val := Elt Ideal) (e' := .bf16) (iblk m c 6 t) (Rect.unit ![3, 0, 0] ![1, 128, 256] inb_S4x128x256_S1x128x256_3_0_0)) h l) (k0_pay73 (BitVec.ofNat 32 (grid0.coords t 0).val) io) 16#32 (View.ld (Val := Elt Ideal) (e' := .f32) (iblk m c 8 t) (Rect.unit ![0, 384] ![1, 128] inb_S1x512_S1x128_0_384)) x = Cert.SguPoolRefIdeal.Pure.REF (aX m c) (aG m c) (aW m c) (aN m c) (aM m c) (aB m c) (aQ m c) (aD m c) (plc t y) := by
  rw [plc_eq t y 0 (x 0) ⟨512 + (3 * 128 + (x 1).val), by have := (x 1).isLt; change (x 1).val < 128 at this; omega⟩ h0 (by simp only; omega)]
  refine (congrArg _ (eq_ix2 x)).trans ((pool30_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 0 3 (x 0) (x 1)
    _ _ _ _ _ _ _ (fun j => w3 m c t (x 0) j) hh hl
    ((congrArg (fun z => kcnt 16#32 (BitVec.ofNat 32 z) 0#32 (x 0).val) (row t)).trans (kcnt_eq 16 t.val 0 (x 0).val))
    (fun k => p_at m c t (at4 0 (by decide) (x 0)) 3 k) (fun k => q3 m c t k (x 1)) (d3 m c t (x 1))

/-- The gating unit's tile 1 of group 3. -/
theorem gate31 (c : Dev nD) (t : Fin cfg0.N) (x : S128x128.Idx) (y : S512x1024.Idx) (h0 : (y 0).val = 128 + (x 0).val) (h1 : (y 1).val = 384 + (x 1).val) :
    k0_pay75 (k0_pay5 (iblk m c 0 t) (iblk m c 1 t) (iblk m c 2 t)) (k0_pay67 (k0_pay64 (k0_pay8 (k0_pay6 (iblk m c 0 t) (iblk m c 1 t) (iblk m c 2 t)) (k0_pay7 (iblk m c 0 t) (iblk m c 1 t) (iblk m c 2 t)) one)) (k0_pay65 (View.ld (Val := Elt Ideal) (e' := .f32) (iblk m c 3 t) (Rect.unit ![0, 384] ![1, 128] inb_S1x512_S1x128_0_384))) (k0_pay66 (k0_pay8 (k0_pay6 (iblk m c 0 t) (iblk m c 1 t) (iblk m c 2 t)) (k0_pay7 (iblk m c 0 t) (iblk m c 1 t) (iblk m c 2 t)) one))) (k0_pay68 k0_pay15 (View.ld (Val := Elt Ideal) (e' := .f32) (iblk m c 4 t) (Rect.unit ![3, 0, 0] ![1, 128, 128] inb_S4x128x128_S1x128x128_3_0_0))) (View.ld (Val := Elt Ideal) (e' := .f32) (iblk m c 5 t) (Rect.unit ![0, 384] ![128, 128] inb_S128x512_S128x128_0_384)) x = Cert.SguPoolRefIdeal.Pure.REF (aX m c) (aG m c) (aW m c) (aN m c) (aM m c) (aB m c) (aQ m c) (aD m c) (plc t y) := by
  rw [plc_eq t y 1 (x 0) ⟨3 * 128 + (x 1).val, by have := (x 1).isLt; change (x 1).val < 128 at this; omega⟩ h0 h1]
  refine (congrArg _ (eq_ix2 x)).trans ((gate31_at _ _ _ _ (x 0) (x 1)).trans ?_)
  exact Cert.SguPoolRefIdeal.Pure.gate_eq (aX m c) (aG m c) (aW m c) (aN m c) (aM m c) (aB m c) (aQ m c) (aD m c) (pt t) 1 3 (x 0) (x 1) _ _ _ _ (u_at m c t (at4 1 (by decide) (x 0)) (at4 3 (by decide) (x 1)))
    (fun s => m3 m c t (x 0) s) (fun s => n3 m c t (at4 1 (by decide) s) (x 1)) (b3 m c t (x 0) (x 1))

/-- The pooling mixer's tile 1 of group 3. -/
theorem pool31 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 3 k) (t.val * 512 + (128 + j.val))) (hl : ∀ j k, l (ix2 j k) = (0 : EReal))
    (x : S128x128.Idx) (y : S512x1024.Idx) (h0 : (y 0).val = 128 + (x 0).val) (h1 : (y 1).val = 896 + (x 1).val) :
    k0_pay77 (k0_pay9 (k0_pay4 (iblk m c 0 t) (iblk m c 1 t) (iblk m c 2 t))) (k0_pay70 (View.ld (Val := Elt Ideal) (e' := .bf16) (iblk m c 7 t) (Rect.unit ![3, 0, 0] ![1, 128, 128] inb_S4x128x128_S1x128x128_3_0_0))) (k0_pay76 (BitVec.ofNat 32 (grid0.coords t 0).val) io (k0_pay69 (View.ld (Val := Elt Ideal) (e' := .bf16) (iblk m c 6 t) (Rect.unit ![3, 0, 0] ![1, 128, 256] inb_S4x128x256_S1x128x256_3_0_0))) h l) (View.ld (Val := Elt Ideal) (e' := .f32) (iblk m c 8 t) (Rect.unit ![0, 384] ![1, 128] inb_S1x512_S1x128_0_384)) x = Cert.SguPoolRefIdeal.Pure.REF (aX m c) (aG m c) (aW m c) (aN m c) (aM m c) (aB m c) (aQ m c) (aD m c) (plc t y) := by
  rw [plc_eq t y 1 (x 0) ⟨512 + (3 * 128 + (x 1).val), by have := (x 1).isLt; change (x 1).val < 128 at this; omega⟩ h0 (by simp only; omega)]
  refine (congrArg _ (eq_ix2 x)).trans ((pool31_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 1 3 (x 0) (x 1)
    _ _ _ _ _ _ _ (fun j => w3 m c t (x 0) j) hh hl
    ((congrArg (fun z => kcnt 16#32 (BitVec.ofNat 32 z) 128#32 (x 0).val) (row t)).trans (kcnt_eq 16 t.val 128 (x 0).val))
    (fun k => p_at m c t (at4 1 (by decide) (x 0)) 3 k) (fun k => q3 m c t k (x 1)) (d3 m c t (x 1))

/-- The gating unit's tile 2 of group 3. -/
theorem gate32 (c : Dev nD) (t : Fin cfg0.N) (x : S128x128.Idx) (y : S512x1024.Idx) (h0 : (y 0).val = 256 + (x 0).val) (h1 : (y 1).val = 384 + (x 1).val) :
    k0_pay78 (k0_pay5 (iblk m c 0 t) (iblk m c 1 t) (iblk m c 2 t)) (k0_pay67 (k0_pay64 (k0_pay8 (k0_pay6 (iblk m c 0 t) (iblk m c 1 t) (iblk m c 2 t)) (k0_pay7 (iblk m c 0 t) (iblk m c 1 t) (iblk m c 2 t)) one)) (k0_pay65 (View.ld (Val := Elt Ideal) (e' := .f32) (iblk m c 3 t) (Rect.unit ![0, 384] ![1, 128] inb_S1x512_S1x128_0_384))) (k0_pay66 (k0_pay8 (k0_pay6 (iblk m c 0 t) (iblk m c 1 t) (iblk m c 2 t)) (k0_pay7 (iblk m c 0 t) (iblk m c 1 t) (iblk m c 2 t)) one))) (k0_pay68 k0_pay15 (View.ld (Val := Elt Ideal) (e' := .f32) (iblk m c 4 t) (Rect.unit ![3, 0, 0] ![1, 128, 128] inb_S4x128x128_S1x128x128_3_0_0))) (View.ld (Val := Elt Ideal) (e' := .f32) (iblk m c 5 t) (Rect.unit ![0, 384] ![128, 128] inb_S128x512_S128x128_0_384)) x = Cert.SguPoolRefIdeal.Pure.REF (aX m c) (aG m c) (aW m c) (aN m c) (aM m c) (aB m c) (aQ m c) (aD m c) (plc t y) := by
  rw [plc_eq t y 2 (x 0) ⟨3 * 128 + (x 1).val, by have := (x 1).isLt; change (x 1).val < 128 at this; omega⟩ h0 h1]
  refine (congrArg _ (eq_ix2 x)).trans ((gate32_at _ _ _ _ (x 0) (x 1)).trans ?_)
  exact Cert.SguPoolRefIdeal.Pure.gate_eq (aX m c) (aG m c) (aW m c) (aN m c) (aM m c) (aB m c) (aQ m c) (aD m c) (pt t) 2 3 (x 0) (x 1) _ _ _ _ (u_at m c t (at4 2 (by decide) (x 0)) (at4 3 (by decide) (x 1)))
    (fun s => m3 m c t (x 0) s) (fun s => n3 m c t (at4 2 (by decide) s) (x 1)) (b3 m c t (x 0) (x 1))

/-- The pooling mixer's tile 2 of group 3. -/
theorem pool32 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 3 k) (t.val * 512 + (256 + j.val))) (hl : ∀ j k, l (ix2 j k) = (0 : EReal))
    (x : S128x128.Idx) (y : S512x1024.Idx) (h0 : (y 0).val = 256 + (x 0).val) (h1 : (y 1).val = 896 + (x 1).val) :
    k0_pay80 (k0_pay70 (View.ld (Val := Elt Ideal) (e' := .bf16) (iblk m c 7 t) (Rect.unit ![3, 0, 0] ![1, 128, 128] inb_S4x128x128_S1x128x128_3_0_0))) (k0_pay79 (BitVec.ofNat 32 (grid0.coords t 0).val) (k0_pay9 (k0_pay4 (iblk m c 0 t) (iblk m c 1 t) (iblk m c 2 t))) io (k0_pay69 (View.ld (Val := Elt Ideal) (e' := .bf16) (iblk m c 6 t) (Rect.unit ![3, 0, 0] ![1, 128, 256] inb_S4x128x256_S1x128x256_3_0_0))) h l) (constant S128x128 .f32 0x00000000#32) (View.ld (Val := Elt Ideal) (e' := .f32) (iblk m c 8 t) (Rect.unit ![0, 384] ![1, 128] inb_S1x512_S1x128_0_384)) x = Cert.SguPoolRefIdeal.Pure.REF (aX m c) (aG m c) (aW m c) (aN m c) (aM m c) (aB m c) (aQ m c) (aD m c) (plc t y) := by
  rw [plc_eq t y 2 (x 0) ⟨512 + (3 * 128 + (x 1).val), by have := (x 1).isLt; change (x 1).val < 128 at this; omega⟩ h0 (by simp only; omega)]
  refine (congrArg _ (eq_ix2 x)).trans ((pool32_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 2 3 (x 0) (x 1)
    _ _ _ _ _ _ _ (fun j => w3 m c t (x 0) j) hh hl
    ((congrArg (fun z => kcnt 16#32 (BitVec.ofNat 32 z) 256#32 (x 0).val) (row t)).trans (kcnt_eq 16 t.val 256 (x 0).val))
    (fun k => p_at m c t (at4 2 (by decide) (x 0)) 3 k) (fun k => q3 m c t k (x 1)) (d3 m c t (x 1))

/-- The gating unit's tile 3 of group 3. -/
theorem gate33 (c : Dev nD) (t : Fin cfg0.N) (x : S128x128.Idx) (y : S512x1024.Idx) (h0 : (y 0).val = 384 + (x 0).val) (h1 : (y 1).val = 384 + (x 1).val) :
    k0_pay81 (k0_pay5 (iblk m c 0 t) (iblk m c 1 t) (iblk m c 2 t)) (k0_pay67 (k0_pay64 (k0_pay8 (k0_pay6 (iblk m c 0 t) (iblk m c 1 t) (iblk m c 2 t)) (k0_pay7 (iblk m c 0 t) (iblk m c 1 t) (iblk m c 2 t)) one)) (k0_pay65 (View.ld (Val := Elt Ideal) (e' := .f32) (iblk m c 3 t) (Rect.unit ![0, 384] ![1, 128] inb_S1x512_S1x128_0_384))) (k0_pay66 (k0_pay8 (k0_pay6 (iblk m c 0 t) (iblk m c 1 t) (iblk m c 2 t)) (k0_pay7 (iblk m c 0 t) (iblk m c 1 t) (iblk m c 2 t)) one))) (k0_pay68 k0_pay15 (View.ld (Val := Elt Ideal) (e' := .f32) (iblk m c 4 t) (Rect.unit ![3, 0, 0] ![1, 128, 128] inb_S4x128x128_S1x128x128_3_0_0))) (View.ld (Val := Elt Ideal) (e' := .f32) (iblk m c 5 t) (Rect.unit ![0, 384] ![128, 128] inb_S128x512_S128x128_0_384)) x = Cert.SguPoolRefIdeal.Pure.REF (aX m c) (aG m c) (aW m c) (aN m c) (aM m c) (aB m c) (aQ m c) (aD m c) (plc t y) := by
  rw [plc_eq t y 3 (x 0) ⟨3 * 128 + (x 1).val, by have := (x 1).isLt; change (x 1).val < 128 at this; omega⟩ h0 h1]
  refine (congrArg _ (eq_ix2 x)).trans ((gate33_at _ _ _ _ (x 0) (x 1)).trans ?_)
  exact Cert.SguPoolRefIdeal.Pure.gate_eq (aX m c) (aG m c) (aW m c) (aN m c) (aM m c) (aB m c) (aQ m c) (aD m c) (pt t) 3 3 (x 0) (x 1) _ _ _ _ (u_at m c t (at4 3 (by decide) (x 0)) (at4 3 (by decide) (x 1)))
    (fun s => m3 m c t (x 0) s) (fun s => n3 m c t (at4 3 (by decide) s) (x 1)) (b3 m c t (x 0) (x 1))

/-- The pooling mixer's tile 3 of group 3. -/
theorem pool33 (c : Dev nD) (hX : Finite (aX m c) (aG m c) (aW m c) (aN m c) (aM m c) (aB m c) (aQ m c) (aD m c)) (t : Fin cfg0.N) (h l : Vec Ideal S256x128 .bf16)
    (hh : ∀ j k, h (ix2 j k) = late (col (aX m c) (aG m c) (aW m c) 3 k) (t.val * 512 + (384 + j.val))) (hl : ∀ j k, l (ix2 j k) = (0 : EReal))
    (x : S128x128.Idx) (y : S512x1024.Idx) (h0 : (y 0).val = 384 + (x 0).val) (h1 : (y 1).val = 896 + (x 1).val) :
    k0_pay1 (k0_pay82 (BitVec.ofNat 32 (grid0.coords t 0).val) (k0_pay9 (k0_pay4 (iblk m c 0 t) (iblk m c 1 t) (iblk m c 2 t))) io (k0_pay69 (View.ld (Val := Elt Ideal) (e' := .bf16) (iblk m c 6 t) (Rect.unit ![3, 0, 0] ![1, 128, 256] inb_S4x128x256_S1x128x256_3_0_0))) (k0_pay70 (View.ld (Val := Elt Ideal) (e' := .bf16) (iblk m c 7 t) (Rect.unit ![3, 0, 0] ![1, 128, 128] inb_S4x128x128_S1x128x128_3_0_0))) h l) (View.ld (Val := Elt Ideal) (e' := .f32) (iblk m c 8 t) (Rect.unit ![0, 384] ![1, 128] inb_S1x512_S1x128_0_384)) x = Cert.SguPoolRefIdeal.Pure.REF (aX m c) (aG m c) (aW m c) (aN m c) (aM m c) (aB m c) (aQ m c) (aD m c) (plc t y) := by
  rw [plc_eq t y 3 (x 0) ⟨512 + (3 * 128 + (x 1).val), by have := (x 1).isLt; change (x 1).val < 128 at this; omega⟩ h0 (by simp only; omega)]
  refine (congrArg _ (eq_ix2 x)).trans ((pool33_at _ _ _ _ _ _ _ (x 0) (x 1)).trans ?_)
  exact Cert.SguPoolRefIdeal.Pure.pool_eq (aX m c) (aG m c) (aW m c) (aN m c) (aM m c) (aB m c) (aQ m c) (aD m c) (col (aX m c) (aG m c) (aW m c)) (col_at _ _ _) (col_real (aX m c) (aG m c) (aW m c) (aN m c) (aM m c) (aB m c) (aQ m c) (aD m c) hX) (pt t) 3 3 (x 0) (x 1)
    _ _ _ _ _ _ _ (fun j => w3 m c t (x 0) j) hh hl
    ((congrArg (fun z => kcnt 16#32 (BitVec.ofNat 32 z) 384#32 (x 0).val) (row t)).trans (kcnt_eq 16 t.val 384 (x 0).val))
    (fun k => p_at m c t (at4 3 (by decide) (x 0)) 3 k) (fun k => q3 m c t k (x 1)) (d3 m c t (x 1))

end Cert.SguPoolIdeal.Value

end
-- ==== Proof.SguPool.First.lean ====
/- The first point's block. -/
module

public import proofs.«01_k».proof.Proof.SguPool.Tiles

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguFinite Cert.SguPoolIdeal Cert.SguPoolIdeal.Gen Cert.SguPoolIdeal.Pure Cert.FfnMath Cert.SguMath

variable (m : (ℓ : Loc nD τ sig) → Buf (Elt Ideal) ℓ)

/-- The block of the first point is the reference's. -/
theorem outA (c : Dev nD) (hX : Finite (aX m c) (aG m c) (aW m c) (aN m c) (aM m c) (aB m c) (aQ m c) (aD m c)) (t : Fin cfg0.N) (h : t.val % 32 = 0) (y : S512x1024.Idx) :
    (outsAt0 m c t.val t.isLt).1 y = Cert.SguPoolRefIdeal.Pure.REF (aX m c) (aG m c) (aW m c) (aN m c) (aM m c) (aB m c) (aQ m c) (aD m c) (plc t y) := by
  rw [outsAt0_A m c t h]; frame_out
  canon_tiles x hx
  · refine pool33 m c hX t _ _ (fun j k => ?_) (fun j k => ?_) x y (by omega) (by omega)
    · exact hi_cov m _ _ _ c t 384 384 (by decide) 3 rfl _ j k fun hj => absurd hj (by omega)
    · exact lo_cov m _ _ _ c hX t 384 384 (by decide) 3 rfl _ j k fun hj => absurd hj (by omega)
  · exact gate33 m c t x y (by omega) (by omega)
  · refine pool32 m c hX t _ _ (fun j k => ?_) (fun j k => ?_) x y (by omega) (by omega)
    · exact hi_cov m _ _ _ c t 256 384 (by decide) 3 rfl _ j k fun hj => absurd hj (by omega)
    · exact lo_cov m _ _ _ c hX t 256 384 (by decide) 3 rfl _ j k fun hj => absurd hj (by omega)
  · exact gate32 m c t x y (by omega) (by omega)
  · refine pool31 m c hX t _ _ (fun j k => ?_) (fun j k => ?_) x y (by omega) (by omega)
    · exact hi_cov m _ _ _ c t 128 384 (by decide) 3 rfl _ j k fun hj => absurd hj (by omega)
    · exact lo_cov m _ _ _ c hX t 128 384 (by decide) 3 rfl _ j k fun hj => absurd hj (by omega)
  · exact gate31 m c t x y (by omega) (by omega)
  · refine pool30 m c hX t _ _ (fun j k => ?_) (fun j k => ?_) x y (by omega) (by omega)
    · exact hi_cov m _ _ _ c t 0 384 (by decide) 3 rfl _ j k fun hj => hi_first m c t h _ 384 3 rfl j k hj
    · exact lo_cov m _ _ _ c hX t 0 384 (by decide) 3 rfl _ j k fun hj => lo_first _ 384 (by decide) j k hj
  · exact gate30 m c t x y (by omega) (by omega)
  · refine pool23 m c hX t _ _ (fun j k => ?_) (fun j k => ?_) x y (by omega) (by omega)
    · exact hi_cov m _ _ _ c t 384 256 (by decide) 2 rfl _ j k fun hj => absurd hj (by omega)
    · exact lo_cov m _ _ _ c hX t 384 256 (by decide) 2 rfl _ j k fun hj => absurd hj (by omega)
  · exact gate23 m c t x y (by omega) (by omega)
  · refine pool22 m c hX t _ _ (fun j k => ?_) (fun j k => ?_) x y (by omega) (by omega)
    · exact hi_cov m _ _ _ c t 256 256 (by decide) 2 rfl _ j k fun hj => absurd hj (by omega)
    · exact lo_cov m _ _ _ c hX t 256 256 (by decide) 2 rfl _ j k fun hj => absurd hj (by omega)
  · exact gate22 m c t x y (by omega) (by omega)
  · refine pool21 m c hX t _ _ (fun j k => ?_) (fun j k => ?_) x y (by omega) (by omega)
    · exact hi_cov m _ _ _ c t 128 256 (by decide) 2 rfl _ j k fun hj => absurd hj (by omega)
    · exact lo_cov m _ _ _ c hX t 128 256 (by decide) 2 rfl _ j k fun hj => absurd hj (by omega)
  · exact gate21 m c t x y (by omega) (by omega)
  · refine pool20 m c hX t _ _ (fun j k => ?_) (fun j k => ?_) x y (by omega) (by omega)
    · exact hi_cov m _ _ _ c t 0 256 (by decide) 2 rfl _ j k fun hj => hi_first m c t h _ 256 2 rfl j k hj
    · exact lo_cov m _ _ _ c hX t 0 256 (by decide) 2 rfl _ j k fun hj => lo_first _ 256 (by decide) j k hj
  · exact gate20 m c t x y (by omega) (by omega)
  · refine pool13 m c hX t _ _ (fun j k => ?_) (fun j k => ?_) x y (by omega) (by omega)
    · exact hi_cov m _ _ _ c t 384 128 (by decide) 1 rfl _ j k fun hj => absurd hj (by omega)
    · exact lo_cov m _ _ _ c hX t 384 128 (by decide) 1 rfl _ j k fun hj => absurd hj (by omega)
  · exact gate13 m c t x y (by omega) (by omega)
  · refine pool12 m c hX t _ _ (fun j k => ?_) (fun j k => ?_) x y (by omega) (by omega)
    · exact hi_cov m _ _ _ c t 256 128 (by decide) 1 rfl _ j k fun hj => absurd hj (by omega)
    · exact lo_cov m _ _ _ c hX t 256 128 (by decide) 1 rfl _ j k fun hj => absurd hj (by omega)
  · exact gate12 m c t x y (by omega) (by omega)
  · refine pool11 m c hX t _ _ (fun j k => ?_) (fun j k => ?_) x y (by omega) (by omega)
    · exact hi_cov m _ _ _ c t 128 128 (by decide) 1 rfl _ j k fun hj => absurd hj (by omega)
    · exact lo_cov m _ _ _ c hX t 128 128 (by decide) 1 rfl _ j k fun hj => absurd hj (by omega)
  · exact gate11 m c t x y (by omega) (by omega)
  · refine pool10 m c hX t _ _ (fun j k => ?_) (fun j k => ?_) x y (by omega) (by omega)
    · exact hi_cov m _ _ _ c t 0 128 (by decide) 1 rfl _ j k fun hj => hi_first m c t h _ 128 1 rfl j k hj
    · exact lo_cov m _ _ _ c hX t 0 128 (by decide) 1 rfl _ j k fun hj => lo_first _ 128 (by decide) j k hj
  · exact gate10 m c t x y (by omega) (by omega)
  · refine pool03 m c hX t _ _ (fun j k => ?_) (fun j k => ?_) x y (by omega) (by omega)
    · exact hi_cov m _ _ _ c t 384 0 (by decide) 0 rfl _ j k fun hj => absurd hj (by omega)
    · exact lo_cov m _ _ _ c hX t 384 0 (by decide) 0 rfl _ j k fun hj => absurd hj (by omega)
  · exact gate03 m c t x y (by omega) (by omega)
  · refine pool02 m c hX t _ _ (fun j k => ?_) (fun j k => ?_) x y (by omega) (by omega)
    · exact hi_cov m _ _ _ c t 256 0 (by decide) 0 rfl _ j k fun hj => absurd hj (by omega)
    · exact lo_cov m _ _ _ c hX t 256 0 (by decide) 0 rfl _ j k fun hj => absurd hj (by omega)
  · exact gate02 m c t x y (by omega) (by omega)
  · refine pool01 m c hX t _ _ (fun j k => ?_) (fun j k => ?_) x y (by omega) (by omega)
    · exact hi_cov m _ _ _ c t 128 0 (by decide) 0 rfl _ j k fun hj => absurd hj (by omega)
    · exact lo_cov m _ _ _ c hX t 128 0 (by decide) 0 rfl _ j k fun hj => absurd hj (by omega)
  · exact gate01 m c t x y (by omega) (by omega)
  · refine pool00 m c hX t _ _ (fun j k => ?_) (fun j k => ?_) x y (by omega) (by omega)
    · exact hi_cov m _ _ _ c t 0 0 (by decide) 0 rfl _ j k fun hj => hi_first m c t h _ 0 0 rfl j k hj
    · exact lo_cov m _ _ _ c hX t 0 0 (by decide) 0 rfl _ j k fun hj => lo_first _ 0 (by decide) j k hj
  · exact gate00 m c t x y (by omega) (by omega)

end Cert.SguPoolIdeal.Value

end
-- ==== Proof.SguPool.Later.lean ====
/- A later point's block. -/
module

public import proofs.«01_k».proof.Proof.SguPool.Tiles

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguFinite Cert.SguPoolIdeal Cert.SguPoolIdeal.Gen Cert.SguPoolIdeal.Pure Cert.FfnMath Cert.SguMath

variable (m : (ℓ : Loc nD τ sig) → Buf (Elt Ideal) ℓ)

/-- The block of a later point is the reference's. -/
theorem outB (c : Dev nD) (hX : Finite (aX m c) (aG m c) (aW m c) (aN m c) (aM m c) (aB m c) (aQ m c) (aD m c)) (t : Fin cfg0.N) (h : ¬ t.val % 32 = 0) (y : S512x1024.Idx) :
    (outsAt0 m c t.val t.isLt).1 y = Cert.SguPoolRefIdeal.Pure.REF (aX m c) (aG m c) (aW m c) (aN m c) (aM m c) (aB m c) (aQ m c) (aD m c) (plc t y) := by
  rw [outsAt0_B m c t h]; frame_out
  canon_tiles x hx
  · refine pool33 m c hX t _ _ (fun j k => ?_) (fun j k => ?_) x y (by omega) (by omega)
    · exact hi_cov m _ _ _ c t 384 384 (by decide) 3 rfl _ j k fun hj => absurd hj (by omega)
    · exact lo_cov m _ _ _ c hX t 384 384 (by decide) 3 rfl _ j k fun hj => absurd hj (by omega)
  · exact gate33 m c t x y (by omega) (by omega)
  · refine pool32 m c hX t _ _ (fun j k => ?_) (fun j k => ?_) x y (by omega) (by omega)
    · exact hi_cov m _ _ _ c t 256 384 (by decide) 3 rfl _ j k fun hj => absurd hj (by omega)
    · exact lo_cov m _ _ _ c hX t 256 384 (by decide) 3 rfl _ j k fun hj => absurd hj (by omega)
  · exact gate32 m c t x y (by omega) (by omega)
  · refine pool31 m c hX t _ _ (fun j k => ?_) (fun j k => ?_) x y (by omega) (by omega)
    · exact hi_cov m _ _ _ c t 128 384 (by decide) 3 rfl _ j k fun hj => absurd hj (by omega)
    · exact lo_cov m _ _ _ c hX t 128 384 (by decide) 3 rfl _ j k fun hj => absurd hj (by omega)
  · exact gate31 m c t x y (by omega) (by omega)
  · refine pool30 m c hX t _ _ (fun j k => ?_) (fun j k => ?_) x y (by omega) (by omega)
    · exact hi_ld m _ _ _ c t 0 384 (by decide) 3 rfl _ j k fun hj => (congrFun (read_unread_whole _ _ _) _).trans (hi_later m c t h _ 384 3 rfl j k hj)
    · exact lo_ld m _ _ _ c hX t 0 384 (by decide) 3 rfl _ j k fun hj => (congrFun (read_unread_whole _ _ _) _).trans (lo_later m c hX t _ 384 3 rfl j k hj)
  · exact gate30 m c t x y (by omega) (by omega)
  · refine pool23 m c hX t _ _ (fun j k => ?_) (fun j k => ?_) x y (by omega) (by omega)
    · exact hi_cov m _ _ _ c t 384 256 (by decide) 2 rfl _ j k fun hj => absurd hj (by omega)
    · exact lo_cov m _ _ _ c hX t 384 256 (by decide) 2 rfl _ j k fun hj => absurd hj (by omega)
  · exact gate23 m c t x y (by omega) (by omega)
  · refine pool22 m c hX t _ _ (fun j k => ?_) (fun j k => ?_) x y (by omega) (by omega)
    · exact hi_cov m _ _ _ c t 256 256 (by decide) 2 rfl _ j k fun hj => absurd hj (by omega)
    · exact lo_cov m _ _ _ c hX t 256 256 (by decide) 2 rfl _ j k fun hj => absurd hj (by omega)
  · exact gate22 m c t x y (by omega) (by omega)
  · refine pool21 m c hX t _ _ (fun j k => ?_) (fun j k => ?_) x y (by omega) (by omega)
    · exact hi_cov m _ _ _ c t 128 256 (by decide) 2 rfl _ j k fun hj => absurd hj (by omega)
    · exact lo_cov m _ _ _ c hX t 128 256 (by decide) 2 rfl _ j k fun hj => absurd hj (by omega)
  · exact gate21 m c t x y (by omega) (by omega)
  · refine pool20 m c hX t _ _ (fun j k => ?_) (fun j k => ?_) x y (by omega) (by omega)
    · exact hi_ld m _ _ _ c t 0 256 (by decide) 2 rfl _ j k fun hj => (congrFun (read_unread_whole _ _ _) _).trans (hi_later m c t h _ 256 2 rfl j k hj)
    · exact lo_ld m _ _ _ c hX t 0 256 (by decide) 2 rfl _ j k fun hj => (congrFun (read_unread_whole _ _ _) _).trans (lo_later m c hX t _ 256 2 rfl j k hj)
  · exact gate20 m c t x y (by omega) (by omega)
  · refine pool13 m c hX t _ _ (fun j k => ?_) (fun j k => ?_) x y (by omega) (by omega)
    · exact hi_cov m _ _ _ c t 384 128 (by decide) 1 rfl _ j k fun hj => absurd hj (by omega)
    · exact lo_cov m _ _ _ c hX t 384 128 (by decide) 1 rfl _ j k fun hj => absurd hj (by omega)
  · exact gate13 m c t x y (by omega) (by omega)
  · refine pool12 m c hX t _ _ (fun j k => ?_) (fun j k => ?_) x y (by omega) (by omega)
    · exact hi_cov m _ _ _ c t 256 128 (by decide) 1 rfl _ j k fun hj => absurd hj (by omega)
    · exact lo_cov m _ _ _ c hX t 256 128 (by decide) 1 rfl _ j k fun hj => absurd hj (by omega)
  · exact gate12 m c t x y (by omega) (by omega)
  · refine pool11 m c hX t _ _ (fun j k => ?_) (fun j k => ?_) x y (by omega) (by omega)
    · exact hi_cov m _ _ _ c t 128 128 (by decide) 1 rfl _ j k fun hj => absurd hj (by omega)
    · exact lo_cov m _ _ _ c hX t 128 128 (by decide) 1 rfl _ j k fun hj => absurd hj (by omega)
  · exact gate11 m c t x y (by omega) (by omega)
  · refine pool10 m c hX t _ _ (fun j k => ?_) (fun j k => ?_) x y (by omega) (by omega)
    · exact hi_ld m _ _ _ c t 0 128 (by decide) 1 rfl _ j k fun hj => (congrFun (read_unread_whole _ _ _) _).trans (hi_later m c t h _ 128 1 rfl j k hj)
    · exact lo_ld m _ _ _ c hX t 0 128 (by decide) 1 rfl _ j k fun hj => (congrFun (read_unread_whole _ _ _) _).trans (lo_later m c hX t _ 128 1 rfl j k hj)
  · exact gate10 m c t x y (by omega) (by omega)
  · refine pool03 m c hX t _ _ (fun j k => ?_) (fun j k => ?_) x y (by omega) (by omega)
    · exact hi_cov m _ _ _ c t 384 0 (by decide) 0 rfl _ j k fun hj => absurd hj (by omega)
    · exact lo_cov m _ _ _ c hX t 384 0 (by decide) 0 rfl _ j k fun hj => absurd hj (by omega)
  · exact gate03 m c t x y (by omega) (by omega)
  · refine pool02 m c hX t _ _ (fun j k => ?_) (fun j k => ?_) x y (by omega) (by omega)
    · exact hi_cov m _ _ _ c t 256 0 (by decide) 0 rfl _ j k fun hj => absurd hj (by omega)
    · exact lo_cov m _ _ _ c hX t 256 0 (by decide) 0 rfl _ j k fun hj => absurd hj (by omega)
  · exact gate02 m c t x y (by omega) (by omega)
  · refine pool01 m c hX t _ _ (fun j k => ?_) (fun j k => ?_) x y (by omega) (by omega)
    · exact hi_cov m _ _ _ c t 128 0 (by decide) 0 rfl _ j k fun hj => absurd hj (by omega)
    · exact lo_cov m _ _ _ c hX t 128 0 (by decide) 0 rfl _ j k fun hj => absurd hj (by omega)
  · exact gate01 m c t x y (by omega) (by omega)
  · refine pool00 m c hX t _ _ (fun j k => ?_) (fun j k => ?_) x y (by omega) (by omega)
    · exact hi_ld m _ _ _ c t 0 0 (by decide) 0 rfl _ j k fun hj => (congrFun (read_unread_whole _ _ _) _).trans (hi_later m c t h _ 0 0 rfl j k hj)
    · exact lo_ld m _ _ _ c hX t 0 0 (by decide) 0 rfl _ j k fun hj => (congrFun (read_unread_whole _ _ _) _).trans (lo_later m c hX t _ 0 0 rfl j k hj)
  · exact gate00 m c t x y (by omega) (by omega)

end Cert.SguPoolIdeal.Value

end
-- ==== Proof.SguPool.Value.lean ====
/- The gating and pooling call's result is the reference's. -/
module

public import proofs.«01_k».proof.Proof.SguPool.First
public import proofs.«01_k».proof.Proof.SguPool.Later

@[expose] public section

set_option maxRecDepth 16384

noncomputable section

open Idealize.ShloMosaic Idealize.ShloMosaic.TcCoe Idealize.SL.Sem
open Idealize.ShloMosaic.Pipeline (Dat)

namespace Cert.SguPoolIdeal.Value

open Cert.SguFinite Cert.SguPoolIdeal Cert.SguPoolIdeal.Gen Cert.SguPoolIdeal.Pure Cert.FfnMath Cert.SguMath

variable (m : (ℓ : Loc nD τ sig) → Buf (Elt Ideal) ℓ)

/-- The call's result is the reference's, where the pooling columns are reals. -/
theorem final (c : Dev nD) (hX : Finite (aX m c) (aG m c) (aW m c) (aN m c) (aM m c) (aB m c) (aQ m c) (aD m c)) : (dats m 0 c).arrAt 9 (cfgs 0).N = Cert.SguPoolRefIdeal.Pure.REF (aX m c) (aG m c) (aW m c) (aN m c) (aM m c) (aB m c) (aQ m c) (aD m c) := by
  refine (dats m 0 c).arrAt_eq_of_covers 9 _ (by decide +kernel) fun t hf y => ?_
  blk_simp
  rw [after0_9]
  have he : ((View.whole main_v68).slice (win0_9.rect t)).emb y = (plc t y : S16384x1024.Idx) := by
    blk_ext [idx t, plc]
  rw [he]
  by_cases h : t.val % 32 = 0
  · exact outA m c hX t h y
  · exact outB m c hX t h y

end Cert.SguPoolIdeal.Value

end
-- ==== Proof.lean ====
/- The claim: the frames of the six calls and of their references, the idealizations, and the equalities of results. -/
module

public import proofs.«01_k».proof.Defs
public import proofs.«01_k».proof.Proof.AttnIdeal.Value
public import proofs.«01_k».proof.Proof.Attn.Run
public import proofs.«01_k».proof.Proof.AttnIdeal.Run
public import proofs.«01_k».proof.Proof.Gen.AttnRefIdeal.Run
public import proofs.«01_k».proof.Proof.Gen.Ffn.Frame
public import proofs.«01_k».proof.Proof.Ffn.Value
public import proofs.«01_k».proof.Proof.Gen.FfnRefIdeal.Run
public import proofs.«01_k».proof.Proof.Gen.FfnLast.Frame
public import proofs.«01_k».proof.Proof.FfnLast.Value
public import proofs.«01_k».proof.Proof.Gen.FfnLastRefIdeal.Run
public import proofs.«01_k».proof.Proof.Gen.Qkv.Frame
public import proofs.«01_k».proof.Proof.Qkv.Value
public import proofs.«01_k».proof.Proof.Gen.QkvRefIdeal.Run
public import proofs.«01_k».proof.Proof.Gen.OutProj.Frame
public import proofs.«01_k».proof.Proof.OutProj.Value
public import proofs.«01_k».proof.Proof.Gen.OutProjRefIdeal.Run
public import proofs.«01_k».proof.Proof.Gen.SguPool.Frame
public import proofs.«01_k».proof.Proof.SguPool.Value
public import proofs.«01_k».proof.Proof.Gen.SguPoolRefIdeal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The attention, as printed, terminates without fault, keeps its arguments and ends with every counter zero. -/
theorem frame_Attn : Cert.quiescent_Attn := fun m g _ => Cert.Attn.Hand.frame m g

/-- The attention, idealized, terminates without fault, keeps its arguments and ends with every counter zero. -/
theorem frame_AttnIdeal : Cert.quiescent_AttnIdeal := fun m g _ => Cert.AttnIdeal.Hand.frame m g

/-- The reference of the attention terminates without fault, keeps its arguments and ends with every counter zero. -/
theorem frame_AttnRefIdeal : Cert.quiescent_AttnRefIdeal := fun m g _ =>
  (θ_run _ _ _).mono (fun r h => ⟨fun c => (h c).2, sem_eq_zero_of_no_sems (by decide) r.2⟩) (Cert.AttnRefIdeal.Value.run m g)

/-- The feed-forward block, as printed, terminates without fault, keeps its arguments and ends with every counter zero. -/
theorem frame_Ffn : Cert.quiescent_Ffn := fun m g _ => Cert.Ffn.Gen.frame m g

/-- The feed-forward block, idealized, terminates without fault, keeps its arguments and ends with every counter zero. -/
theorem frame_FfnIdeal : Cert.quiescent_FfnIdeal := fun m g _ => Cert.FfnIdeal.Gen.frame m g

/-- The reference of the feed-forward block terminates without fault, keeps its arguments and ends with every counter zero. -/
theorem frame_FfnRefIdeal : Cert.quiescent_FfnRefIdeal := fun m g _ =>
  (θ_run _ _ _).mono (fun r h => ⟨fun c => (h c).2, sem_eq_zero_of_no_sems (by decide) r.2⟩) (Cert.FfnRefIdeal.Value.run m g)

/-- The feed-forward block with the closing normalization, as printed, terminates without fault, keeps its arguments and ends with every counter zero. -/
theorem frame_FfnLast : Cert.quiescent_FfnLast := fun m g _ => Cert.FfnLast.Gen.frame m g

/-- The feed-forward block with the closing normalization, idealized, terminates without fault, keeps its arguments and ends with every counter zero. -/
theorem frame_FfnLastIdeal : Cert.quiescent_FfnLastIdeal := fun m g _ => Cert.FfnLastIdeal.Gen.frame m g

/-- The reference of the feed-forward block with the closing normalization terminates without fault, keeps its arguments and ends with every counter zero. -/
theorem frame_FfnLastRefIdeal : Cert.quiescent_FfnLastRefIdeal := fun m g _ =>
  (θ_run _ _ _).mono (fun r h => ⟨fun c => (h c).2, sem_eq_zero_of_no_sems (by decide) r.2⟩) (Cert.FfnLastRefIdeal.Value.run m g)

/-- The projection to queries, keys and values, as printed, terminates without fault, keeps its arguments and ends with every counter zero. -/
theorem frame_Qkv : Cert.quiescent_Qkv := fun m g _ => Cert.Qkv.Gen.frame m g

/-- The projection to queries, keys and values, idealized, terminates without fault, keeps its arguments and ends with every counter zero. -/
theorem frame_QkvIdeal : Cert.quiescent_QkvIdeal := fun m g _ => Cert.QkvIdeal.Gen.frame m g

/-- The reference of the projection to queries, keys and values terminates without fault, keeps its arguments and ends with every counter zero. -/
theorem frame_QkvRefIdeal : Cert.quiescent_QkvRefIdeal := fun m g _ =>
  (θ_run _ _ _).mono (fun r h => ⟨fun c => (h c).2, sem_eq_zero_of_no_sems (by decide) r.2⟩) (Cert.QkvRefIdeal.Value.run m g)

/-- The output projection, as printed, terminates without fault, keeps its arguments and ends with every counter zero. -/
theorem frame_OutProj : Cert.quiescent_OutProj := fun m g _ => Cert.OutProj.Gen.frame m g

/-- The output projection, idealized, terminates without fault, keeps its arguments and ends with every counter zero. -/
theorem frame_OutProjIdeal : Cert.quiescent_OutProjIdeal := fun m g _ => Cert.OutProjIdeal.Gen.frame m g

/-- The reference of the output projection terminates without fault, keeps its arguments and ends with every counter zero. -/
theorem frame_OutProjRefIdeal : Cert.quiescent_OutProjRefIdeal := fun m g _ =>
  (θ_run _ _ _).mono (fun r h => ⟨fun c => (h c).2, sem_eq_zero_of_no_sems (by decide) r.2⟩) (Cert.OutProjRefIdeal.Value.run m g)

/-- The gating unit and pooling mixer, as printed, terminates without fault, keeps its arguments and ends with every counter zero. -/
theorem frame_SguPool : Cert.quiescent_SguPool := fun m g _ => Cert.SguPool.Gen.frame m g

/-- The gating unit and pooling mixer, idealized, terminates without fault, keeps its arguments and ends with every counter zero. -/
theorem frame_SguPoolIdeal : Cert.quiescent_SguPoolIdeal := fun m g _ => Cert.SguPoolIdeal.Gen.frame m g

/-- The reference of the gating unit and pooling mixer terminates without fault, keeps its arguments and ends with every counter zero. -/
theorem frame_SguPoolRefIdeal : Cert.quiescent_SguPoolRefIdeal := fun m g _ =>
  (θ_run _ _ _).mono (fun r h => ⟨fun c => (h c).2, sem_eq_zero_of_no_sems (by decide) r.2⟩) (Cert.SguPoolRefIdeal.Value.run m g)

/-- The one rewritten constant of the attention is the bound below which it stops, read as minus infinity. -/
theorem preserves_Attn : Cert.preserves_Attn_AttnIdeal :=
  IdealRules.named_const.statement Cert.AttnIdeal.κ "log_zero" .f32 0xC2D00000#32 ⊥ rfl

/-- The idealized attention and its reference end with equal results. -/
theorem value_Attn : Cert.algebraic_AttnIdeal_AttnRefIdeal := by
  intro m g m' g' _ hagree
  refine ⟨fun c => (Cert.AttnIdeal.Hand.dats m 0 c).arrAt 4 (Cert.AttnIdeal.cfgs (F := Ideal) 0).N, ?_, ?_⟩
  · exact (θ_run _ _ _).mono (fun r h c => ⟨(h.1 c).1 4, h.2 c⟩)
      (θ_run_and (Cert.AttnIdeal.Hand.run_main m g) (Cert.AttnIdeal.Hand.unchanged m g))
  · refine (θ_run _ _ _).mono (fun r h c => ?_) (Cert.AttnRefIdeal.Value.run m' g')
    obtain ⟨h0, h1⟩ := h c
    refine ⟨h0.trans (Eq.trans (b := Cert.AttnRefIdeal.Pure.REF (m' ((c.tc : Thread Cert.AttnRefIdeal.nD Cert.AttnRefIdeal.τ).loc Cert.AttnRefIdeal.main_arg0))) rfl ?_), h1⟩
    rw [hagree c]
    exact (Cert.AttnIdeal.Value.final m c).symm

/-- The idealized feed-forward block and its reference end with equal results. -/
theorem value_Ffn : Cert.algebraic_FfnIdeal_FfnRefIdeal := by
  intro m g m' g' _ hagree
  refine ⟨fun c => (Cert.FfnIdeal.Gen.dats m 0 c).arrAt 6 (Cert.FfnIdeal.cfgs 0).N, ?_, ?_⟩
  · exact (θ_run _ _ _).mono (fun r h c => ⟨(h.1 c).1 6, h.2 c⟩)
      (θ_run_and (Cert.FfnIdeal.Gen.run_main m g) (Cert.FfnIdeal.Gen.unchanged m g))
  · refine (θ_run _ _ _).mono (fun r h c => ?_) (Cert.FfnRefIdeal.Value.run m' g')
    obtain ⟨h0, h1, h2, h3, h4⟩ := h c
    obtain ⟨a0, a1, a2, a3⟩ := hagree c
    refine ⟨h0.trans (Eq.trans (b := Cert.FfnRefIdeal.Pure.REF (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))) rfl ?_), h1, h2, h3, h4⟩
    rw [a0, a1, a2, a3]
    exact (Cert.FfnIdeal.Value.final m c).symm

/-- The idealized feed-forward block with the closing normalization and its reference end with equal results. -/
theorem value_FfnLast : Cert.algebraic_FfnLastIdeal_FfnLastRefIdeal := by
  intro m g m' g' _ hagree
  refine ⟨fun c => (Cert.FfnLastIdeal.Gen.dats m 0 c).arrAt 6 (Cert.FfnLastIdeal.cfgs 0).N, ?_, ?_⟩
  · exact (θ_run _ _ _).mono (fun r h c => ⟨(h.1 c).1 6, h.2 c⟩)
      (θ_run_and (Cert.FfnLastIdeal.Gen.run_main m g) (Cert.FfnLastIdeal.Gen.unchanged m g))
  · refine (θ_run _ _ _).mono (fun r h c => ?_) (Cert.FfnLastRefIdeal.Value.run m' g')
    obtain ⟨h0, h1, h2, h3, h4, h5⟩ := h c
    obtain ⟨a0, a1, a2, a3, a4⟩ := hagree c
    refine ⟨h0.trans (Eq.trans (b := Cert.FfnRefIdeal.Pure.LAST (m' ((c.tc : Thread Cert.FfnLastRefIdeal.nD Cert.FfnLastRefIdeal.τ).loc Cert.FfnLastRefIdeal.main_arg0)) (m' ((c.tc : Thread Cert.FfnLastRefIdeal.nD Cert.FfnLastRefIdeal.τ).loc Cert.FfnLastRefIdeal.main_arg1)) (m' ((c.tc : Thread Cert.FfnLastRefIdeal.nD Cert.FfnLastRefIdeal.τ).loc Cert.FfnLastRefIdeal.main_arg2)) (m' ((c.tc : Thread Cert.FfnLastRefIdeal.nD Cert.FfnLastRefIdeal.τ).loc Cert.FfnLastRefIdeal.main_arg3)) (m' ((c.tc : Thread Cert.FfnLastRefIdeal.nD Cert.FfnLastRefIdeal.τ).loc Cert.FfnLastRefIdeal.main_arg4))) rfl ?_), h1, h2, h3, h4, h5⟩
    rw [a0, a1, a2, a3, a4]
    exact (Cert.FfnLastIdeal.Value.final m c).symm

/-- The idealized projection to queries, keys and values and its reference end with equal results. -/
theorem value_Qkv : Cert.algebraic_QkvIdeal_QkvRefIdeal := by
  intro m g m' g' _ hagree
  refine ⟨fun c => (Cert.QkvIdeal.Gen.dats m 0 c).arrAt 3 (Cert.QkvIdeal.cfgs 0).N, ?_, ?_⟩
  · exact (θ_run _ _ _).mono (fun r h c => ⟨(h.1 c).1 3, h.2 c⟩)
      (θ_run_and (Cert.QkvIdeal.Gen.run_main m g) (Cert.QkvIdeal.Gen.unchanged m g))
  · refine (θ_run _ _ _).mono (fun r h c => ?_) (Cert.QkvRefIdeal.Value.run m' g')
    obtain ⟨h0, h1, h2, h3⟩ := h c
    obtain ⟨a0, a1, a2⟩ := hagree c
    refine ⟨h0.trans (Eq.trans (b := Cert.QkvRefIdeal.Pure.REF (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2))) rfl ?_), h1, h2, h3⟩
    rw [a0, a1, a2]
    exact (Cert.QkvIdeal.Value.final m c).symm

/-- The idealized output projection and its reference end with equal results. -/
theorem value_OutProj : Cert.algebraic_OutProjIdeal_OutProjRefIdeal := by
  intro m g m' g' _ hagree
  refine ⟨fun c => (Cert.OutProjIdeal.Gen.dats m 0 c).arrAt 5 (Cert.OutProjIdeal.cfgs 0).N, ?_, ?_⟩
  · exact (θ_run _ _ _).mono (fun r h c => ⟨(h.1 c).1 5, h.2 c⟩)
      (θ_run_and (Cert.OutProjIdeal.Gen.run_main m g) (Cert.OutProjIdeal.Gen.unchanged m g))
  · refine (θ_run _ _ _).mono (fun r h c => ?_) (Cert.OutProjRefIdeal.Value.run m' g')
    obtain ⟨h0, h1, h2, h3, h4⟩ := h c
    obtain ⟨a0, a1, a2, a3⟩ := hagree c
    refine ⟨h0.trans (Eq.trans (b := Cert.OutProjIdeal.Value.REF (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3))) rfl ?_), h1, h2, h3, h4⟩
    rw [a0, a1, a2, a3]
    exact (Cert.OutProjIdeal.Value.final m c).symm

/-- The idealized gating unit and pooling mixer and its reference end with equal results, where the pooling columns' weights and the norm's gain are reals. -/
theorem value_SguPool : Cert.algebraic_SguPoolIdeal_SguPoolRefIdeal_pre_finite_pool := by
  intro m g m' g' hpre hagree
  refine ⟨fun c => (Cert.SguPoolIdeal.Gen.dats m 0 c).arrAt 9 (Cert.SguPoolIdeal.cfgs 0).N, ?_, ?_⟩
  · exact (θ_run _ _ _).mono (fun r h c => ⟨(h.1 c).1 9, h.2 c⟩)
      (θ_run_and (Cert.SguPoolIdeal.Gen.run_main m g) (Cert.SguPoolIdeal.Gen.unchanged m g))
  · refine (θ_run _ _ _).mono (fun r h c => ?_) (Cert.SguPoolRefIdeal.Value.run m' g')
    obtain ⟨h0, h1, h2, h3, h4, h5, h6, h7, h8⟩ := h c
    obtain ⟨a0, a1, a2, a3, a4, a5, a6, a7⟩ := hagree c
    refine ⟨h0.trans (Eq.trans (b := Cert.SguPoolRefIdeal.Pure.REF (m' ((c.tc : Thread Cert.SguPoolRefIdeal.nD Cert.SguPoolRefIdeal.τ).loc Cert.SguPoolRefIdeal.main_arg0)) (m' ((c.tc : Thread Cert.SguPoolRefIdeal.nD Cert.SguPoolRefIdeal.τ).loc Cert.SguPoolRefIdeal.main_arg1)) (m' ((c.tc : Thread Cert.SguPoolRefIdeal.nD Cert.SguPoolRefIdeal.τ).loc Cert.SguPoolRefIdeal.main_arg2)) (m' ((c.tc : Thread Cert.SguPoolRefIdeal.nD Cert.SguPoolRefIdeal.τ).loc Cert.SguPoolRefIdeal.main_arg3)) (m' ((c.tc : Thread Cert.SguPoolRefIdeal.nD Cert.SguPoolRefIdeal.τ).loc Cert.SguPoolRefIdeal.main_arg4)) (m' ((c.tc : Thread Cert.SguPoolRefIdeal.nD Cert.SguPoolRefIdeal.τ).loc Cert.SguPoolRefIdeal.main_arg5)) (m' ((c.tc : Thread Cert.SguPoolRefIdeal.nD Cert.SguPoolRefIdeal.τ).loc Cert.SguPoolRefIdeal.main_arg6)) (m' ((c.tc : Thread Cert.SguPoolRefIdeal.nD Cert.SguPoolRefIdeal.τ).loc Cert.SguPoolRefIdeal.main_arg7))) rfl ?_), h1, h2, h3, h4, h5, h6, h7, h8⟩
    rw [a0, a1, a2, a3, a4, a5, a6, a7]
    exact (Cert.SguPoolIdeal.Value.final m c (hpre c)).symm

/-- Everything claimed. -/
theorem claim : Cert.Claim :=
  ⟨Cert.Attn.Gen.facts,
    Cert.AttnIdeal.Gen.facts,
    Cert.AttnRefIdeal.Gen.facts,
    Cert.Ffn.Gen.facts,
    Cert.FfnIdeal.Gen.facts,
    Cert.FfnRefIdeal.Gen.facts,
    Cert.FfnLast.Gen.facts,
    Cert.FfnLastIdeal.Gen.facts,
    Cert.FfnLastRefIdeal.Gen.facts,
    Cert.Qkv.Gen.facts,
    Cert.QkvIdeal.Gen.facts,
    Cert.QkvRefIdeal.Gen.facts,
    Cert.OutProj.Gen.facts,
    Cert.OutProjIdeal.Gen.facts,
    Cert.OutProjRefIdeal.Gen.facts,
    Cert.SguPool.Gen.facts,
    Cert.SguPoolIdeal.Gen.facts,
    Cert.SguPoolRefIdeal.Gen.facts,
    Cert.SguFinite.facts,
    frame_Attn,
    frame_AttnIdeal,
    frame_AttnRefIdeal,
    frame_Ffn,
    frame_FfnIdeal,
    frame_FfnRefIdeal,
    frame_FfnLast,
    frame_FfnLastIdeal,
    frame_FfnLastRefIdeal,
    frame_Qkv,
    frame_QkvIdeal,
    frame_QkvRefIdeal,
    frame_OutProj,
    frame_OutProjIdeal,
    frame_OutProjRefIdeal,
    frame_SguPool,
    frame_SguPoolIdeal,
    fun m g h => frame_SguPoolIdeal m g trivial,
    frame_SguPoolRefIdeal,
    fun m g h => frame_SguPoolRefIdeal m g trivial,
    preserves_Attn,
    value_Attn,
    trivial,
    value_Ffn,
    trivial,
    value_FfnLast,
    trivial,
    value_Qkv,
    trivial,
    value_OutProj,
    trivial,
    value_SguPool⟩

end Cert.Proof

end
